-- ==== Defs.lean ====
def Pre_Kernel (m : (ℓ : Loc Cert.Kernel.nD Cert.Kernel.τ Cert.Kernel.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mixin (m : (ℓ : Loc Cert.Mixin.nD Cert.Mixin.τ Cert.Mixin.sig) → Buf (Elt Bits) ℓ) : Prop :=
  True

def Pre_MixinIdeal (m : (ℓ : Loc Cert.MixinIdeal.nD Cert.MixinIdeal.τ Cert.MixinIdeal.sig) → Buf (Elt Ideal) ℓ) : Prop :=
  True

def Pre_MixinRefIdeal (m : (ℓ : Loc Cert.MixinRefIdeal.nD Cert.MixinRefIdeal.τ Cert.MixinRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Mixin [hMixin : Cert.Mixin.Facts] : Prop :=
  ∀ (m : (ℓ : Loc Cert.Mixin.nD Cert.Mixin.τ Cert.Mixin.sig) → Buf (Elt Bits) ℓ) (g : Dev Cert.Mixin.nD → PrngReg), Pre_Mixin m →
    θ_run (Cert.Mixin.defs (F := Bits)) (onTc (τ := Cert.Mixin.τ) (Cert.Mixin.main (F := Bits))) ⟨m, fun _ => 0, g⟩ (fun r => (∀ c : Dev Cert.Mixin.nD,
      r.2.mem ((c.tc : Thread Cert.Mixin.nD Cert.Mixin.τ).loc Cert.Mixin.main_arg0) = m ((c.tc : Thread Cert.Mixin.nD Cert.Mixin.τ).loc Cert.Mixin.main_arg0)
      ∧ r.2.mem ((c.tc : Thread Cert.Mixin.nD Cert.Mixin.τ).loc Cert.Mixin.main_arg1) = m ((c.tc : Thread Cert.Mixin.nD Cert.Mixin.τ).loc Cert.Mixin.main_arg1)
      ∧ r.2.mem ((c.tc : Thread Cert.Mixin.nD Cert.Mixin.τ).loc Cert.Mixin.main_arg2) = m ((c.tc : Thread Cert.Mixin.nD Cert.Mixin.τ).loc Cert.Mixin.main_arg2)
      ∧ r.2.mem ((c.tc : Thread Cert.Mixin.nD Cert.Mixin.τ).loc Cert.Mixin.main_arg3) = m ((c.tc : Thread Cert.Mixin.nD Cert.Mixin.τ).loc Cert.Mixin.main_arg3)
      ∧ r.2.mem ((c.tc : Thread Cert.Mixin.nD Cert.Mixin.τ).loc Cert.Mixin.main_arg4) = m ((c.tc : Thread Cert.Mixin.nD Cert.Mixin.τ).loc Cert.Mixin.main_arg4)
      ∧ r.2.mem ((c.tc : Thread Cert.Mixin.nD Cert.Mixin.τ).loc Cert.Mixin.main_arg5) = m ((c.tc : Thread Cert.Mixin.nD Cert.Mixin.τ).loc Cert.Mixin.main_arg5)
      ∧ r.2.mem ((c.tc : Thread Cert.Mixin.nD Cert.Mixin.τ).loc Cert.Mixin.main_arg6) = m ((c.tc : Thread Cert.Mixin.nD Cert.Mixin.τ).loc Cert.Mixin.main_arg6))
      ∧ r.2.sem = fun _ => 0)

def quiescent_MixinIdeal [hMixinIdeal : Cert.MixinIdeal.Facts] : Prop :=
  ∀ (m : (ℓ : Loc Cert.MixinIdeal.nD Cert.MixinIdeal.τ Cert.MixinIdeal.sig) → Buf (Elt Ideal) ℓ) (g : Dev Cert.MixinIdeal.nD → PrngReg), Pre_MixinIdeal m →
    θ_run (Cert.MixinIdeal.defs (F := Ideal)) (onTc (τ := Cert.MixinIdeal.τ) (Cert.MixinIdeal.main (F := Ideal))) ⟨m, fun _ => 0, g⟩ (fun r => (∀ c : Dev Cert.MixinIdeal.nD,
      r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
      ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1)
      ∧ r.2.mem ((c.tc : Thread Cert.MixinIdeal.nD Cert.MixinIdeal.τ).loc Cert.MixinIdeal.main_arg2) = m ((c.tc : Thread Cert.MixinIdeal.nD Cert.MixinIdeal.τ).loc Cert.MixinIdeal.main_arg2)
      ∧ r.2.mem ((c.tc : Thread Cert.MixinIdeal.nD Cert.MixinIdeal.τ).loc Cert.MixinIdeal.main_arg3) = m ((c.tc : Thread Cert.MixinIdeal.nD Cert.MixinIdeal.τ).loc Cert.MixinIdeal.main_arg3)
      ∧ r.2.mem ((c.tc : Thread Cert.MixinIdeal.nD Cert.MixinIdeal.τ).loc Cert.MixinIdeal.main_arg4) = m ((c.tc : Thread Cert.MixinIdeal.nD Cert.MixinIdeal.τ).loc Cert.MixinIdeal.main_arg4)
      ∧ r.2.mem ((c.tc : Thread Cert.MixinIdeal.nD Cert.MixinIdeal.τ).loc Cert.MixinIdeal.main_arg5) = m ((c.tc : Thread Cert.MixinIdeal.nD Cert.MixinIdeal.τ).loc Cert.MixinIdeal.main_arg5)
      ∧ r.2.mem ((c.tc : Thread Cert.MixinIdeal.nD Cert.MixinIdeal.τ).loc Cert.MixinIdeal.main_arg6) = m ((c.tc : Thread Cert.MixinIdeal.nD Cert.MixinIdeal.τ).loc Cert.MixinIdeal.main_arg6))
      ∧ r.2.sem = fun _ => 0)

def quiescent_MixinRefIdeal [hMixinRefIdeal : Cert.MixinRefIdeal.Facts] : Prop :=
  ∀ (m : (ℓ : Loc Cert.MixinRefIdeal.nD Cert.MixinRefIdeal.τ Cert.MixinRefIdeal.sig) → Buf (Elt Ideal) ℓ) (g : Dev Cert.MixinRefIdeal.nD → PrngReg), Pre_MixinRefIdeal m →
    θ_run (Cert.MixinRefIdeal.defs (F := Ideal)) (onTc (τ := Cert.MixinRefIdeal.τ) (Cert.MixinRefIdeal.main (F := Ideal))) ⟨m, fun _ => 0, g⟩ (fun r => (∀ c : Dev Cert.MixinRefIdeal.nD,
      r.2.mem ((c.tc : Thread Cert.MixinRefIdeal.nD Cert.MixinRefIdeal.τ).loc Cert.MixinRefIdeal.main_arg0) = m ((c.tc : Thread Cert.MixinRefIdeal.nD Cert.MixinRefIdeal.τ).loc Cert.MixinRefIdeal.main_arg0)
      ∧ r.2.mem ((c.tc : Thread Cert.MixinRefIdeal.nD Cert.MixinRefIdeal.τ).loc Cert.MixinRefIdeal.main_arg1) = m ((c.tc : Thread Cert.MixinRefIdeal.nD Cert.MixinRefIdeal.τ).loc Cert.MixinRefIdeal.main_arg1)
      ∧ r.2.mem ((c.tc : Thread Cert.MixinRefIdeal.nD Cert.MixinRefIdeal.τ).loc Cert.MixinRefIdeal.main_arg2) = m ((c.tc : Thread Cert.MixinRefIdeal.nD Cert.MixinRefIdeal.τ).loc Cert.MixinRefIdeal.main_arg2)
      ∧ r.2.mem ((c.tc : Thread Cert.MixinRefIdeal.nD Cert.MixinRefIdeal.τ).loc Cert.MixinRefIdeal.main_arg3) = m ((c.tc : Thread Cert.MixinRefIdeal.nD Cert.MixinRefIdeal.τ).loc Cert.MixinRefIdeal.main_arg3)
      ∧ r.2.mem ((c.tc : Thread Cert.MixinRefIdeal.nD Cert.MixinRefIdeal.τ).loc Cert.MixinRefIdeal.main_arg4) = m ((c.tc : Thread Cert.MixinRefIdeal.nD Cert.MixinRefIdeal.τ).loc Cert.MixinRefIdeal.main_arg4)
      ∧ r.2.mem ((c.tc : Thread Cert.MixinRefIdeal.nD Cert.MixinRefIdeal.τ).loc Cert.MixinRefIdeal.main_arg5) = m ((c.tc : Thread Cert.MixinRefIdeal.nD Cert.MixinRefIdeal.τ).loc Cert.MixinRefIdeal.main_arg5)
      ∧ r.2.mem ((c.tc : Thread Cert.MixinRefIdeal.nD Cert.MixinRefIdeal.τ).loc Cert.MixinRefIdeal.main_arg6) = m ((c.tc : Thread Cert.MixinRefIdeal.nD Cert.MixinRefIdeal.τ).loc Cert.MixinRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v49) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v58) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Mixin_MixinIdeal : Prop :=
  True

def algebraic_MixinIdeal_MixinRefIdeal [hMixinIdeal : Cert.MixinIdeal.Facts] [hMixinRefIdeal : Cert.MixinRefIdeal.Facts] : Prop :=
  ∀ (m : (ℓ : Loc Cert.MixinIdeal.nD Cert.MixinIdeal.τ Cert.MixinIdeal.sig) → Buf (Elt Ideal) ℓ) (g : Dev Cert.MixinIdeal.nD → PrngReg)
    (m' : (ℓ : Loc Cert.MixinRefIdeal.nD Cert.MixinRefIdeal.τ Cert.MixinRefIdeal.sig) → Buf (Elt Ideal) ℓ) (g' : Dev Cert.MixinRefIdeal.nD → PrngReg), Pre_MixinIdeal m →
    (∀ c : Dev Cert.MixinIdeal.nD,
      m' ((c.tc : Thread Cert.MixinRefIdeal.nD Cert.MixinRefIdeal.τ).loc Cert.MixinRefIdeal.main_arg0) = m ((c.tc : Thread Cert.MixinIdeal.nD Cert.MixinIdeal.τ).loc Cert.MixinIdeal.main_arg0)
      ∧ m' ((c.tc : Thread Cert.MixinRefIdeal.nD Cert.MixinRefIdeal.τ).loc Cert.MixinRefIdeal.main_arg1) = m ((c.tc : Thread Cert.MixinIdeal.nD Cert.MixinIdeal.τ).loc Cert.MixinIdeal.main_arg1)
      ∧ m' ((c.tc : Thread Cert.MixinRefIdeal.nD Cert.MixinRefIdeal.τ).loc Cert.MixinRefIdeal.main_arg2) = m ((c.tc : Thread Cert.MixinIdeal.nD Cert.MixinIdeal.τ).loc Cert.MixinIdeal.main_arg2)
      ∧ m' ((c.tc : Thread Cert.MixinRefIdeal.nD Cert.MixinRefIdeal.τ).loc Cert.MixinRefIdeal.main_arg3) = m ((c.tc : Thread Cert.MixinIdeal.nD Cert.MixinIdeal.τ).loc Cert.MixinIdeal.main_arg3)
      ∧ m' ((c.tc : Thread Cert.MixinRefIdeal.nD Cert.MixinRefIdeal.τ).loc Cert.MixinRefIdeal.main_arg4) = m ((c.tc : Thread Cert.MixinIdeal.nD Cert.MixinIdeal.τ).loc Cert.MixinIdeal.main_arg4)
      ∧ m' ((c.tc : Thread Cert.MixinRefIdeal.nD Cert.MixinRefIdeal.τ).loc Cert.MixinRefIdeal.main_arg5) = m ((c.tc : Thread Cert.MixinIdeal.nD Cert.MixinIdeal.τ).loc Cert.MixinIdeal.main_arg5)
      ∧ m' ((c.tc : Thread Cert.MixinRefIdeal.nD Cert.MixinRefIdeal.τ).loc Cert.MixinRefIdeal.main_arg6) = m ((c.tc : Thread Cert.MixinIdeal.nD Cert.MixinIdeal.τ).loc Cert.MixinIdeal.main_arg6)) →
    ∃ (v0 : (c : Dev Cert.MixinIdeal.nD) → Buf (Elt Ideal) ((c.tc : Thread Cert.MixinIdeal.nD Cert.MixinIdeal.τ).loc Cert.MixinIdeal.main_v42_0)) (v1 : (c : Dev Cert.MixinIdeal.nD) → Buf (Elt Ideal) ((c.tc : Thread Cert.MixinIdeal.nD Cert.MixinIdeal.τ).loc Cert.MixinIdeal.main_v42_1)) (v2 : (c : Dev Cert.MixinIdeal.nD) → Buf (Elt Ideal) ((c.tc : Thread Cert.MixinIdeal.nD Cert.MixinIdeal.τ).loc Cert.MixinIdeal.main_v42_2)) (v3 : (c : Dev Cert.MixinIdeal.nD) → Buf (Elt Ideal) ((c.tc : Thread Cert.MixinIdeal.nD Cert.MixinIdeal.τ).loc Cert.MixinIdeal.main_v42_3)) (v4 : (c : Dev Cert.MixinIdeal.nD) → Buf (Elt Ideal) ((c.tc : Thread Cert.MixinIdeal.nD Cert.MixinIdeal.τ).loc Cert.MixinIdeal.main_v42_4)) (v5 : (c : Dev Cert.MixinIdeal.nD) → Buf (Elt Ideal) ((c.tc : Thread Cert.MixinIdeal.nD Cert.MixinIdeal.τ).loc Cert.MixinIdeal.main_v42_5)) (v6 : (c : Dev Cert.MixinIdeal.nD) → Buf (Elt Ideal) ((c.tc : Thread Cert.MixinIdeal.nD Cert.MixinIdeal.τ).loc Cert.MixinIdeal.main_v42_6)) (v7 : (c : Dev Cert.MixinIdeal.nD) → Buf (Elt Ideal) ((c.tc : Thread Cert.MixinIdeal.nD Cert.MixinIdeal.τ).loc Cert.MixinIdeal.main_v42_7)) (v8 : (c : Dev Cert.MixinIdeal.nD) → Buf (Elt Ideal) ((c.tc : Thread Cert.MixinIdeal.nD Cert.MixinIdeal.τ).loc Cert.MixinIdeal.main_v42_8)) (v9 : (c : Dev Cert.MixinIdeal.nD) → Buf (Elt Ideal) ((c.tc : Thread Cert.MixinIdeal.nD Cert.MixinIdeal.τ).loc Cert.MixinIdeal.main_v42_9)) (v10 : (c : Dev Cert.MixinIdeal.nD) → Buf (Elt Ideal) ((c.tc : Thread Cert.MixinIdeal.nD Cert.MixinIdeal.τ).loc Cert.MixinIdeal.main_v42_10)) (v11 : (c : Dev Cert.MixinIdeal.nD) → Buf (Elt Ideal) ((c.tc : Thread Cert.MixinIdeal.nD Cert.MixinIdeal.τ).loc Cert.MixinIdeal.main_v42_11)),
      θ_run (Cert.MixinIdeal.defs (F := Ideal)) (onTc (τ := Cert.MixinIdeal.τ) (Cert.MixinIdeal.main (F := Ideal))) ⟨m, fun _ => 0, g⟩ (fun r => ∀ c : Dev Cert.MixinIdeal.nD,
          r.2.mem ((c.tc : Thread Cert.MixinIdeal.nD Cert.MixinIdeal.τ).loc Cert.MixinIdeal.main_v42_0) = v0 c
          ∧ r.2.mem ((c.tc : Thread Cert.MixinIdeal.nD Cert.MixinIdeal.τ).loc Cert.MixinIdeal.main_v42_1) = v1 c
          ∧ r.2.mem ((c.tc : Thread Cert.MixinIdeal.nD Cert.MixinIdeal.τ).loc Cert.MixinIdeal.main_v42_2) = v2 c
          ∧ r.2.mem ((c.tc : Thread Cert.MixinIdeal.nD Cert.MixinIdeal.τ).loc Cert.MixinIdeal.main_v42_3) = v3 c
          ∧ r.2.mem ((c.tc : Thread Cert.MixinIdeal.nD Cert.MixinIdeal.τ).loc Cert.MixinIdeal.main_v42_4) = v4 c
          ∧ r.2.mem ((c.tc : Thread Cert.MixinIdeal.nD Cert.MixinIdeal.τ).loc Cert.MixinIdeal.main_v42_5) = v5 c
          ∧ r.2.mem ((c.tc : Thread Cert.MixinIdeal.nD Cert.MixinIdeal.τ).loc Cert.MixinIdeal.main_v42_6) = v6 c
          ∧ r.2.mem ((c.tc : Thread Cert.MixinIdeal.nD Cert.MixinIdeal.τ).loc Cert.MixinIdeal.main_v42_7) = v7 c
          ∧ r.2.mem ((c.tc : Thread Cert.MixinIdeal.nD Cert.MixinIdeal.τ).loc Cert.MixinIdeal.main_v42_8) = v8 c
          ∧ r.2.mem ((c.tc : Thread Cert.MixinIdeal.nD Cert.MixinIdeal.τ).loc Cert.MixinIdeal.main_v42_9) = v9 c
          ∧ r.2.mem ((c.tc : Thread Cert.MixinIdeal.nD Cert.MixinIdeal.τ).loc Cert.MixinIdeal.main_v42_10) = v10 c
          ∧ r.2.mem ((c.tc : Thread Cert.MixinIdeal.nD Cert.MixinIdeal.τ).loc Cert.MixinIdeal.main_v42_11) = v11 c
          ∧ r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
          ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1)
          ∧ r.2.mem ((c.tc : Thread Cert.MixinIdeal.nD Cert.MixinIdeal.τ).loc Cert.MixinIdeal.main_arg2) = m ((c.tc : Thread Cert.MixinIdeal.nD Cert.MixinIdeal.τ).loc Cert.MixinIdeal.main_arg2)
          ∧ r.2.mem ((c.tc : Thread Cert.MixinIdeal.nD Cert.MixinIdeal.τ).loc Cert.MixinIdeal.main_arg3) = m ((c.tc : Thread Cert.MixinIdeal.nD Cert.MixinIdeal.τ).loc Cert.MixinIdeal.main_arg3)
          ∧ r.2.mem ((c.tc : Thread Cert.MixinIdeal.nD Cert.MixinIdeal.τ).loc Cert.MixinIdeal.main_arg4) = m ((c.tc : Thread Cert.MixinIdeal.nD Cert.MixinIdeal.τ).loc Cert.MixinIdeal.main_arg4)
          ∧ r.2.mem ((c.tc : Thread Cert.MixinIdeal.nD Cert.MixinIdeal.τ).loc Cert.MixinIdeal.main_arg5) = m ((c.tc : Thread Cert.MixinIdeal.nD Cert.MixinIdeal.τ).loc Cert.MixinIdeal.main_arg5)
          ∧ r.2.mem ((c.tc : Thread Cert.MixinIdeal.nD Cert.MixinIdeal.τ).loc Cert.MixinIdeal.main_arg6) = m ((c.tc : Thread Cert.MixinIdeal.nD Cert.MixinIdeal.τ).loc Cert.MixinIdeal.main_arg6))
      ∧ θ_run (Cert.MixinRefIdeal.defs (F := Ideal)) (onTc (τ := Cert.MixinRefIdeal.τ) (Cert.MixinRefIdeal.main (F := Ideal))) ⟨m', fun _ => 0, g'⟩ (fun r => ∀ c : Dev Cert.MixinRefIdeal.nD,
          r.2.mem ((c.tc : Thread Cert.MixinRefIdeal.nD Cert.MixinRefIdeal.τ).loc Cert.MixinRefIdeal.main_v75) = v0 c
          ∧ r.2.mem ((c.tc : Thread Cert.MixinRefIdeal.nD Cert.MixinRefIdeal.τ).loc Cert.MixinRefIdeal.main_v98) = v1 c
          ∧ r.2.mem ((c.tc : Thread Cert.MixinRefIdeal.nD Cert.MixinRefIdeal.τ).loc Cert.MixinRefIdeal.main_v119) = v2 c
          ∧ r.2.mem ((c.tc : Thread Cert.MixinRefIdeal.nD Cert.MixinRefIdeal.τ).loc Cert.MixinRefIdeal.main_v121) = v3 c
          ∧ r.2.mem ((c.tc : Thread Cert.MixinRefIdeal.nD Cert.MixinRefIdeal.τ).loc Cert.MixinRefIdeal.main_v123) = v4 c
          ∧ r.2.mem ((c.tc : Thread Cert.MixinRefIdeal.nD Cert.MixinRefIdeal.τ).loc Cert.MixinRefIdeal.main_v125) = v5 c
          ∧ r.2.mem ((c.tc : Thread Cert.MixinRefIdeal.nD Cert.MixinRefIdeal.τ).loc Cert.MixinRefIdeal.main_v126) = v6 c
          ∧ r.2.mem ((c.tc : Thread Cert.MixinRefIdeal.nD Cert.MixinRefIdeal.τ).loc Cert.MixinRefIdeal.main_v146) = v7 c
          ∧ r.2.mem ((c.tc : Thread Cert.MixinRefIdeal.nD Cert.MixinRefIdeal.τ).loc Cert.MixinRefIdeal.main_v166) = v8 c
          ∧ r.2.mem ((c.tc : Thread Cert.MixinRefIdeal.nD Cert.MixinRefIdeal.τ).loc Cert.MixinRefIdeal.main_v186) = v9 c
          ∧ r.2.mem ((c.tc : Thread Cert.MixinRefIdeal.nD Cert.MixinRefIdeal.τ).loc Cert.MixinRefIdeal.main_v206) = v10 c
          ∧ r.2.mem ((c.tc : Thread Cert.MixinRefIdeal.nD Cert.MixinRefIdeal.τ).loc Cert.MixinRefIdeal.main_v226) = v11 c
          ∧ r.2.mem ((c.tc : Thread Cert.MixinRefIdeal.nD Cert.MixinRefIdeal.τ).loc Cert.MixinRefIdeal.main_arg0) = m' ((c.tc : Thread Cert.MixinRefIdeal.nD Cert.MixinRefIdeal.τ).loc Cert.MixinRefIdeal.main_arg0)
          ∧ r.2.mem ((c.tc : Thread Cert.MixinRefIdeal.nD Cert.MixinRefIdeal.τ).loc Cert.MixinRefIdeal.main_arg1) = m' ((c.tc : Thread Cert.MixinRefIdeal.nD Cert.MixinRefIdeal.τ).loc Cert.MixinRefIdeal.main_arg1)
          ∧ r.2.mem ((c.tc : Thread Cert.MixinRefIdeal.nD Cert.MixinRefIdeal.τ).loc Cert.MixinRefIdeal.main_arg2) = m' ((c.tc : Thread Cert.MixinRefIdeal.nD Cert.MixinRefIdeal.τ).loc Cert.MixinRefIdeal.main_arg2)
          ∧ r.2.mem ((c.tc : Thread Cert.MixinRefIdeal.nD Cert.MixinRefIdeal.τ).loc Cert.MixinRefIdeal.main_arg3) = m' ((c.tc : Thread Cert.MixinRefIdeal.nD Cert.MixinRefIdeal.τ).loc Cert.MixinRefIdeal.main_arg3)
          ∧ r.2.mem ((c.tc : Thread Cert.MixinRefIdeal.nD Cert.MixinRefIdeal.τ).loc Cert.MixinRefIdeal.main_arg4) = m' ((c.tc : Thread Cert.MixinRefIdeal.nD Cert.MixinRefIdeal.τ).loc Cert.MixinRefIdeal.main_arg4)
          ∧ r.2.mem ((c.tc : Thread Cert.MixinRefIdeal.nD Cert.MixinRefIdeal.τ).loc Cert.MixinRefIdeal.main_arg5) = m' ((c.tc : Thread Cert.MixinRefIdeal.nD Cert.MixinRefIdeal.τ).loc Cert.MixinRefIdeal.main_arg5)
          ∧ r.2.mem ((c.tc : Thread Cert.MixinRefIdeal.nD Cert.MixinRefIdeal.τ).loc Cert.MixinRefIdeal.main_arg6) = m' ((c.tc : Thread Cert.MixinRefIdeal.nD Cert.MixinRefIdeal.τ).loc Cert.MixinRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)) →
    ∃ (v0 : (c : Dev Cert.CompressIdeal.nD) → Buf (Elt Ideal) ((c.tc : Thread Cert.CompressIdeal.nD Cert.CompressIdeal.τ).loc Cert.CompressIdeal.main_v17_0)) (v1 : (c : Dev Cert.CompressIdeal.nD) → Buf (Elt Ideal) ((c.tc : Thread Cert.CompressIdeal.nD Cert.CompressIdeal.τ).loc Cert.CompressIdeal.main_v17_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v17_0) = v0 c
          ∧ r.2.mem ((c.tc : Thread Cert.CompressIdeal.nD Cert.CompressIdeal.τ).loc Cert.CompressIdeal.main_v17_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v31) = v0 c
          ∧ r.2.mem ((c.tc : Thread Cert.CompressRefIdeal.nD Cert.CompressRefIdeal.τ).loc Cert.CompressRefIdeal.main_v33) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6))

def Claim : Prop :=
  ∃ (hKernel : Cert.Kernel.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMixin : Cert.Mixin.Facts) (hMixinIdeal : Cert.MixinIdeal.Facts) (hMixinRefIdeal : Cert.MixinRefIdeal.Facts) (hAda : Cert.Ada.Facts) (hAdaIdeal : Cert.AdaIdeal.Facts) (hAdaRefIdeal : Cert.AdaRefIdeal.Facts) (hCompress : Cert.Compress.Facts) (hCompressIdeal : Cert.CompressIdeal.Facts) (hCompressRefIdeal : Cert.CompressRefIdeal.Facts),
    quiescent_Kernel (hKernel := hKernel)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mixin (hMixin := hMixin)
    ∧ quiescent_MixinIdeal (hMixinIdeal := hMixinIdeal)
    ∧ quiescent_MixinRefIdeal (hMixinRefIdeal := hMixinRefIdeal)
    ∧ quiescent_Ada (hAda := hAda)
    ∧ quiescent_AdaIdeal (hAdaIdeal := hAdaIdeal)
    ∧ quiescent_AdaRefIdeal (hAdaRefIdeal := hAdaRefIdeal)
    ∧ quiescent_Compress (hCompress := hCompress)
    ∧ quiescent_CompressIdeal (hCompressIdeal := hCompressIdeal)
    ∧ quiescent_CompressRefIdeal (hCompressRefIdeal := hCompressRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Mixin_MixinIdeal
    ∧ algebraic_MixinIdeal_MixinRefIdeal (hMixinIdeal := hMixinIdeal) (hMixinRefIdeal := hMixinRefIdeal)
    ∧ preserves_Ada_AdaIdeal
    ∧ algebraic_AdaIdeal_AdaRefIdeal (hAdaIdeal := hAdaIdeal) (hAdaRefIdeal := hAdaRefIdeal)
    ∧ preserves_Compress_CompressIdeal
    ∧ algebraic_CompressIdeal_CompressRefIdeal (hCompressIdeal := hCompressIdeal) (hCompressRefIdeal := hCompressRefIdeal)
-- ==== Kernel.lean ====
abbrev S8x512x4096 : Shape := ⟨3, ![8, 512, 4096]⟩
abbrev S8x256x4096 : Shape := ⟨3, ![8, 256, 4096]⟩
abbrev S8x32x4096 : Shape := ⟨3, ![8, 32, 4096]⟩
abbrev S8x4096x64 : Shape := ⟨3, ![8, 4096, 64]⟩
abbrev S8x64x4096 : Shape := ⟨3, ![8, 64, 4096]⟩
abbrev S8x4096x512 : Shape := ⟨3, ![8, 4096, 512]⟩
abbrev S1x512x128 : Shape := ⟨3, ![1, 512, 128]⟩
abbrev S1x256x128 : Shape := ⟨3, ![1, 256, 128]⟩
abbrev S1x32x128 : Shape := ⟨3, ![1, 32, 128]⟩
abbrev S1x4096x64 : Shape := ⟨3, ![1, 4096, 64]⟩
abbrev S1x64x4096 : Shape := ⟨3, ![1, 64, 4096]⟩
abbrev S1x128x512 : Shape := ⟨3, ![1, 128, 512]⟩
abbrev S4096x128 : Shape := ⟨2, ![4096, 128]⟩
abbrev S32x128x128 : Shape := ⟨3, ![32, 128, 128]⟩
abbrev S1x1024 : Shape := ⟨2, ![1, 1024]⟩
abbrev S80x1024 : Shape := ⟨2, ![80, 1024]⟩
abbrev S1x128 : Shape := ⟨2, ![1, 128]⟩
abbrev S512x128 : Shape := ⟨2, ![512, 128]⟩
abbrev S1x4x128 : Shape := ⟨3, ![1, 4, 128]⟩
abbrev S4x128 : Shape := ⟨2, ![4, 128]⟩
abbrev S256x128 : Shape := ⟨2, ![256, 128]⟩
abbrev S128x128 : Shape := ⟨2, ![128, 128]⟩
abbrev S64x128 : Shape := ⟨2, ![64, 128]⟩
abbrev S64x256 : Shape := ⟨2, ![64, 256]⟩
abbrev S1x512x64 : Shape := ⟨3, ![1, 512, 64]⟩
abbrev S512x64 : Shape := ⟨2, ![512, 64]⟩
abbrev S512x256 : Shape := ⟨2, ![512, 256]⟩
abbrev S8x128 : Shape := ⟨2, ![8, 128]⟩
abbrev S1x8x128 : Shape := ⟨3, ![1, 8, 128]⟩
abbrev S1x128x128 : Shape := ⟨3, ![1, 128, 128]⟩
abbrev S32x128 : Shape := ⟨2, ![32, 128]⟩
abbrev S16x128 : Shape := ⟨2, ![16, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S64x1024 : Shape := ⟨2, ![64, 1024]⟩
abbrev S512x1024 : Shape := ⟨2, ![512, 1024]⟩
abbrev S1x64x512 : Shape := ⟨3, ![1, 64, 512]⟩
abbrev S64x512 : Shape := ⟨2, ![64, 512]⟩
abbrev S16x512 : Shape := ⟨2, ![16, 512]⟩
abbrev S80x512 : Shape := ⟨2, ![80, 512]⟩
abbrev S128x512 : Shape := ⟨2, ![128, 512]⟩

abbrev nBuf : Space → Nat
  | .hbm => 7
  | .vmem => 18
  | .smem => 0
  | _ => 0

abbrev bufTy : (tb : Table) → Fin (tcTables nBuf tb) → BufTy
  | .hbm, ⟨0, _⟩ => ⟨S8x512x4096, .bf16⟩
  | .hbm, ⟨1, _⟩ => ⟨S8x256x4096, .bf16⟩
  | .hbm, ⟨2, _⟩ => ⟨S8x32x4096, .f32⟩
  | .hbm, ⟨3, _⟩ => ⟨S8x4096x64, .bf16⟩
  | .hbm, ⟨4, _⟩ => ⟨S8x4096x64, .bf16⟩
  | .hbm, ⟨5, _⟩ => ⟨S8x64x4096, .bf16⟩
  | .hbm, ⟨6, _⟩ => ⟨S8x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x32x128, .f32⟩
  | .local _ .vmem, ⟨5, _⟩ => ⟨S1x32x128, .f32⟩
  | .local _ .vmem, ⟨6, _⟩ => ⟨S1x4096x64, .bf16⟩
  | .local _ .vmem, ⟨7, _⟩ => ⟨S1x4096x64, .bf16⟩
  | .local _ .vmem, ⟨8, _⟩ => ⟨S1x4096x64, .bf16⟩
  | .local _ .vmem, ⟨9, _⟩ => ⟨S1x4096x64, .bf16⟩
  | .local _ .vmem, ⟨10, _⟩ => ⟨S1x64x4096, .bf16⟩
  | .local _ .vmem, ⟨11, _⟩ => ⟨S1x64x4096, .bf16⟩
  | .local _ .vmem, ⟨12, _⟩ => ⟨S1x128x512, .bf16⟩
  | .local _ .vmem, ⟨13, _⟩ => ⟨S1x128x512, .bf16⟩
  | .local _ .vmem, ⟨14, _⟩ => ⟨S4096x128, .i32⟩
  | .local _ .vmem, ⟨15, _⟩ => ⟨S32x128x128, .i32⟩
  | .local _ .vmem, ⟨16, _⟩ => ⟨S1x1024, .f32⟩
  | .local _ .vmem, ⟨17, _⟩ => ⟨S80x1024, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_11 : BitVec 32 := 1#32
  ⟨c0_i32_9, v30, c1_i32_11⟩
def k0_mult1 (i : grid0.Coords) (k0_t1 : Fin (k0_t1_loop i).trips) : BitVec 32 :=
  let c0_i32_9 : BitVec 32 := 0#32
  let c1_i32_11 : BitVec 32 := 1#32
  let arg13 : BitVec 32 := Scf.iv c0_i32_9 c1_i32_11 k0_t1
  let c512_i32_51 : BitVec 32 := 512#32
  let v121 : BitVec 32 := Scalar.muli arg13 c512_i32_51
  v121
def k0_off1 (i : grid0.Coords) (k0_t1 : Fin (k0_t1_loop i).trips) : Fin 3 → Nat :=
  let c0_52 : Index := 0#32
  let c0_i32_9 : BitVec 32 := 0#32
  let c1_i32_11 : BitVec 32 := 1#32
  let arg13 : BitVec 32 := Scf.iv c0_i32_9 c1_i32_11 k0_t1
  let c512_i32_51 : BitVec 32 := 512#32
  let v121 : BitVec 32 := Scalar.muli arg13 c512_i32_51
  let v122 : BitVec 32 := v121
  let v123 : Index := Scalar.indexCast v122
  let c0_53 : Index := 0#32
  ![0, v123.toNat, 0]
def k0_off2 (i : grid0.Coords) (k0_t1 : Fin (k0_t1_loop i).trips) : Fin 2 → Nat :=
  let c0_i32_9 : BitVec 32 := 0#32
  let c1_i32_11 : BitVec 32 := 1#32
  let arg13 : BitVec 32 := Scf.iv c0_i32_9 c1_i32_11 k0_t1
  let c512_i32_51 : BitVec 32 := 512#32
  let v121 : BitVec 32 := Scalar.muli arg13 c512_i32_51
  let v122 : BitVec 32 := v121
  let v173 : Index := Scalar.indexCast v122
  let c0_65 : Index := 0#32
  ![v173.toNat, 0]
def k0_mult2 (i : grid0.Coords) (k0_t1 : Fin (k0_t1_loop i).trips) : BitVec 32 :=
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let c0_i32_68 : BitVec 32 := 0#32
  let v212 : BitVec 32 := Scalar.addi v211 c0_i32_68
  v212
def k0_off3 (i : grid0.Coords) (k0_t1 : Fin (k0_t1_loop i).trips) (c0_i32_68 : BitVec 32) : Fin 3 → Nat :=
  let c0_302 : Index := 0#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v934 : Index := Scalar.indexCast v213
  let c0_303 : Index := 0#32
  ![0, v934.toNat, 0]
def k0_off4 (i : grid0.Coords) (k0_t1 : Fin (k0_t1_loop i).trips) (c0_i32_68 : BitVec 32) : Fin 3 → Nat :=
  let c1 : Index := 1#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v938 : Index := Scalar.indexCast v213
  let c0_304 : Index := 0#32
  ![1, v938.toNat, 0]
def k0_off5 (i : grid0.Coords) (k0_t1 : Fin (k0_t1_loop i).trips) (c0_i32_68 : BitVec 32) : Fin 3 → Nat :=
  let c2 : Index := 2#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v942 : Index := Scalar.indexCast v213
  let c0_305 : Index := 0#32
  ![2, v942.toNat, 0]
def k0_off6 (i : grid0.Coords) (k0_t1 : Fin (k0_t1_loop i).trips) (c0_i32_68 : BitVec 32) : Fin 3 → Nat :=
  let c3 : Index := 3#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v946 : Index := Scalar.indexCast v213
  let c0_306 : Index := 0#32
  ![3, v946.toNat, 0]
def k0_off7 (i : grid0.Coords) (k0_t1 : Fin (k0_t1_loop i).trips) (c0_i32_68 : BitVec 32) : Fin 3 → Nat :=
  let c4 : Index := 4#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v950 : Index := Scalar.indexCast v213
  let c0_307 : Index := 0#32
  ![4, v950.toNat, 0]
def k0_off8 (i : grid0.Coords) (k0_t1 : Fin (k0_t1_loop i).trips) (c0_i32_68 : BitVec 32) : Fin 3 → Nat :=
  let c5 : Index := 5#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v954 : Index := Scalar.indexCast v213
  let c0_308 : Index := 0#32
  ![5, v954.toNat, 0]
def k0_off9 (i : grid0.Coords) (k0_t1 : Fin (k0_t1_loop i).trips) (c0_i32_68 : BitVec 32) : Fin 3 → Nat :=
  let c6 : Index := 6#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v958 : Index := Scalar.indexCast v213
  let c0_309 : Index := 0#32
  ![6, v958.toNat, 0]
def k0_off10 (i : grid0.Coords) (k0_t1 : Fin (k0_t1_loop i).trips) (c0_i32_68 : BitVec 32) : Fin 3 → Nat :=
  let c7 : Index := 7#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v962 : Index := Scalar.indexCast v213
  let c0_310 : Index := 0#32
  ![7, v962.toNat, 0]
def k0_off11 (i : grid0.Coords) (k0_t1 : Fin (k0_t1_loop i).trips) (c0_i32_68 : BitVec 32) : Fin 3 → Nat :=
  let c8 : Index := 8#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v966 : Index := Scalar.indexCast v213
  let c0_311 : Index := 0#32
  ![8, v966.toNat, 0]
def k0_off12 (i : grid0.Coords) (k0_t1 : Fin (k0_t1_loop i).trips) (c0_i32_68 : BitVec 32) : Fin 3 → Nat :=
  let c9 : Index := 9#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v970 : Index := Scalar.indexCast v213
  let c0_312 : Index := 0#32
  ![9, v970.toNat, 0]
def k0_off13 (i : grid0.Coords) (k0_t1 : Fin (k0_t1_loop i).trips) (c0_i32_68 : BitVec 32) : Fin 3 → Nat :=
  let c10 : Index := 10#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v974 : Index := Scalar.indexCast v213
  let c0_313 : Index := 0#32
  ![10, v974.toNat, 0]
def k0_off14 (i : grid0.Coords) (k0_t1 : Fin (k0_t1_loop i).trips) (c0_i32_68 : BitVec 32) : Fin 3 → Nat :=
  let c11 : Index := 11#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v978 : Index := Scalar.indexCast v213
  let c0_314 : Index := 0#32
  ![11, v978.toNat, 0]
def k0_off15 (i : grid0.Coords) (k0_t1 : Fin (k0_t1_loop i).trips) (c0_i32_68 : BitVec 32) : Fin 3 → Nat :=
  let c12 : Index := 12#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v982 : Index := Scalar.indexCast v213
  let c0_315 : Index := 0#32
  ![12, v982.toNat, 0]
def k0_off16 (i : grid0.Coords) (k0_t1 : Fin (k0_t1_loop i).trips) (c0_i32_68 : BitVec 32) : Fin 3 → Nat :=
  let c13 : Index := 13#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v986 : Index := Scalar.indexCast v213
  let c0_316 : Index := 0#32
  ![13, v986.toNat, 0]
def k0_off17 (i : grid0.Coords) (k0_t1 : Fin (k0_t1_loop i).trips) (c0_i32_68 : BitVec 32) : Fin 3 → Nat :=
  let c14 : Index := 14#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v990 : Index := Scalar.indexCast v213
  let c0_317 : Index := 0#32
  ![14, v990.toNat, 0]
def k0_off18 (i : grid0.Coords) (k0_t1 : Fin (k0_t1_loop i).trips) (c0_i32_68 : BitVec 32) : Fin 3 → Nat :=
  let c15 : Index := 15#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v994 : Index := Scalar.indexCast v213
  let c0_318 : Index := 0#32
  ![15, v994.toNat, 0]
def k0_off19 (i : grid0.Coords) (k0_t1 : Fin (k0_t1_loop i).trips) (c0_i32_68 : BitVec 32) : Fin 3 → Nat :=
  let c16 : Index := 16#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v998 : Index := Scalar.indexCast v213
  let c0_319 : Index := 0#32
  ![16, v998.toNat, 0]
def k0_off20 (i : grid0.Coords) (k0_t1 : Fin (k0_t1_loop i).trips) (c0_i32_68 : BitVec 32) : Fin 3 → Nat :=
  let c17 : Index := 17#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1002 : Index := Scalar.indexCast v213
  let c0_320 : Index := 0#32
  ![17, v1002.toNat, 0]
def k0_off21 (i : grid0.Coords) (k0_t1 : Fin (k0_t1_loop i).trips) (c0_i32_68 : BitVec 32) : Fin 3 → Nat :=
  let c18 : Index := 18#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1006 : Index := Scalar.indexCast v213
  let c0_321 : Index := 0#32
  ![18, v1006.toNat, 0]
def k0_off22 (i : grid0.Coords) (k0_t1 : Fin (k0_t1_loop i).trips) (c0_i32_68 : BitVec 32) : Fin 3 → Nat :=
  let c19 : Index := 19#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1010 : Index := Scalar.indexCast v213
  let c0_322 : Index := 0#32
  ![19, v1010.toNat, 0]
def k0_off23 (i : grid0.Coords) (k0_t1 : Fin (k0_t1_loop i).trips) (c0_i32_68 : BitVec 32) : Fin 3 → Nat :=
  let c20 : Index := 20#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1014 : Index := Scalar.indexCast v213
  let c0_323 : Index := 0#32
  ![20, v1014.toNat, 0]
def k0_off24 (i : grid0.Coords) (k0_t1 : Fin (k0_t1_loop i).trips) (c0_i32_68 : BitVec 32) : Fin 3 → Nat :=
  let c21 : Index := 21#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1018 : Index := Scalar.indexCast v213
  let c0_324 : Index := 0#32
  ![21, v1018.toNat, 0]
def k0_off25 (i : grid0.Coords) (k0_t1 : Fin (k0_t1_loop i).trips) (c0_i32_68 : BitVec 32) : Fin 3 → Nat :=
  let c22 : Index := 22#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1022 : Index := Scalar.indexCast v213
  let c0_325 : Index := 0#32
  ![22, v1022.toNat, 0]
def k0_off26 (i : grid0.Coords) (k0_t1 : Fin (k0_t1_loop i).trips) (c0_i32_68 : BitVec 32) : Fin 3 → Nat :=
  let c23 : Index := 23#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1026 : Index := Scalar.indexCast v213
  let c0_326 : Index := 0#32
  ![23, v1026.toNat, 0]
def k0_off27 (i : grid0.Coords) (k0_t1 : Fin (k0_t1_loop i).trips) (c0_i32_68 : BitVec 32) : Fin 3 → Nat :=
  let c24_327 : Index := 24#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1030 : Index := Scalar.indexCast v213
  let c0_328 : Index := 0#32
  ![24, v1030.toNat, 0]
def k0_off28 (i : grid0.Coords) (k0_t1 : Fin (k0_t1_loop i).trips) (c0_i32_68 : BitVec 32) : Fin 3 → Nat :=
  let c25 : Index := 25#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1034 : Index := Scalar.indexCast v213
  let c0_329 : Index := 0#32
  ![25, v1034.toNat, 0]
def k0_off29 (i : grid0.Coords) (k0_t1 : Fin (k0_t1_loop i).trips) (c0_i32_68 : BitVec 32) : Fin 3 → Nat :=
  let c26 : Index := 26#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1038 : Index := Scalar.indexCast v213
  let c0_330 : Index := 0#32
  ![26, v1038.toNat, 0]
def k0_off30 (i : grid0.Coords) (k0_t1 : Fin (k0_t1_loop i).trips) (c0_i32_68 : BitVec 32) : Fin 3 → Nat :=
  let c27 : Index := 27#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1042 : Index := Scalar.indexCast v213
  let c0_331 : Index := 0#32
  ![27, v1042.toNat, 0]
def k0_off31 (i : grid0.Coords) (k0_t1 : Fin (k0_t1_loop i).trips) (c0_i32_68 : BitVec 32) : Fin 3 → Nat :=
  let c28 : Index := 28#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1046 : Index := Scalar.indexCast v213
  let c0_332 : Index := 0#32
  ![28, v1046.toNat, 0]
def k0_off32 (i : grid0.Coords) (k0_t1 : Fin (k0_t1_loop i).trips) (c0_i32_68 : BitVec 32) : Fin 3 → Nat :=
  let c29 : Index := 29#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1050 : Index := Scalar.indexCast v213
  let c0_333 : Index := 0#32
  ![29, v1050.toNat, 0]
def k0_off33 (i : grid0.Coords) (k0_t1 : Fin (k0_t1_loop i).trips) (c0_i32_68 : BitVec 32) : Fin 3 → Nat :=
  let c30 : Index := 30#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1054 : Index := Scalar.indexCast v213
  let c0_334 : Index := 0#32
  ![30, v1054.toNat, 0]
def k0_off34 (i : grid0.Coords) (k0_t1 : Fin (k0_t1_loop i).trips) (c0_i32_68 : BitVec 32) : Fin 3 → Nat :=
  let c31 : Index := 31#32
  let c0_i32_9 : BitVec 32 := 0#32
  let c1_i32_11 : BitVec 32 := 1#32
  let arg13 : BitVec 32 := Scf.iv c0_i32_9 c1_i32_11 k0_t1
  let c16_i32_67 : BitVec 32 := 16#32
  let v211 : BitVec 32 := Scalar.muli arg13 c16_i32_67
  let v212 : BitVec 32 := Scalar.addi v211 c0_i32_68
  let v213 : BitVec 32 := v212
  let v1058 : Index := Scalar.indexCast v213
  let c0_335 : Index := 0#32
  ![31, v1058.toNat, 0]
def k0_mult3 (i : grid0.Coords) (k0_t1 : Fin (k0_t1_loop i).trips) : BitVec 32 :=
  let c0_i32_9 : BitVec 32 := 0#32
  let c1_i32_11 : BitVec 32 := 1#32
  let arg13 : BitVec 32 := Scf.iv c0_i32_9 c1_i32_11 k0_t1
  let c16_i32_336 : BitVec 32 := 16#32
  let v1094 : BitVec 32 := Scalar.muli arg13 c16_i32_336
  let c8_i32_337 : BitVec 32 := 8#32
  let v1095 : BitVec 32 := Scalar.addi v1094 c8_i32_337
  v1095
@[reducible] def k0_t2_loop (i : grid0.Coords) : Scf.Loop 32 :=
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let v27 : BitVec 32 := Scalar.addi c0_i32_9 v26
  let c1_i32_12 : BitVec 32 := 1#32
  ⟨v30, v27, c1_i32_12⟩
def k0_mult4 (i : grid0.Coords) (k0_t2 : Fin (k0_t2_loop i).trips) : BitVec 32 :=
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c512_i32_51 : BitVec 32 := 512#32
  let v121 : BitVec 32 := Scalar.muli arg13 c512_i32_51
  v121
def k0_off35 (i : grid0.Coords) (k0_t2 : Fin (k0_t2_loop i).trips) : Fin 3 → Nat :=
  let c0_52 : Index := 0#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c512_i32_51 : BitVec 32 := 512#32
  let v121 : BitVec 32 := Scalar.muli arg13 c512_i32_51
  let v122 : BitVec 32 := v121
  let v123 : Index := Scalar.indexCast v122
  let c0_53 : Index := 0#32
  ![0, v123.toNat, 0]
def k0_off36 (i : grid0.Coords) (k0_t2 : Fin (k0_t2_loop i).trips) : Fin 2 → Nat :=
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c512_i32_51 : BitVec 32 := 512#32
  let v121 : BitVec 32 := Scalar.muli arg13 c512_i32_51
  let v122 : BitVec 32 := v121
  let v173 : Index := Scalar.indexCast v122
  let c0_65 : Index := 0#32
  ![v173.toNat, 0]
def k0_mult5 (i : grid0.Coords) (k0_t2 : Fin (k0_t2_loop i).trips) : BitVec 32 :=
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let c0_i32_68 : BitVec 32 := 0#32
  let v212 : BitVec 32 := Scalar.addi v211 c0_i32_68
  v212
def k0_off37 (i : grid0.Coords) (k0_t2 : Fin (k0_t2_loop i).trips) (c0_i32_68 : BitVec 32) : Fin 3 → Nat :=
  let c0_302 : Index := 0#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v934 : Index := Scalar.indexCast v213
  let c0_303 : Index := 0#32
  ![0, v934.toNat, 0]
def k0_off38 (i : grid0.Coords) (k0_t2 : Fin (k0_t2_loop i).trips) (c0_i32_68 : BitVec 32) : Fin 3 → Nat :=
  let c1 : Index := 1#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v938 : Index := Scalar.indexCast v213
  let c0_304 : Index := 0#32
  ![1, v938.toNat, 0]
def k0_off39 (i : grid0.Coords) (k0_t2 : Fin (k0_t2_loop i).trips) (c0_i32_68 : BitVec 32) : Fin 3 → Nat :=
  let c2 : Index := 2#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v942 : Index := Scalar.indexCast v213
  let c0_305 : Index := 0#32
  ![2, v942.toNat, 0]
def k0_off40 (i : grid0.Coords) (k0_t2 : Fin (k0_t2_loop i).trips) (c0_i32_68 : BitVec 32) : Fin 3 → Nat :=
  let c3 : Index := 3#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v946 : Index := Scalar.indexCast v213
  let c0_306 : Index := 0#32
  ![3, v946.toNat, 0]
def k0_off41 (i : grid0.Coords) (k0_t2 : Fin (k0_t2_loop i).trips) (c0_i32_68 : BitVec 32) : Fin 3 → Nat :=
  let c4 : Index := 4#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v950 : Index := Scalar.indexCast v213
  let c0_307 : Index := 0#32
  ![4, v950.toNat, 0]
def k0_off42 (i : grid0.Coords) (k0_t2 : Fin (k0_t2_loop i).trips) (c0_i32_68 : BitVec 32) : Fin 3 → Nat :=
  let c5 : Index := 5#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v954 : Index := Scalar.indexCast v213
  let c0_308 : Index := 0#32
  ![5, v954.toNat, 0]
def k0_off43 (i : grid0.Coords) (k0_t2 : Fin (k0_t2_loop i).trips) (c0_i32_68 : BitVec 32) : Fin 3 → Nat :=
  let c6 : Index := 6#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v958 : Index := Scalar.indexCast v213
  let c0_309 : Index := 0#32
  ![6, v958.toNat, 0]
def k0_off44 (i : grid0.Coords) (k0_t2 : Fin (k0_t2_loop i).trips) (c0_i32_68 : BitVec 32) : Fin 3 → Nat :=
  let c7 : Index := 7#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v962 : Index := Scalar.indexCast v213
  let c0_310 : Index := 0#32
  ![7, v962.toNat, 0]
def k0_off45 (i : grid0.Coords) (k0_t2 : Fin (k0_t2_loop i).trips) (c0_i32_68 : BitVec 32) : Fin 3 → Nat :=
  let c8 : Index := 8#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v966 : Index := Scalar.indexCast v213
  let c0_311 : Index := 0#32
  ![8, v966.toNat, 0]
def k0_off46 (i : grid0.Coords) (k0_t2 : Fin (k0_t2_loop i).trips) (c0_i32_68 : BitVec 32) : Fin 3 → Nat :=
  let c9 : Index := 9#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v970 : Index := Scalar.indexCast v213
  let c0_312 : Index := 0#32
  ![9, v970.toNat, 0]
def k0_off47 (i : grid0.Coords) (k0_t2 : Fin (k0_t2_loop i).trips) (c0_i32_68 : BitVec 32) : Fin 3 → Nat :=
  let c10 : Index := 10#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v974 : Index := Scalar.indexCast v213
  let c0_313 : Index := 0#32
  ![10, v974.toNat, 0]
def k0_off48 (i : grid0.Coords) (k0_t2 : Fin (k0_t2_loop i).trips) (c0_i32_68 : BitVec 32) : Fin 3 → Nat :=
  let c11 : Index := 11#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v978 : Index := Scalar.indexCast v213
  let c0_314 : Index := 0#32
  ![11, v978.toNat, 0]
def k0_off49 (i : grid0.Coords) (k0_t2 : Fin (k0_t2_loop i).trips) (c0_i32_68 : BitVec 32) : Fin 3 → Nat :=
  let c12 : Index := 12#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v982 : Index := Scalar.indexCast v213
  let c0_315 : Index := 0#32
  ![12, v982.toNat, 0]
def k0_off50 (i : grid0.Coords) (k0_t2 : Fin (k0_t2_loop i).trips) (c0_i32_68 : BitVec 32) : Fin 3 → Nat :=
  let c13 : Index := 13#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v986 : Index := Scalar.indexCast v213
  let c0_316 : Index := 0#32
  ![13, v986.toNat, 0]
def k0_off51 (i : grid0.Coords) (k0_t2 : Fin (k0_t2_loop i).trips) (c0_i32_68 : BitVec 32) : Fin 3 → Nat :=
  let c14 : Index := 14#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v990 : Index := Scalar.indexCast v213
  let c0_317 : Index := 0#32
  ![14, v990.toNat, 0]
def k0_off52 (i : grid0.Coords) (k0_t2 : Fin (k0_t2_loop i).trips) (c0_i32_68 : BitVec 32) : Fin 3 → Nat :=
  let c15 : Index := 15#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v994 : Index := Scalar.indexCast v213
  let c0_318 : Index := 0#32
  ![15, v994.toNat, 0]
def k0_off53 (i : grid0.Coords) (k0_t2 : Fin (k0_t2_loop i).trips) (c0_i32_68 : BitVec 32) : Fin 3 → Nat :=
  let c16 : Index := 16#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v998 : Index := Scalar.indexCast v213
  let c0_319 : Index := 0#32
  ![16, v998.toNat, 0]
def k0_off54 (i : grid0.Coords) (k0_t2 : Fin (k0_t2_loop i).trips) (c0_i32_68 : BitVec 32) : Fin 3 → Nat :=
  let c17 : Index := 17#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1002 : Index := Scalar.indexCast v213
  let c0_320 : Index := 0#32
  ![17, v1002.toNat, 0]
def k0_off55 (i : grid0.Coords) (k0_t2 : Fin (k0_t2_loop i).trips) (c0_i32_68 : BitVec 32) : Fin 3 → Nat :=
  let c18 : Index := 18#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1006 : Index := Scalar.indexCast v213
  let c0_321 : Index := 0#32
  ![18, v1006.toNat, 0]
def k0_off56 (i : grid0.Coords) (k0_t2 : Fin (k0_t2_loop i).trips) (c0_i32_68 : BitVec 32) : Fin 3 → Nat :=
  let c19 : Index := 19#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1010 : Index := Scalar.indexCast v213
  let c0_322 : Index := 0#32
  ![19, v1010.toNat, 0]
def k0_off57 (i : grid0.Coords) (k0_t2 : Fin (k0_t2_loop i).trips) (c0_i32_68 : BitVec 32) : Fin 3 → Nat :=
  let c20 : Index := 20#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1014 : Index := Scalar.indexCast v213
  let c0_323 : Index := 0#32
  ![20, v1014.toNat, 0]
def k0_off58 (i : grid0.Coords) (k0_t2 : Fin (k0_t2_loop i).trips) (c0_i32_68 : BitVec 32) : Fin 3 → Nat :=
  let c21 : Index := 21#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1018 : Index := Scalar.indexCast v213
  let c0_324 : Index := 0#32
  ![21, v1018.toNat, 0]
def k0_off59 (i : grid0.Coords) (k0_t2 : Fin (k0_t2_loop i).trips) (c0_i32_68 : BitVec 32) : Fin 3 → Nat :=
  let c22 : Index := 22#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1022 : Index := Scalar.indexCast v213
  let c0_325 : Index := 0#32
  ![22, v1022.toNat, 0]
def k0_off60 (i : grid0.Coords) (k0_t2 : Fin (k0_t2_loop i).trips) (c0_i32_68 : BitVec 32) : Fin 3 → Nat :=
  let c23 : Index := 23#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1026 : Index := Scalar.indexCast v213
  let c0_326 : Index := 0#32
  ![23, v1026.toNat, 0]
def k0_off61 (i : grid0.Coords) (k0_t2 : Fin (k0_t2_loop i).trips) (c0_i32_68 : BitVec 32) : Fin 3 → Nat :=
  let c24_327 : Index := 24#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1030 : Index := Scalar.indexCast v213
  let c0_328 : Index := 0#32
  ![24, v1030.toNat, 0]
def k0_off62 (i : grid0.Coords) (k0_t2 : Fin (k0_t2_loop i).trips) (c0_i32_68 : BitVec 32) : Fin 3 → Nat :=
  let c25 : Index := 25#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1034 : Index := Scalar.indexCast v213
  let c0_329 : Index := 0#32
  ![25, v1034.toNat, 0]
def k0_off63 (i : grid0.Coords) (k0_t2 : Fin (k0_t2_loop i).trips) (c0_i32_68 : BitVec 32) : Fin 3 → Nat :=
  let c26 : Index := 26#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1038 : Index := Scalar.indexCast v213
  let c0_330 : Index := 0#32
  ![26, v1038.toNat, 0]
def k0_off64 (i : grid0.Coords) (k0_t2 : Fin (k0_t2_loop i).trips) (c0_i32_68 : BitVec 32) : Fin 3 → Nat :=
  let c27 : Index := 27#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1042 : Index := Scalar.indexCast v213
  let c0_331 : Index := 0#32
  ![27, v1042.toNat, 0]
def k0_off65 (i : grid0.Coords) (k0_t2 : Fin (k0_t2_loop i).trips) (c0_i32_68 : BitVec 32) : Fin 3 → Nat :=
  let c28 : Index := 28#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1046 : Index := Scalar.indexCast v213
  let c0_332 : Index := 0#32
  ![28, v1046.toNat, 0]
def k0_off66 (i : grid0.Coords) (k0_t2 : Fin (k0_t2_loop i).trips) (c0_i32_68 : BitVec 32) : Fin 3 → Nat :=
  let c29 : Index := 29#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1050 : Index := Scalar.indexCast v213
  let c0_333 : Index := 0#32
  ![29, v1050.toNat, 0]
def k0_off67 (i : grid0.Coords) (k0_t2 : Fin (k0_t2_loop i).trips) (c0_i32_68 : BitVec 32) : Fin 3 → Nat :=
  let c30 : Index := 30#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1054 : Index := Scalar.indexCast v213
  let c0_334 : Index := 0#32
  ![30, v1054.toNat, 0]
def k0_off68 (i : grid0.Coords) (k0_t2 : Fin (k0_t2_loop i).trips) (c0_i32_68 : BitVec 32) : Fin 3 → Nat :=
  let c31 : Index := 31#32
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_67 : BitVec 32 := 16#32
  let v211 : BitVec 32 := Scalar.muli arg13 c16_i32_67
  let v212 : BitVec 32 := Scalar.addi v211 c0_i32_68
  let v213 : BitVec 32 := v212
  let v1058 : Index := Scalar.indexCast v213
  let c0_335 : Index := 0#32
  ![31, v1058.toNat, 0]
def k0_mult6 (i : grid0.Coords) (k0_t2 : Fin (k0_t2_loop i).trips) : BitVec 32 :=
  let c0_i32_9 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v26 : BitVec 32 := Scalar.subi v4 c0_i32_9
  let c1_i32_10 : BitVec 32 := 1#32
  let v28 : BitVec 32 := Scalar.divsi v26 c1_i32_10
  let v29 : BitVec 32 := Scalar.muli v28 c1_i32_10
  let v30 : BitVec 32 := Scalar.addi c0_i32_9 v29
  let c1_i32_12 : BitVec 32 := 1#32
  let arg13 : BitVec 32 := Scf.iv v30 c1_i32_12 k0_t2
  let c16_i32_336 : BitVec 32 := 16#32
  let v1094 : BitVec 32 := Scalar.muli arg13 c16_i32_336
  let c8_i32_337 : BitVec 32 := 8#32
  let v1095 : BitVec 32 := Scalar.addi v1094 c8_i32_337
  v1095
@[reducible] def k0_t3_loop : Scf.Loop 32 :=
  let c0_i32_17 : BitVec 32 := 0#32
  let c32_i32 : BitVec 32 := 32#32
  let v45 : BitVec 32 := Scalar.addi c0_i32_17 c32_i32
  let c1_i32_18 : BitVec 32 := 1#32
  ⟨c0_i32_17, v45, c1_i32_18⟩
def k0_off69 (k0_t3 : Fin k0_t3_loop.trips) : Fin 3 → Nat :=
  let c0_i32_17 : BitVec 32 := 0#32
  let c1_i32_18 : BitVec 32 := 1#32
  let arg13 : BitVec 32 := Scf.iv c0_i32_17 c1_i32_18 k0_t3
  let v121 : Index := Scalar.indexCast arg13
  let c0_51 : Index := 0#32
  let c0_52 : Index := 0#32
  ![v121.toNat, 0, 0]
@[reducible] def k0_t4_loop : Scf.Loop 32 :=
  let c0_i32_54 : BitVec 32 := 0#32
  let c12_i32 : BitVec 32 := 12#32
  let v140 : BitVec 32 := Scalar.addi c0_i32_54 c12_i32
  let c1_i32_55 : BitVec 32 := 1#32
  ⟨c0_i32_54, v140, c1_i32_55⟩
@[reducible] def k0_t5_loop (i : grid0.Coords) : Scf.Loop 32 :=
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v91 : BitVec 32 := Scalar.subi v4 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_38 : BitVec 32 := 1#32
  ⟨c0_i32_36, v95, c1_i32_38⟩
def k0_mult7 (i : grid0.Coords) (k0_t5 : Fin (k0_t5_loop i).trips) : BitVec 32 :=
  let c0_i32_36 : BitVec 32 := 0#32
  let c1_i32_38 : BitVec 32 := 1#32
  let arg13 : BitVec 32 := Scf.iv c0_i32_36 c1_i32_38 k0_t5
  let c512_i32_51 : BitVec 32 := 512#32
  let v121 : BitVec 32 := Scalar.muli arg13 c512_i32_51
  v121
def k0_off70 (i : grid0.Coords) (k0_t5 : Fin (k0_t5_loop i).trips) : Fin 2 → Nat :=
  let c0_i32_36 : BitVec 32 := 0#32
  let c1_i32_38 : BitVec 32 := 1#32
  let arg13 : BitVec 32 := Scf.iv c0_i32_36 c1_i32_38 k0_t5
  let c512_i32_51 : BitVec 32 := 512#32
  let v121 : BitVec 32 := Scalar.muli arg13 c512_i32_51
  let v122 : BitVec 32 := v121
  let v123 : Index := Scalar.indexCast v122
  let c0_52 : Index := 0#32
  ![v123.toNat, 0]
def k0_off71 (i : grid0.Coords) (k0_t5 : Fin (k0_t5_loop i).trips) : Fin 3 → Nat :=
  let c0_53 : Index := 0#32
  let c0_i32_36 : BitVec 32 := 0#32
  let c1_i32_38 : BitVec 32 := 1#32
  let arg13 : BitVec 32 := Scf.iv c0_i32_36 c1_i32_38 k0_t5
  let c512_i32_51 : BitVec 32 := 512#32
  let v121 : BitVec 32 := Scalar.muli arg13 c512_i32_51
  let v122 : BitVec 32 := v121
  let v138 : Index := Scalar.indexCast v122
  let c0_54 : Index := 0#32
  ![0, v138.toNat, 0]
def k0_off72 (i : grid0.Coords) (k0_t5 : Fin (k0_t5_loop i).trips) : Fin 3 → Nat :=
  let c0_58 : Index := 0#32
  let c0_59 : Index := 0#32
  let c0_i32_36 : BitVec 32 := 0#32
  let c1_i32_38 : BitVec 32 := 1#32
  let arg13 : BitVec 32 := Scf.iv c0_i32_36 c1_i32_38 k0_t5
  let c512_i32_51 : BitVec 32 := 512#32
  let v121 : BitVec 32 := Scalar.muli arg13 c512_i32_51
  let v122 : BitVec 32 := v121
  let v145 : Index := Scalar.indexCast v122
  ![0, 0, v145.toNat]
@[reducible] def k0_t6_loop (i : grid0.Coords) : Scf.Loop 32 :=
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v91 : BitVec 32 := Scalar.subi v4 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let v92 : BitVec 32 := Scalar.addi c0_i32_36 v91
  let c1_i32_39 : BitVec 32 := 1#32
  ⟨v95, v92, c1_i32_39⟩
def k0_mult8 (i : grid0.Coords) (k0_t6 : Fin (k0_t6_loop i).trips) : BitVec 32 :=
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v91 : BitVec 32 := Scalar.subi v4 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg13 : BitVec 32 := Scf.iv v95 c1_i32_39 k0_t6
  let c512_i32_51 : BitVec 32 := 512#32
  let v121 : BitVec 32 := Scalar.muli arg13 c512_i32_51
  v121
def k0_off73 (i : grid0.Coords) (k0_t6 : Fin (k0_t6_loop i).trips) : Fin 2 → Nat :=
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v91 : BitVec 32 := Scalar.subi v4 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg13 : BitVec 32 := Scf.iv v95 c1_i32_39 k0_t6
  let c512_i32_51 : BitVec 32 := 512#32
  let v121 : BitVec 32 := Scalar.muli arg13 c512_i32_51
  let v122 : BitVec 32 := v121
  let v123 : Index := Scalar.indexCast v122
  let c0_52 : Index := 0#32
  ![v123.toNat, 0]
def k0_off74 (i : grid0.Coords) (k0_t6 : Fin (k0_t6_loop i).trips) : Fin 3 → Nat :=
  let c0_53 : Index := 0#32
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v91 : BitVec 32 := Scalar.subi v4 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg13 : BitVec 32 := Scf.iv v95 c1_i32_39 k0_t6
  let c512_i32_51 : BitVec 32 := 512#32
  let v121 : BitVec 32 := Scalar.muli arg13 c512_i32_51
  let v122 : BitVec 32 := v121
  let v138 : Index := Scalar.indexCast v122
  let c0_54 : Index := 0#32
  ![0, v138.toNat, 0]
def k0_off75 (i : grid0.Coords) (k0_t6 : Fin (k0_t6_loop i).trips) : Fin 3 → Nat :=
  let c0_58 : Index := 0#32
  let c0_59 : Index := 0#32
  let c0_i32_36 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c512_i32_1 : BitVec 32 := 512#32
  let v4 : BitVec 32 := Scalar.divsi v3 c512_i32_1
  let v91 : BitVec 32 := Scalar.subi v4 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg13 : BitVec 32 := Scf.iv v95 c1_i32_39 k0_t6
  let c512_i32_51 : BitVec 32 := 512#32
  let v121 : BitVec 32 := Scalar.muli arg13 c512_i32_51
  let v122 : BitVec 32 := v121
  let v145 : Index := Scalar.indexCast v122
  ![0, 0, v145.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn.lean ====
abbrev S8x4096x1024 : Shape := ⟨3, ![8, 4096, 1024]⟩
abbrev S8x9216 : Shape := ⟨2, ![8, 9216]⟩
abbrev S1024x5632 : Shape := ⟨2, ![1024, 5632]⟩
abbrev S2816x1024 : Shape := ⟨2, ![2816, 1024]⟩
abbrev S1024 : Shape := ⟨1, ![1024]⟩
abbrev S8x9x1024 : Shape := ⟨3, ![8, 9, 1024]⟩
abbrev S1x1024 : Shape := ⟨2, ![1, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S8x9x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S8x4096x1024 : Shape := ⟨3, ![8, 4096, 1024]⟩
abbrev S8x9216 : Shape := ⟨2, ![8, 9216]⟩
abbrev S1024x5632 : Shape := ⟨2, ![1024, 5632]⟩
abbrev S2816x1024 : Shape := ⟨2, ![2816, 1024]⟩
abbrev S1024 : Shape := ⟨1, ![1024]⟩
abbrev S8x3072 : Shape := ⟨2, ![8, 3072]⟩
abbrev S8x1024 : Shape := ⟨2, ![8, 1024]⟩
abbrev S8x1x1024 : Shape := ⟨3, ![8, 1, 1024]⟩
abbrev S_ : Shape := ⟨0, ![]⟩
abbrev S8x4096x5632 : Shape := ⟨3, ![8, 4096, 5632]⟩
abbrev S8x4096x2816 : Shape := ⟨3, ![8, 4096, 2816]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S8x3072, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1x1024, .f32⟩
  | .hbm, ⟨11, _⟩ => ⟨S_, .f32⟩
  | .hbm, ⟨12, _⟩ => ⟨S8x1x1024, .f32⟩
  | .hbm, ⟨13, _⟩ => ⟨S8x1x1024, .f32⟩
  | .hbm, ⟨14, _⟩ => ⟨S8x4096x1024, .f32⟩
  | .hbm, ⟨15, _⟩ => ⟨S8x4096x1024, .f32⟩
  | .hbm, ⟨16, _⟩ => ⟨S8x1x1024, .f32⟩
  | .hbm, ⟨17, _⟩ => ⟨S8x4096x1024, .f32⟩
  | .hbm, ⟨18, _⟩ => ⟨S8x4096x1024, .f32⟩
  | .hbm, ⟨19, _⟩ => ⟨S8x4096x5632, .f32⟩
  | .hbm, ⟨20, _⟩ => ⟨S8x4096x2816, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S_, .f32⟩
  | .hbm, ⟨25, _⟩ => ⟨S8x4096x2816, .f32⟩
  | .hbm, ⟨26, _⟩ => ⟨S8x4096x2816, .f32⟩
  | .hbm, ⟨27, _⟩ => ⟨S_, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S8x1x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | .hbm, ⟨69, _⟩ => ⟨S1x1x1024, .f32⟩
  | .hbm, ⟨70, _⟩ => ⟨S8x4096x1024, .f32⟩
  | .hbm, ⟨71, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Merge.lean ====
abbrev S8x4096x1024 : Shape := ⟨3, ![8, 4096, 1024]⟩
abbrev S8x9216 : Shape := ⟨2, ![8, 9216]⟩
abbrev S8x4096x512 : Shape := ⟨3, ![8, 4096, 512]⟩
abbrev S1024x2048 : Shape := ⟨2, ![1024, 2048]⟩
abbrev S512x1024 : Shape := ⟨2, ![512, 1024]⟩
abbrev S1024x1024 : Shape := ⟨2, ![1024, 1024]⟩
abbrev S1024 : Shape := ⟨1, ![1024]⟩
abbrev S8x9x1024 : Shape := ⟨3, ![8, 9, 1024]⟩
abbrev S1x1024 : Shape := ⟨2, ![1, 1024]⟩
abbrev S1x512x1024 : Shape := ⟨3, ![1, 512, 1024]⟩
abbrev S1x9x1024 : Shape := ⟨3, ![1, 9, 1024]⟩
abbrev S1x512x512 : Shape := ⟨3, ![1, 512, 512]⟩
abbrev S1x1x1024 : Shape := ⟨3, ![1, 1, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S8x4096x512, .bf16⟩
  | .hbm, ⟨3, _⟩ => ⟨S8x4096x512, .bf16⟩
  | .hbm, ⟨4, _⟩ => ⟨S1024x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8x9x1024, .f32⟩
  | .hbm, ⟨11, _⟩ => ⟨S1024x2048, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1024x2048, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S8x4096x1024 : Shape := ⟨3, ![8, 4096, 1024]⟩
abbrev S8x9216 : Shape := ⟨2, ![8, 9216]⟩
abbrev S8x4096x512 : Shape := ⟨3, ![8, 4096, 512]⟩
abbrev S1024x2048 : Shape := ⟨2, ![1024, 2048]⟩
abbrev S512x1024 : Shape := ⟨2, ![512, 1024]⟩
abbrev S1024x1024 : Shape := ⟨2, ![1024, 1024]⟩
abbrev S1024 : Shape := ⟨1, ![1024]⟩
abbrev S8x3072 : Shape := ⟨2, ![8, 3072]⟩
abbrev S8x1024 : Shape := ⟨2, ![8, 1024]⟩
abbrev S8x1x1024 : Shape := ⟨3, ![8, 1, 1024]⟩
abbrev S_ : Shape := ⟨0, ![]⟩
abbrev S8x4096x2048 : Shape := ⟨3, ![8, 4096, 2048]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S8x4096x512, .bf16⟩
  | .hbm, ⟨3, _⟩ => ⟨S8x4096x512, .bf16⟩
  | .hbm, ⟨4, _⟩ => ⟨S1024x2048, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8x3072, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1x1024, .f32⟩
  | .hbm, ⟨15, _⟩ => ⟨S_, .f32⟩
  | .hbm, ⟨16, _⟩ => ⟨S8x1x1024, .f32⟩
  | .hbm, ⟨17, _⟩ => ⟨S8x1x1024, .f32⟩
  | .hbm, ⟨18, _⟩ => ⟨S8x4096x1024, .f32⟩
  | .hbm, ⟨19, _⟩ => ⟨S8x4096x1024, .f32⟩
  | .hbm, ⟨20, _⟩ => ⟨S8x1x1024, .f32⟩
  | .hbm, ⟨21, _⟩ => ⟨S8x4096x1024, .f32⟩
  | .hbm, ⟨22, _⟩ => ⟨S8x4096x1024, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S_, .f32⟩
  | .hbm, ⟨27, _⟩ => ⟨S8x4096x2048, .f32⟩
  | .hbm, ⟨28, _⟩ => ⟨S8x4096x2048, .f32⟩
  | .hbm, ⟨29, _⟩ => ⟨S_, .f32⟩
  | .hbm, ⟨30, _⟩ => ⟨S8x4096x2048, .f32⟩
  | .hbm, ⟨31, _⟩ => ⟨S8x4096x2048, .f32⟩
  | .hbm, ⟨32, _⟩ => ⟨S8x4096x1024, .f32⟩
  | .hbm, ⟨33, _⟩ => ⟨S8x4096x1024, .f32⟩
  | .hbm, ⟨34, _⟩ => ⟨S8x4096x512, .f32⟩
  | .hbm, ⟨35, _⟩ => ⟨S8x4096x1024, .f32⟩
  | .hbm, ⟨36, _⟩ => ⟨S8x4096x1024, .f32⟩
  | .hbm, ⟨37, _⟩ => ⟨S8x4096x512, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S8x1x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S1x1x1024, .f32⟩
  | .hbm, ⟨73, _⟩ => ⟨S8x4096x1024, .f32⟩
  | .hbm, ⟨74, _⟩ => ⟨S8x4096x1024, .f32⟩
  | .hbm, ⟨75, _⟩ => ⟨S1x1x1024, .f32⟩
  | .hbm, ⟨76, _⟩ => ⟨S8x4096x1024, .f32⟩
  | .hbm, ⟨77, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Mixin.lean ====
abbrev S8x4096x1024 : Shape := ⟨3, ![8, 4096, 1024]⟩
abbrev S8x9216 : Shape := ⟨2, ![8, 9216]⟩
abbrev S1024x4316 : Shape := ⟨2, ![1024, 4316]⟩
abbrev S128 : Shape := ⟨1, ![128]⟩
abbrev S128x128 : Shape := ⟨2, ![128, 128]⟩
abbrev S4096x32 : Shape := ⟨2, ![4096, 32]⟩
abbrev S8x9x1024 : Shape := ⟨3, ![8, 9, 1024]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x768 : Shape := ⟨2, ![1024, 768]⟩
abbrev S1024x24 : Shape := ⟨2, ![1024, 24]⟩
abbrev S1024x2048 : Shape := ⟨2, ![1024, 2048]⟩
abbrev S_ : Shape := ⟨0, ![]⟩
abbrev S1024x1568 : Shape := ⟨2, ![1024, 1568]⟩
abbrev S1568x1024 : Shape := ⟨2, ![1568, 1024]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32x4096 : Shape := ⟨2, ![32, 4096]⟩
abbrev S128x64 : Shape := ⟨2, ![128, 64]⟩
abbrev S64x128 : Shape := ⟨2, ![64, 128]⟩
abbrev S1x128 : Shape := ⟨2, ![1, 128]⟩
abbrev S8x512x4096 : Shape := ⟨3, ![8, 512, 4096]⟩
abbrev S8x256x4096 : Shape := ⟨3, ![8, 256, 4096]⟩
abbrev S8x64x4096 : Shape := ⟨3, ![8, 64, 4096]⟩
abbrev S8x128x4096 : Shape := ⟨3, ![8, 128, 4096]⟩
abbrev S8x32x4096 : Shape := ⟨3, ![8, 32, 4096]⟩
abbrev S8x4096x64 : Shape := ⟨3, ![8, 4096, 64]⟩
abbrev S8x2x4096x64 : Shape := ⟨4, ![8, 2, 4096, 64]⟩
abbrev S8x4096x256 : Shape := ⟨3, ![8, 4096, 256]⟩
abbrev S1x512x1024 : Shape := ⟨3, ![1, 512, 1024]⟩
abbrev S1x9x1024 : Shape := ⟨3, ![1, 9, 1024]⟩
abbrev S512x128 : Shape := ⟨2, ![512, 128]⟩
abbrev S32x512 : Shape := ⟨2, ![32, 512]⟩
abbrev S1x512x512 : Shape := ⟨3, ![1, 512, 512]⟩
abbrev S1x256x512 : Shape := ⟨3, ![1, 256, 512]⟩
abbrev S1x64x512 : Shape := ⟨3, ![1, 64, 512]⟩
abbrev S1x128x512 : Shape := ⟨3, ![1, 128, 512]⟩
abbrev S1x32x512 : Shape := ⟨3, ![1, 32, 512]⟩
abbrev S1x512x64 : Shape := ⟨3, ![1, 512, 64]⟩
abbrev S1x2x512x64 : Shape := ⟨4, ![1, 2, 512, 64]⟩
abbrev S1x512x256 : Shape := ⟨3, ![1, 512, 256]⟩
abbrev S512x768 : Shape := ⟨2, ![512, 768]⟩
abbrev S1568x512 : Shape := ⟨2, ![1568, 512]⟩
abbrev S512x1024 : Shape := ⟨2, ![512, 1024]⟩
abbrev S1x1x1024 : Shape := ⟨3, ![1, 1, 1024]⟩
abbrev S1x1024 : Shape := ⟨2, ![1, 1024]⟩
abbrev S128x512 : Shape := ⟨2, ![128, 512]⟩
abbrev S1x512x128 : Shape := ⟨3, ![1, 512, 128]⟩
abbrev S512x64 : Shape := ⟨2, ![512, 64]⟩
abbrev S1x1x512x64 : Shape := ⟨4, ![1, 1, 512, 64]⟩
abbrev S512 : Shape := ⟨1, ![512]⟩
abbrev S512x1 : Shape := ⟨2, ![512, 1]⟩
abbrev S64x512 : Shape := ⟨2, ![64, 512]⟩

abbrev nBuf : Space → Nat
  | .hbm => 64
  | .vmem => 43
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024x4316, .f32⟩
  | .hbm, ⟨3, _⟩ => ⟨S128, .f32⟩
  | .hbm, ⟨4, _⟩ => ⟨S128x128, .f32⟩
  | .hbm, ⟨5, _⟩ => ⟨S4096x32, .f32⟩
  | .hbm, ⟨6, _⟩ => ⟨S4096x32, .f32⟩
  | .hbm, ⟨7, _⟩ => ⟨S8x9x1024, .f32⟩
  | .hbm, ⟨8, _⟩ => ⟨S1024x512, .f32⟩
  | .hbm, ⟨9, _⟩ => ⟨S1024x128, .f32⟩
  | .hbm, ⟨10, _⟩ => ⟨S1024x256, .f32⟩
  | .hbm, ⟨11, _⟩ => ⟨S1024x64, .f32⟩
  | .hbm, ⟨12, _⟩ => ⟨S1024x4, .f32⟩
  | .hbm, ⟨13, _⟩ => ⟨S1024x512, .f32⟩
  | .hbm, ⟨14, _⟩ => ⟨S1024x768, .f32⟩
  | .hbm, ⟨15, _⟩ => ⟨S1024x24, .f32⟩
  | .hbm, ⟨16, _⟩ => ⟨S1024x2048, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S_, .f32⟩
  | .hbm, ⟨24, _⟩ => ⟨S1024x64, .f32⟩
  | .hbm, ⟨25, _⟩ => ⟨S1024x768, .f32⟩
  | .hbm, ⟨26, _⟩ => ⟨S1024x768, .bf16⟩
  | .hbm, ⟨27, _⟩ => ⟨S_, .f32⟩
  | .hbm, ⟨28, _⟩ => ⟨S1024x4, .f32⟩
  | .hbm, ⟨29, _⟩ => ⟨S1024x1568, .f32⟩
  | .hbm, ⟨30, _⟩ => ⟨S1568x1024, .f32⟩
  | .hbm, ⟨31, _⟩ => ⟨S1568x1024, .bf16⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S4096x32, .f32⟩
  | .hbm, ⟨37, _⟩ => ⟨S4096x64, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S32x4096, .f32⟩
  | .hbm, ⟨42, _⟩ => ⟨S32x4096, .f32⟩
  | .hbm, ⟨43, _⟩ => ⟨S128x64, .f32⟩
  | .hbm, ⟨44, _⟩ => ⟨S_, .f32⟩
  | .hbm, ⟨45, _⟩ => ⟨S128x64, .f32⟩
  | .hbm, ⟨46, _⟩ => ⟨S128x128, .f32⟩
  | .hbm, ⟨47, _⟩ => ⟨S128x128, .bf16⟩
  | .hbm, ⟨48, _⟩ => ⟨S128x64, .f32⟩
  | .hbm, ⟨49, _⟩ => ⟨S64x128, .f32⟩
  | .hbm, ⟨50, _⟩ => ⟨S64x128, .bf16⟩
  | .hbm, ⟨51, _⟩ => ⟨S1x128, .f32⟩
  | .hbm, ⟨52, _⟩ => ⟨S8x512x4096, .bf16⟩
  | .hbm, ⟨53, _⟩ => ⟨S8x512x4096, .bf16⟩
  | .hbm, ⟨54, _⟩ => ⟨S8x256x4096, .bf16⟩
  | .hbm, ⟨55, _⟩ => ⟨S8x64x4096, .bf16⟩
  | .hbm, ⟨56, _⟩ => ⟨S8x128x4096, .bf16⟩
  | .hbm, ⟨57, _⟩ => ⟨S8x128x4096, .bf16⟩
  | .hbm, ⟨58, _⟩ => ⟨S8x32x4096, .f32⟩
  | .hbm, ⟨59, _⟩ => ⟨S8x4096x64, .bf16⟩
  | .hbm, ⟨60, _⟩ => ⟨S8x4096x64, .bf16⟩
  | .hbm, ⟨61, _⟩ => ⟨S8x2x4096x64, .bf16⟩
  | .hbm, ⟨62, _⟩ => ⟨S8x2x4096x64, .bf16⟩
  | .hbm, ⟨63, _⟩ => ⟨S8x4096x256, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x768, .bf16⟩
  | .local _ .vmem, ⟨5, _⟩ => ⟨S1568x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S1x128, .f32⟩
  | .local _ .vmem, ⟨15, _⟩ => ⟨S128x128, .bf16⟩
  | .local _ .vmem, ⟨16, _⟩ => ⟨S64x128, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x64x512, .bf16⟩
  | .local _ .vmem, ⟨24, _⟩ => ⟨S1x64x512, .bf16⟩
  | .local _ .vmem, ⟨25, _⟩ => ⟨S1x128x512, .bf16⟩
  | .local _ .vmem, ⟨26, _⟩ => ⟨S1x128x512, .bf16⟩
  | .local _ .vmem, ⟨27, _⟩ => ⟨S1x128x512, .bf16⟩
  | .local _ .vmem, ⟨28, _⟩ => ⟨S1x128x512, .bf16⟩
  | .local _ .vmem, ⟨29, _⟩ => ⟨S1x32x512, .f32⟩
  | .local _ .vmem, ⟨30, _⟩ => ⟨S1x32x512, .f32⟩
  | .local _ .vmem, ⟨31, _⟩ => ⟨S1x512x64, .bf16⟩
  | .local _ .vmem, ⟨32, _⟩ => ⟨S1x512x64, .bf16⟩
  | .local _ .vmem, ⟨33, _⟩ => ⟨S1x512x64, .bf16⟩
  | .local _ .vmem, ⟨34, _⟩ => ⟨S1x512x64, .bf16⟩
  | .local _ .vmem, ⟨35, _⟩ => ⟨S1x2x512x64, .bf16⟩
  | .local _ .vmem, ⟨36, _⟩ => ⟨S1x2x512x64, .bf16⟩
  | .local _ .vmem, ⟨37, _⟩ => ⟨S1x2x512x64, .bf16⟩
  | .local _ .vmem, ⟨38, _⟩ => ⟨S1x2x512x64, .bf16⟩
  | .local _ .vmem, ⟨39, _⟩ => ⟨S1x512x256, .f32⟩
  | .local _ .vmem, ⟨40, _⟩ => ⟨S1x512x256, .f32⟩
  | .local _ .vmem, ⟨41, _⟩ => ⟨S512x768, .f32⟩
  | .local _ .vmem, ⟨42, _⟩ => ⟨S1568x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42_0 : Ref sig .tc := ⟨.hbm, 52, rfl⟩
abbrev main_v42_1 : Ref sig .tc := ⟨.hbm, 53, rfl⟩
abbrev main_v42_2 : Ref sig .tc := ⟨.hbm, 54, rfl⟩
abbrev main_v42_3 : Ref sig .tc := ⟨.hbm, 55, rfl⟩
abbrev main_v42_4 : Ref sig .tc := ⟨.hbm, 56, rfl⟩
abbrev main_v42_5 : Ref sig .tc := ⟨.hbm, 57, rfl⟩
abbrev main_v42_6 : Ref sig .tc := ⟨.hbm, 58, rfl⟩
abbrev main_v42_7 : Ref sig .tc := ⟨.hbm, 59, rfl⟩
abbrev main_v42_8 : Ref sig .tc := ⟨.hbm, 60, rfl⟩
abbrev main_v42_9 : Ref sig .tc := ⟨.hbm, 61, rfl⟩
abbrev main_v42_10 : Ref sig .tc := ⟨.hbm, 62, rfl⟩
abbrev main_v42_11 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_scratch0 : Ref sig .tc := ⟨.vmem, 41, rfl⟩
abbrev cc0_scratch1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1568x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2x512x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2x512x64 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== MixinRefIdeal.lean ====
abbrev S8x4096x1024 : Shape := ⟨3, ![8, 4096, 1024]⟩
abbrev S8x9216 : Shape := ⟨2, ![8, 9216]⟩
abbrev S1024x4316 : Shape := ⟨2, ![1024, 4316]⟩
abbrev S128 : Shape := ⟨1, ![128]⟩
abbrev S128x128 : Shape := ⟨2, ![128, 128]⟩
abbrev S4096x32 : Shape := ⟨2, ![4096, 32]⟩
abbrev S8x1024 : Shape := ⟨2, ![8, 1024]⟩
abbrev S8x1x1024 : Shape := ⟨3, ![8, 1, 1024]⟩
abbrev S_ : Shape := ⟨0, ![]⟩
abbrev S8x4096x4316 : Shape := ⟨3, ![8, 4096, 4316]⟩
abbrev S4096x1x32 : Shape := ⟨3, ![4096, 1, 32]⟩
abbrev S8x4096x512 : Shape := ⟨3, ![8, 4096, 512]⟩
abbrev S8x4096x128 : Shape := ⟨3, ![8, 4096, 128]⟩
abbrev S8x4096x256 : Shape := ⟨3, ![8, 4096, 256]⟩
abbrev S8x4096x64 : Shape := ⟨3, ![8, 4096, 64]⟩
abbrev S8x4096x4 : Shape := ⟨3, ![8, 4096, 4]⟩
abbrev S8x4096x24 : Shape := ⟨3, ![8, 4096, 24]⟩
abbrev S8x4096x768 : Shape := ⟨3, ![8, 4096, 768]⟩
abbrev S8x4096 : Shape := ⟨2, ![8, 4096]⟩
abbrev S8x4096x1 : Shape := ⟨3, ![8, 4096, 1]⟩
abbrev S1x1x128 : Shape := ⟨3, ![1, 1, 128]⟩
abbrev S8x4096x32 : Shape := ⟨3, ![8, 4096, 32]⟩
abbrev S8x4096x8x64 : Shape := ⟨4, ![8, 4096, 8, 64]⟩
abbrev S8x4096x8x32 : Shape := ⟨4, ![8, 4096, 8, 32]⟩
abbrev S1x4096x1x32 : Shape := ⟨4, ![1, 4096, 1, 32]⟩
abbrev S8x512x4096 : Shape := ⟨3, ![8, 512, 4096]⟩
abbrev S8x4096x4x64 : Shape := ⟨4, ![8, 4096, 4, 64]⟩
abbrev S8x4096x4x32 : Shape := ⟨4, ![8, 4096, 4, 32]⟩
abbrev S8x256x4096 : Shape := ⟨3, ![8, 256, 4096]⟩
abbrev S8x64x4096 : Shape := ⟨3, ![8, 64, 4096]⟩
abbrev S8x128x4096 : Shape := ⟨3, ![8, 128, 4096]⟩
abbrev S8x32x4096 : Shape := ⟨3, ![8, 32, 4096]⟩
abbrev S8x4096x1x64 : Shape := ⟨4, ![8, 4096, 1, 64]⟩
abbrev S8x4096x1x32 : Shape := ⟨4, ![8, 4096, 1, 32]⟩
abbrev S8x4096x2x64 : Shape := ⟨4, ![8, 4096, 2, 64]⟩
abbrev S8x4096x2x32 : Shape := ⟨4, ![8, 4096, 2, 32]⟩
abbrev S8x2x4096x64 : Shape := ⟨4, ![8, 2, 4096, 64]⟩

abbrev nBuf : Space → Nat
  | .hbm => 244
  | .vmem => 0
  | .smem => 0
  | _ => 0

abbrev hbmTy0_0 (i : Nat) : BufTy := match i % 128 with
  | 0 => ⟨S8x4096x1024, .f32⟩
  | 1 => ⟨S8x9216, .f32⟩
  | 2 => ⟨S1024x4316, .f32⟩
  | 3 => ⟨S128, .f32⟩
  | 4 => ⟨S128x128, .f32⟩
  | 5 => ⟨S4096x32, .f32⟩
  | 6 => ⟨S4096x32, .f32⟩
  | 7 => ⟨S8x1024, .f32⟩
  | 8 => ⟨S8x1024, .f32⟩
  | 9 => ⟨S8x1x1024, .f32⟩
  | 10 => ⟨S_, .f32⟩
  | 11 => ⟨S8x1x1024, .f32⟩
  | 12 => ⟨S8x1x1024, .f32⟩
  | 13 => ⟨S8x4096x1024, .f32⟩
  | 14 => ⟨S8x4096x1024, .f32⟩
  | 15 => ⟨S8x1x1024, .f32⟩
  | 16 => ⟨S8x4096x1024, .f32⟩
  | 17 => ⟨S8x4096x1024, .f32⟩
  | 18 => ⟨S8x4096x4316, .f32⟩
  | 19 => ⟨S4096x1x32, .f32⟩
  | 20 => ⟨S4096x1x32, .f32⟩
  | 21 => ⟨S8x4096x512, .f32⟩
  | 22 => ⟨S8x4096x128, .f32⟩
  | 23 => ⟨S8x4096x256, .f32⟩
  | 24 => ⟨S8x4096x64, .f32⟩
  | 25 => ⟨S8x4096x4, .f32⟩
  | 26 => ⟨S8x4096x512, .f32⟩
  | 27 => ⟨S8x4096x24, .f32⟩
  | 28 => ⟨S8x4096x768, .f32⟩
  | 29 => ⟨S8x4096x128, .f32⟩
  | 30 => ⟨S8x4096x128, .f32⟩
  | 31 => ⟨S8x4096x128, .f32⟩
  | 32 => ⟨S8x4096x128, .f32⟩
  | 33 => ⟨S8x4096x128, .f32⟩
  | 34 => ⟨S8x4096x128, .f32⟩
  | 35 => ⟨S8x4096x128, .f32⟩
  | 36 => ⟨S_, .f32⟩
  | 37 => ⟨S8x4096, .f32⟩
  | 38 => ⟨S8x4096x1, .f32⟩
  | 39 => ⟨S_, .f32⟩
  | 40 => ⟨S8x4096x1, .f32⟩
  | 41 => ⟨S8x4096x1, .f32⟩
  | 42 => ⟨S_, .f32⟩
  | 43 => ⟨S8x4096x1, .f32⟩
  | 44 => ⟨S8x4096x1, .f32⟩
  | 45 => ⟨S8x4096x1, .f32⟩
  | 46 => ⟨S8x4096x128, .f32⟩
  | 47 => ⟨S8x4096x128, .f32⟩
  | 48 => ⟨S1x1x128, .f32⟩
  | 49 => ⟨S8x4096x128, .f32⟩
  | 50 => ⟨S8x4096x128, .f32⟩
  | 51 => ⟨S8x4096x128, .f32⟩
  | 52 => ⟨S8x4096x64, .f32⟩
  | 53 => ⟨S8x4096x64, .f32⟩
  | 54 => ⟨S8x4096x24, .f32⟩
  | 55 => ⟨S8x4096x24, .f32⟩
  | 56 => ⟨S_, .f32⟩
  | 57 => ⟨S8x4096x24, .f32⟩
  | 58 => ⟨S8x4096x24, .f32⟩
  | 59 => ⟨S_, .f32⟩
  | 60 => ⟨S8x4096x24, .f32⟩
  | 61 => ⟨S8x4096x24, .f32⟩
  | 62 => ⟨S_, .f32⟩
  | 63 => ⟨S8x4096x4, .f32⟩
  | 64 => ⟨S8x4096x4, .f32⟩
  | 65 => ⟨S_, .f32⟩
  | 66 => ⟨S8x4096x4, .f32⟩
  | 67 => ⟨S8x4096x32, .f32⟩
  | 68 => ⟨S8x4096x8x64, .f32⟩
  | 69 => ⟨S8x4096x8x32, .f32⟩
  | 70 => ⟨S8x4096x8x32, .f32⟩
  | 71 => ⟨S1x4096x1x32, .f32⟩
  | 72 => ⟨S8x4096x8x32, .f32⟩
  | 73 => ⟨S8x4096x8x32, .f32⟩
  | 74 => ⟨S1x4096x1x32, .f32⟩
  | 75 => ⟨S8x4096x8x32, .f32⟩
  | 76 => ⟨S8x4096x8x32, .f32⟩
  | 77 => ⟨S8x4096x8x32, .f32⟩
  | 78 => ⟨S1x4096x1x32, .f32⟩
  | 79 => ⟨S8x4096x8x32, .f32⟩
  | 80 => ⟨S8x4096x8x32, .f32⟩
  | 81 => ⟨S1x4096x1x32, .f32⟩
  | 82 => ⟨S8x4096x8x32, .f32⟩
  | 83 => ⟨S8x4096x8x32, .f32⟩
  | 84 => ⟨S8x4096x8x32, .f32⟩
  | 85 => ⟨S8x4096x8x64, .f32⟩
  | 86 => ⟨S_, .f32⟩
  | 87 => ⟨S8x4096x8x64, .f32⟩
  | 88 => ⟨S8x4096x8x64, .f32⟩
  | 89 => ⟨S8x4096x512, .f32⟩
  | 90 => ⟨S8x512x4096, .f32⟩
  | 91 => ⟨S8x512x4096, .bf16⟩
  | 92 => ⟨S8x4096x8x64, .f32⟩
  | 93 => ⟨S8x4096x8x32, .f32⟩
  | 94 => ⟨S8x4096x8x32, .f32⟩
  | 95 => ⟨S1x4096x1x32, .f32⟩
  | 96 => ⟨S8x4096x8x32, .f32⟩
  | 97 => ⟨S8x4096x8x32, .f32⟩
  | 98 => ⟨S1x4096x1x32, .f32⟩
  | 99 => ⟨S8x4096x8x32, .f32⟩
  | 100 => ⟨S8x4096x8x32, .f32⟩
  | 101 => ⟨S8x4096x8x32, .f32⟩
  | 102 => ⟨S1x4096x1x32, .f32⟩
  | 103 => ⟨S8x4096x8x32, .f32⟩
  | 104 => ⟨S8x4096x8x32, .f32⟩
  | 105 => ⟨S1x4096x1x32, .f32⟩
  | 106 => ⟨S8x4096x8x32, .f32⟩
  | 107 => ⟨S8x4096x8x32, .f32⟩
  | 108 => ⟨S8x4096x8x32, .f32⟩
  | 109 => ⟨S8x4096x8x64, .f32⟩
  | 110 => ⟨S_, .f32⟩
  | 111 => ⟨S8x4096x8x64, .f32⟩
  | 112 => ⟨S8x4096x8x64, .f32⟩
  | 113 => ⟨S8x4096x512, .f32⟩
  | 114 => ⟨S8x512x4096, .f32⟩
  | 115 => ⟨S8x512x4096, .bf16⟩
  | 116 => ⟨S8x4096x4x64, .f32⟩
  | 117 => ⟨S8x4096x4x32, .f32⟩
  | 118 => ⟨S8x4096x4x32, .f32⟩
  | 119 => ⟨S1x4096x1x32, .f32⟩
  | 120 => ⟨S8x4096x4x32, .f32⟩
  | 121 => ⟨S8x4096x4x32, .f32⟩
  | 122 => ⟨S1x4096x1x32, .f32⟩
  | 123 => ⟨S8x4096x4x32, .f32⟩
  | 124 => ⟨S8x4096x4x32, .f32⟩
  | 125 => ⟨S8x4096x4x32, .f32⟩
  | 126 => ⟨S1x4096x1x32, .f32⟩
  | 127 => ⟨S8x4096x4x32, .f32⟩
  | _ => ⟨S8x4096x1024, .f32⟩

abbrev hbmTy0_1 (i : Nat) : BufTy := match i % 128 with
  | 0 => ⟨S8x4096x4x32, .f32⟩
  | 1 => ⟨S1x4096x1x32, .f32⟩
  | 2 => ⟨S8x4096x4x32, .f32⟩
  | 3 => ⟨S8x4096x4x32, .f32⟩
  | 4 => ⟨S8x4096x4x32, .f32⟩
  | 5 => ⟨S8x4096x4x64, .f32⟩
  | 6 => ⟨S8x4096x256, .f32⟩
  | 7 => ⟨S8x256x4096, .f32⟩
  | 8 => ⟨S8x256x4096, .bf16⟩
  | 9 => ⟨S8x64x4096, .f32⟩
  | 10 => ⟨S8x64x4096, .bf16⟩
  | 11 => ⟨S8x128x4096, .f32⟩
  | 12 => ⟨S8x128x4096, .bf16⟩
  | 13 => ⟨S8x128x4096, .f32⟩
  | 14 => ⟨S8x128x4096, .bf16⟩
  | 15 => ⟨S8x32x4096, .f32⟩
  | 16 => ⟨S8x4096x1x64, .f32⟩
  | 17 => ⟨S8x4096x1x32, .f32⟩
  | 18 => ⟨S8x4096x1x32, .f32⟩
  | 19 => ⟨S1x4096x1x32, .f32⟩
  | 20 => ⟨S8x4096x1x32, .f32⟩
  | 21 => ⟨S8x4096x1x32, .f32⟩
  | 22 => ⟨S1x4096x1x32, .f32⟩
  | 23 => ⟨S8x4096x1x32, .f32⟩
  | 24 => ⟨S8x4096x1x32, .f32⟩
  | 25 => ⟨S8x4096x1x32, .f32⟩
  | 26 => ⟨S1x4096x1x32, .f32⟩
  | 27 => ⟨S8x4096x1x32, .f32⟩
  | 28 => ⟨S8x4096x1x32, .f32⟩
  | 29 => ⟨S1x4096x1x32, .f32⟩
  | 30 => ⟨S8x4096x1x32, .f32⟩
  | 31 => ⟨S8x4096x1x32, .f32⟩
  | 32 => ⟨S8x4096x1x32, .f32⟩
  | 33 => ⟨S8x4096x1x64, .f32⟩
  | 34 => ⟨S8x4096x64, .f32⟩
  | 35 => ⟨S8x4096x64, .bf16⟩
  | 36 => ⟨S8x4096x1x64, .f32⟩
  | 37 => ⟨S8x4096x1x32, .f32⟩
  | 38 => ⟨S8x4096x1x32, .f32⟩
  | 39 => ⟨S1x4096x1x32, .f32⟩
  | 40 => ⟨S8x4096x1x32, .f32⟩
  | 41 => ⟨S8x4096x1x32, .f32⟩
  | 42 => ⟨S1x4096x1x32, .f32⟩
  | 43 => ⟨S8x4096x1x32, .f32⟩
  | 44 => ⟨S8x4096x1x32, .f32⟩
  | 45 => ⟨S8x4096x1x32, .f32⟩
  | 46 => ⟨S1x4096x1x32, .f32⟩
  | 47 => ⟨S8x4096x1x32, .f32⟩
  | 48 => ⟨S8x4096x1x32, .f32⟩
  | 49 => ⟨S1x4096x1x32, .f32⟩
  | 50 => ⟨S8x4096x1x32, .f32⟩
  | 51 => ⟨S8x4096x1x32, .f32⟩
  | 52 => ⟨S8x4096x1x32, .f32⟩
  | 53 => ⟨S8x4096x1x64, .f32⟩
  | 54 => ⟨S8x4096x64, .f32⟩
  | 55 => ⟨S8x4096x64, .bf16⟩
  | 56 => ⟨S8x4096x2x64, .f32⟩
  | 57 => ⟨S8x4096x2x32, .f32⟩
  | 58 => ⟨S8x4096x2x32, .f32⟩
  | 59 => ⟨S1x4096x1x32, .f32⟩
  | 60 => ⟨S8x4096x2x32, .f32⟩
  | 61 => ⟨S8x4096x2x32, .f32⟩
  | 62 => ⟨S1x4096x1x32, .f32⟩
  | 63 => ⟨S8x4096x2x32, .f32⟩
  | 64 => ⟨S8x4096x2x32, .f32⟩
  | 65 => ⟨S8x4096x2x32, .f32⟩
  | 66 => ⟨S1x4096x1x32, .f32⟩
  | 67 => ⟨S8x4096x2x32, .f32⟩
  | 68 => ⟨S8x4096x2x32, .f32⟩
  | 69 => ⟨S1x4096x1x32, .f32⟩
  | 70 => ⟨S8x4096x2x32, .f32⟩
  | 71 => ⟨S8x4096x2x32, .f32⟩
  | 72 => ⟨S8x4096x2x32, .f32⟩
  | 73 => ⟨S8x4096x2x64, .f32⟩
  | 74 => ⟨S8x2x4096x64, .f32⟩
  | 75 => ⟨S8x2x4096x64, .bf16⟩
  | 76 => ⟨S8x4096x2x64, .f32⟩
  | 77 => ⟨S8x4096x2x32, .f32⟩
  | 78 => ⟨S8x4096x2x32, .f32⟩
  | 79 => ⟨S1x4096x1x32, .f32⟩
  | 80 => ⟨S8x4096x2x32, .f32⟩
  | 81 => ⟨S8x4096x2x32, .f32⟩
  | 82 => ⟨S1x4096x1x32, .f32⟩
  | 83 => ⟨S8x4096x2x32, .f32⟩
  | 84 => ⟨S8x4096x2x32, .f32⟩
  | 85 => ⟨S8x4096x2x32, .f32⟩
  | 86 => ⟨S1x4096x1x32, .f32⟩
  | 87 => ⟨S8x4096x2x32, .f32⟩
  | 88 => ⟨S8x4096x2x32, .f32⟩
  | 89 => ⟨S1x4096x1x32, .f32⟩
  | 90 => ⟨S8x4096x2x32, .f32⟩
  | 91 => ⟨S8x4096x2x32, .f32⟩
  | 92 => ⟨S8x4096x2x32, .f32⟩
  | 93 => ⟨S8x4096x2x64, .f32⟩
  | 94 => ⟨S8x2x4096x64, .f32⟩
  | 95 => ⟨S8x2x4096x64, .bf16⟩
  | 96 => ⟨S8x4096x2x64, .f32⟩
  | 97 => ⟨S8x4096x2x32, .f32⟩
  | 98 => ⟨S8x4096x2x32, .f32⟩
  | 99 => ⟨S1x4096x1x32, .f32⟩
  | 100 => ⟨S8x4096x2x32, .f32⟩
  | 101 => ⟨S8x4096x2x32, .f32⟩
  | 102 => ⟨S1x4096x1x32, .f32⟩
  | 103 => ⟨S8x4096x2x32, .f32⟩
  | 104 => ⟨S8x4096x2x32, .f32⟩
  | 105 => ⟨S8x4096x2x32, .f32⟩
  | 106 => ⟨S1x4096x1x32, .f32⟩
  | 107 => ⟨S8x4096x2x32, .f32⟩
  | 108 => ⟨S8x4096x2x32, .f32⟩
  | 109 => ⟨S1x4096x1x32, .f32⟩
  | 110 => ⟨S8x4096x2x32, .f32⟩
  | 111 => ⟨S8x4096x2x32, .f32⟩
  | 112 => ⟨S8x4096x2x32, .f32⟩
  | 113 => ⟨S8x4096x2x64, .f32⟩
  | 114 => ⟨S8x4096x128, .f32⟩
  | 115 => ⟨S8x4096x256, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_8 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩

abbrev nD : Nat := 1
abbrev τ : Topo := Topo.v7x

variable {F : FTy → Type} [FloatOps F]
-- ==== Ada.lean ====
abbrev S8x1024 : Shape := ⟨2, ![8, 1024]⟩
abbrev S1024x9216 : Shape := ⟨2, ![1024, 9216]⟩
abbrev S9216 : Shape := ⟨1, ![9216]⟩
abbrev S1x9216 : Shape := ⟨2, ![1, 9216]⟩
abbrev S8x9216 : Shape := ⟨2, ![8, 9216]⟩
abbrev S1024x1152 : Shape := ⟨2, ![1024, 1152]⟩
abbrev S1x1152 : Shape := ⟨2, ![1, 1152]⟩
abbrev S8x1152 : Shape := ⟨2, ![8, 1152]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S1x9216, .f32⟩
  | .hbm, ⟨4, _⟩ => ⟨S8x9216, .f32⟩
  | .local _ .vmem, ⟨0, _⟩ => ⟨S8x1024, .f32⟩
  | .local _ .vmem, ⟨1, _⟩ => ⟨S1024x1152, .f32⟩
  | .local _ .vmem, ⟨2, _⟩ => ⟨S1024x1152, .f32⟩
  | .local _ .vmem, ⟨3, _⟩ => ⟨S1x1152, .f32⟩
  | .local _ .vmem, ⟨4, _⟩ => ⟨S1x1152, .f32⟩
  | .local _ .vmem, ⟨5, _⟩ => ⟨S8x1152, .f32⟩
  | .local _ .vmem, ⟨6, _⟩ => ⟨S8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S1024x9216 : Shape := ⟨2, ![1024, 9216]⟩
abbrev S9216 : Shape := ⟨1, ![9216]⟩
abbrev S_ : Shape := ⟨0, ![]⟩
abbrev S8x9216 : Shape := ⟨2, ![8, 9216]⟩
abbrev S1x9216 : Shape := ⟨2, ![1, 9216]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x9216, .f32⟩
  | .hbm, ⟨13, _⟩ => ⟨S1x9216, .f32⟩
  | .hbm, ⟨14, _⟩ => ⟨S8x9216, .f32⟩
  | .hbm, ⟨15, _⟩ => ⟨S8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Compress.lean ====
abbrev S8x4096x256 : Shape := ⟨3, ![8, 4096, 256]⟩
abbrev S32x64 : Shape := ⟨2, ![32, 64]⟩
abbrev S2048x256 : Shape := ⟨2, ![2048, 256]⟩
abbrev S256x64 : Shape := ⟨2, ![256, 64]⟩
abbrev S8x4096x128 : Shape := ⟨3, ![8, 4096, 128]⟩
abbrev S8x256x16x2x64 : Shape := ⟨5, ![8, 256, 16, 2, 64]⟩
abbrev S8x2x256x16x64 : Shape := ⟨5, ![8, 2, 256, 16, 64]⟩
abbrev S8x2x256x1024 : Shape := ⟨4, ![8, 2, 256, 1024]⟩
abbrev S2x1024 : Shape := ⟨2, ![2, 1024]⟩
abbrev S2x1024x256 : Shape := ⟨3, ![2, 1024, 256]⟩
abbrev S64x256 : Shape := ⟨2, ![64, 256]⟩
abbrev S8x2x256x64 : Shape := ⟨4, ![8, 2, 256, 64]⟩
abbrev S8x2x64x256 : Shape := ⟨4, ![8, 2, 64, 256]⟩
abbrev S1x1x256x1024 : Shape := ⟨4, ![1, 1, 256, 1024]⟩
abbrev S1x1x256x64 : Shape := ⟨4, ![1, 1, 256, 64]⟩
abbrev S1x1x64x256 : Shape := ⟨4, ![1, 1, 64, 256]⟩
abbrev S256x1024 : Shape := ⟨2, ![256, 1024]⟩
abbrev S1x1024 : Shape := ⟨2, ![1, 1024]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 26
  | .vmem => 14
  | .smem => 0
  | _ => 0

abbrev bufTy : (tb : Table) → Fin (tcTables nBuf tb) → BufTy
  | .hbm, ⟨0, _⟩ => ⟨S8x4096x256, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S8x4096x128, .f32⟩
  | .hbm, ⟨8, _⟩ => ⟨S8x256x16x2x64, .f32⟩
  | .hbm, ⟨9, _⟩ => ⟨S8x2x256x16x64, .f32⟩
  | .hbm, ⟨10, _⟩ => ⟨S8x2x256x1024, .f32⟩
  | .hbm, ⟨11, _⟩ => ⟨S8x4096x128, .f32⟩
  | .hbm, ⟨12, _⟩ => ⟨S8x256x16x2x64, .f32⟩
  | .hbm, ⟨13, _⟩ => ⟨S8x2x256x16x64, .f32⟩
  | .hbm, ⟨14, _⟩ => ⟨S8x2x256x1024, .f32⟩
  | .hbm, ⟨15, _⟩ => ⟨S2x1024, .f32⟩
  | .hbm, ⟨16, _⟩ => ⟨S2x1024, .f32⟩
  | .hbm, ⟨17, _⟩ => ⟨S2048x256, .bf16⟩
  | .hbm, ⟨18, _⟩ => ⟨S2x1024x256, .bf16⟩
  | .hbm, ⟨19, _⟩ => ⟨S2048x256, .bf16⟩
  | .hbm, ⟨20, _⟩ => ⟨S2x1024x256, .bf16⟩
  | .hbm, ⟨21, _⟩ => ⟨S256x64, .bf16⟩
  | .hbm, ⟨22, _⟩ => ⟨S64x256, .f32⟩
  | .hbm, ⟨23, _⟩ => ⟨S64x256, .bf16⟩
  | .hbm, ⟨24, _⟩ => ⟨S8x2x256x64, .bf16⟩
  | .hbm, ⟨25, _⟩ => ⟨S8x2x64x256, .bf16⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S2x1024, .f32⟩
  | .local _ .vmem, ⟨5, _⟩ => ⟨S2x1024, .f32⟩
  | .local _ .vmem, ⟨6, _⟩ => ⟨S2x1024x256, .bf16⟩
  | .local _ .vmem, ⟨7, _⟩ => ⟨S2x1024x256, .bf16⟩
  | .local _ .vmem, ⟨8, _⟩ => ⟨S256x64, .bf16⟩
  | .local _ .vmem, ⟨9, _⟩ => ⟨S64x256, .bf16⟩
  | .local _ .vmem, ⟨10, _⟩ => ⟨S1x1x256x64, .bf16⟩
  | .local _ .vmem, ⟨11, _⟩ => ⟨S1x1x256x64, .bf16⟩
  | .local _ .vmem, ⟨12, _⟩ => ⟨S1x1x64x256, .bf16⟩
  | .local _ .vmem, ⟨13, _⟩ => ⟨S1x1x64x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CompressRefIdeal.lean ====
abbrev S8x4096x256 : Shape := ⟨3, ![8, 4096, 256]⟩
abbrev S32x64 : Shape := ⟨2, ![32, 64]⟩
abbrev S2048x256 : Shape := ⟨2, ![2048, 256]⟩
abbrev S256x64 : Shape := ⟨2, ![256, 64]⟩
abbrev S8x4096x128 : Shape := ⟨3, ![8, 4096, 128]⟩
abbrev S8x256x16x2x64 : Shape := ⟨5, ![8, 256, 16, 2, 64]⟩
abbrev S8x255x16x2x64 : Shape := ⟨5, ![8, 255, 16, 2, 64]⟩
abbrev S8x1x16x2x64 : Shape := ⟨5, ![8, 1, 16, 2, 64]⟩
abbrev S8x256x32x2x64 : Shape := ⟨5, ![8, 256, 32, 2, 64]⟩
abbrev S32x1x64 : Shape := ⟨3, ![32, 1, 64]⟩
abbrev S1x1x32x1x64 : Shape := ⟨5, ![1, 1, 32, 1, 64]⟩
abbrev S8x256x2x32x64 : Shape := ⟨5, ![8, 256, 2, 32, 64]⟩
abbrev S8x256x2x2048 : Shape := ⟨4, ![8, 256, 2, 2048]⟩
abbrev S8x256x2x256 : Shape := ⟨4, ![8, 256, 2, 256]⟩
abbrev S_ : Shape := ⟨0, ![]⟩
abbrev S8x256x2x64 : Shape := ⟨4, ![8, 256, 2, 64]⟩
abbrev S8x2x256x64 : Shape := ⟨4, ![8, 2, 256, 64]⟩
abbrev S8x2x64x256 : Shape := ⟨4, ![8, 2, 64, 256]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S8x4096x128, .f32⟩
  | .hbm, ⟨8, _⟩ => ⟨S8x256x16x2x64, .f32⟩
  | .hbm, ⟨9, _⟩ => ⟨S8x255x16x2x64, .f32⟩
  | .hbm, ⟨10, _⟩ => ⟨S8x1x16x2x64, .f32⟩
  | .hbm, ⟨11, _⟩ => ⟨S8x256x16x2x64, .f32⟩
  | .hbm, ⟨12, _⟩ => ⟨S8x256x32x2x64, .f32⟩
  | .hbm, ⟨13, _⟩ => ⟨S32x1x64, .f32⟩
  | .hbm, ⟨14, _⟩ => ⟨S1x1x32x1x64, .f32⟩
  | .hbm, ⟨15, _⟩ => ⟨S8x256x32x2x64, .f32⟩
  | .hbm, ⟨16, _⟩ => ⟨S8x256x32x2x64, .f32⟩
  | .hbm, ⟨17, _⟩ => ⟨S8x256x2x32x64, .f32⟩
  | .hbm, ⟨18, _⟩ => ⟨S8x256x2x2048, .f32⟩
  | .hbm, ⟨19, _⟩ => ⟨S8x256x2x256, .f32⟩
  | .hbm, ⟨20, _⟩ => ⟨S8x256x2x256, .f32⟩
  | .hbm, ⟨21, _⟩ => ⟨S8x256x2x256, .f32⟩
  | .hbm, ⟨22, _⟩ => ⟨S_, .f32⟩
  | .hbm, ⟨23, _⟩ => ⟨S8x256x2x256, .f32⟩
  | .hbm, ⟨24, _⟩ => ⟨S8x256x2x256, .f32⟩
  | .hbm, ⟨25, _⟩ => ⟨S_, .f32⟩
  | .hbm, ⟨26, _⟩ => ⟨S8x256x2x256, .f32⟩
  | .hbm, ⟨27, _⟩ => ⟨S8x256x2x256, .f32⟩
  | .hbm, ⟨28, _⟩ => ⟨S8x256x2x256, .f32⟩
  | .hbm, ⟨29, _⟩ => ⟨S8x256x2x64, .f32⟩
  | .hbm, ⟨30, _⟩ => ⟨S8x4096x128, .f32⟩
  | .hbm, ⟨31, _⟩ => ⟨S8x256x16x2x64, .f32⟩
  | .hbm, ⟨32, _⟩ => ⟨S8x255x16x2x64, .f32⟩
  | .hbm, ⟨33, _⟩ => ⟨S8x1x16x2x64, .f32⟩
  | .hbm, ⟨34, _⟩ => ⟨S8x256x16x2x64, .f32⟩
  | .hbm, ⟨35, _⟩ => ⟨S8x256x32x2x64, .f32⟩
  | .hbm, ⟨36, _⟩ => ⟨S32x1x64, .f32⟩
  | .hbm, ⟨37, _⟩ => ⟨S1x1x32x1x64, .f32⟩
  | .hbm, ⟨38, _⟩ => ⟨S8x256x32x2x64, .f32⟩
  | .hbm, ⟨39, _⟩ => ⟨S8x256x32x2x64, .f32⟩
  | .hbm, ⟨40, _⟩ => ⟨S8x256x2x32x64, .f32⟩
  | .hbm, ⟨41, _⟩ => ⟨S8x256x2x2048, .f32⟩
  | .hbm, ⟨42, _⟩ => ⟨S8x256x2x256, .f32⟩
  | .hbm, ⟨43, _⟩ => ⟨S8x256x2x256, .f32⟩
  | .hbm, ⟨44, _⟩ => ⟨S8x256x2x256, .f32⟩
  | .hbm, ⟨45, _⟩ => ⟨S_, .f32⟩
  | .hbm, ⟨46, _⟩ => ⟨S8x256x2x256, .f32⟩
  | .hbm, ⟨47, _⟩ => ⟨S8x256x2x256, .f32⟩
  | .hbm, ⟨48, _⟩ => ⟨S_, .f32⟩
  | .hbm, ⟨49, _⟩ => ⟨S8x256x2x256, .f32⟩
  | .hbm, ⟨50, _⟩ => ⟨S8x256x2x256, .f32⟩
  | .hbm, ⟨51, _⟩ => ⟨S8x256x2x256, .f32⟩
  | .hbm, ⟨52, _⟩ => ⟨S8x256x2x64, .f32⟩
  | .hbm, ⟨53, _⟩ => ⟨S8x2x256x64, .f32⟩
  | .hbm, ⟨54, _⟩ => ⟨S8x2x256x64, .bf16⟩
  | .hbm, ⟨55, _⟩ => ⟨S8x2x64x256, .f32⟩
  | .hbm, ⟨56, _⟩ => ⟨S8x2x64x256, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]
-- ==== Proof.DsaPart1.lean ====
/- The first third of the body run: the scores and their bit planes. -/
module

public import proofs.«01_k».proof.Proof.Gen.Kernel.Loops
public import proofs.«01_k».proof.Proof.Gen.Kernel.Frame

@[expose] public section

set_option maxRecDepth 16384

noncomputable section

namespace Cert.Kernel.Dsa

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- A third of the body run: what it reads comes back as it was, what it writes at some contents, and
    the continuation is reached at some returned values. -/
theorem run_part97 (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S1x32x128 .f32) (harg4 : arg4.IsWhole) (arg5 : Memref sig .tc .vmem S1x4096x64 .bf16) (harg5 : arg5.IsWhole) (arg6 : Memref sig .tc .vmem S1x4096x64 .bf16) (harg6 : arg6.IsWhole) (arg7 : Memref sig .tc .vmem S1x64x4096 .bf16) (harg7 : arg7.IsWhole) (arg8 : Memref sig .tc .vmem S1x128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S1x1024 .f32) (harg11 : arg11.IsWhole) (arg12 : Memref sig .tc .vmem S80x1024 .f32) (harg12 : arg12.IsWhole)  (x3 : Vec F S1x256x128 .bf16) (x4 : Vec F S1x32x128 .f32) (x5 : Vec F S1x4096x64 .bf16) (E : Set ℕ) (K : (Σ' (v4 : BitVec 32) (v7 : IVec S1x128 32) (v8 : IVec S512x128 32) (v32 : IVec S128x128 32), IVec S128x128 1) → sProp 𝕄) :
    iprop(owns (c : Thread nD τ) arg3 fullShare x3 ∗ owns (c : Thread nD τ) arg4 fullShare x4 ∗ owns (c : Thread nD τ) arg5 fullShare x5 ∗ (∃ d, owns (c : Thread nD τ) arg9 fullShare d) ∗ (∃ d, owns (c : Thread nD τ) arg10 fullShare d) ∗ (∀ r, iprop(owns (c : Thread nD τ) arg3 fullShare x3 ∗ owns (c : Thread nD τ) arg4 fullShare x4 ∗ owns (c : Thread nD τ) arg5 fullShare x5 ∗ (∃ d, owns (c : Thread nD τ) arg9 fullShare d) ∗ (∃ d, owns (c : Thread nD τ) arg10 fullShare d)) -∗ K r))
      ⊢ wp frame (wpE (defs₀ (F := F)) Variants.none c none) E (k0_part97 i arg2 harg2 arg3 harg3 arg4 harg4 arg5 harg5 arg6 harg6 arg7 harg7 arg8 harg8 arg9 harg9 arg10 harg10 arg11 harg11 arg12 harg12 ) K := by
    rw [k0_part97_eq_skeleton]; unfold k0_part97_skel
    unfold owns
    iintro ⟨⟨%f3, %hf3, H3⟩, ⟨%f4, %hf4, H4⟩, ⟨%f5, %hf5, H5⟩, ⟨%d9, %f9, -, H9⟩, ⟨%d10, %f10, -, H10⟩, Hk⟩
    obtain rfl := harg3.eq_unread hf3; obtain rfl := harg4.eq_unread hf4; obtain rfl := harg5.eq_unread hf5
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]
    · iexists _, _; isplitr; swap; · iexact H9
      ipureintro; rfl
    iexists _, _; isplitr; swap; · iexact H10
    ipureintro; rfl

end Cert.Kernel.Dsa

end
-- ==== Proof.DsaPart2.lean ====
/- The second third of the body run: the search over the bit planes and the tie search. -/
module

public import proofs.«01_k».proof.Proof.Gen.Kernel.Loops
public import proofs.«01_k».proof.Proof.Gen.Kernel.Frame

@[expose] public section

set_option maxRecDepth 16384

noncomputable section

namespace Cert.Kernel.Dsa

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- A third of the body run: what it reads comes back as it was, what it writes at some contents, and
    the continuation is reached at some returned values. -/
theorem run_part98 (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S1x32x128 .f32) (harg4 : arg4.IsWhole) (arg5 : Memref sig .tc .vmem S1x4096x64 .bf16) (harg5 : arg5.IsWhole) (arg6 : Memref sig .tc .vmem S1x4096x64 .bf16) (harg6 : arg6.IsWhole) (arg7 : Memref sig .tc .vmem S1x64x4096 .bf16) (harg7 : arg7.IsWhole) (arg8 : Memref sig .tc .vmem S1x128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S1x1024 .f32) (harg11 : arg11.IsWhole) (arg12 : Memref sig .tc .vmem S80x1024 .f32) (harg12 : arg12.IsWhole) (v4 : BitVec 32) (v32 : IVec S128x128 32) (v34 : IVec S128x128 1)  (E : Set ℕ) (K : (Σ' (v48 : IVec S1x128 32) (v71 : IVec S1x128 32), FVec F S1x1024 .f32) → sProp 𝕄) :
    iprop((∃ d, owns (c : Thread nD τ) arg10 fullShare d) ∗ (∀ r, iprop((∃ d, owns (c : Thread nD τ) arg10 fullShare d)) -∗ K r))
      ⊢ wp frame (wpE (defs₀ (F := F)) Variants.none c none) E (k0_part98 i arg2 harg2 arg3 harg3 arg4 harg4 arg5 harg5 arg6 harg6 arg7 harg7 arg8 harg8 arg9 harg9 arg10 harg10 arg11 harg11 arg12 harg12 v4 v32 v34) K := by
    rw [k0_part98_eq_skeleton]; unfold k0_part98_skel
    unfold owns
    iintro ⟨⟨%d10, %f10, -, H10⟩, Hk⟩
    skip
    sl_exec
    split
    · sl_exec
      sl_step
      iapply Hk
      iexists _, _; isplitr; swap; · iexact H10
      ipureintro; rfl
    · sl_exec
      sl_step
      iapply Hk
      iexists _, _; isplitr; swap; · iexact H10
      ipureintro; rfl

end Cert.Kernel.Dsa

end
-- ==== Proof.DsaPart3.lean ====
/- The last third of the body run: the online softmax. -/
module

public import proofs.«01_k».proof.Proof.Gen.Kernel.Loops
public import proofs.«01_k».proof.Proof.Gen.Kernel.Frame

@[expose] public section

set_option maxRecDepth 16384

noncomputable section

namespace Cert.Kernel.Dsa

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- A third of the body run: what it reads comes back as it was, what it writes at some contents, and
    the continuation is reached at some returned values. -/
theorem run_part99 (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S1x32x128 .f32) (harg4 : arg4.IsWhole) (arg5 : Memref sig .tc .vmem S1x4096x64 .bf16) (harg5 : arg5.IsWhole) (arg6 : Memref sig .tc .vmem S1x4096x64 .bf16) (harg6 : arg6.IsWhole) (arg7 : Memref sig .tc .vmem S1x64x4096 .bf16) (harg7 : arg7.IsWhole) (arg8 : Memref sig .tc .vmem S1x128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S1x1024 .f32) (harg11 : arg11.IsWhole) (arg12 : Memref sig .tc .vmem S80x1024 .f32) (harg12 : arg12.IsWhole) (v4 : BitVec 32) (v7 : IVec S1x128 32) (v8 : IVec S512x128 32) (v48 : IVec S1x128 32) (v71 : IVec S1x128 32) (v72 : FVec F S1x1024 .f32) (x2 : Vec F S1x512x128 .bf16) (x6 : Vec F S1x4096x64 .bf16) (x7 : Vec F S1x64x4096 .bf16) (E : Set ℕ) (K : (FVec F S64x1024 .f32) → sProp 𝕄) :
    iprop(owns (c : Thread nD τ) arg2 fullShare x2 ∗ owns (c : Thread nD τ) arg6 fullShare x6 ∗ owns (c : Thread nD τ) arg7 fullShare x7 ∗ (∃ d, owns (c : Thread nD τ) arg9 fullShare d) ∗ (∃ d, owns (c : Thread nD τ) arg11 fullShare d) ∗ (∃ d, owns (c : Thread nD τ) arg12 fullShare d) ∗ (∀ r, iprop(owns (c : Thread nD τ) arg2 fullShare x2 ∗ owns (c : Thread nD τ) arg6 fullShare x6 ∗ owns (c : Thread nD τ) arg7 fullShare x7 ∗ (∃ d, owns (c : Thread nD τ) arg9 fullShare d) ∗ (∃ d, owns (c : Thread nD τ) arg11 fullShare d) ∗ (∃ d, owns (c : Thread nD τ) arg12 fullShare d)) -∗ K r))
      ⊢ wp frame (wpE (defs₀ (F := F)) Variants.none c none) E (k0_part99 i arg2 harg2 arg3 harg3 arg4 harg4 arg5 harg5 arg6 harg6 arg7 harg7 arg8 harg8 arg9 harg9 arg10 harg10 arg11 harg11 arg12 harg12 v4 v7 v8 v48 v71 v72) K := by
    rw [k0_part99_eq_skeleton]; unfold k0_part99_skel
    unfold owns
    iintro ⟨⟨%f2, %hf2, H2⟩, ⟨%f6, %hf6, H6⟩, ⟨%f7, %hf7, H7⟩, ⟨%d9, %f9, -, H9⟩, ⟨%d11, %f11, -, H11⟩, ⟨%d12, %f12, -, H12⟩, Hk⟩
    obtain rfl := harg2.eq_unread hf2; obtain rfl := harg6.eq_unread hf6; obtain rfl := harg7.eq_unread hf7
    sl_exec
    sl_step
    iapply Hk
    isplitl [H2]
    · iexists _; isplitr; · ipureintro; exact harg2.read_unread _
      iexact H2
    isplitl [H6]
    · iexists _; isplitr; · ipureintro; exact harg6.read_unread _
      iexact H6
    isplitl [H7]
    · iexists _; isplitr; · ipureintro; exact harg7.read_unread _
      iexact H7
    isplitl [H9]
    · iexists _, _; isplitr; swap; · iexact H9
      ipureintro; rfl
    isplitl [H11]
    · iexists _, _; isplitr; swap; · iexact H11
      ipureintro; rfl
    iexists _, _; isplitr; swap; · iexact H12
    ipureintro; rfl

end Cert.Kernel.Dsa

end
-- ==== Proof.DsaFrame.lean ====
/- The frame of the sparse attention call, at any values. -/
module

public import proofs.«01_k».proof.Proof.DsaPart1
public import proofs.«01_k».proof.Proof.DsaPart2
public import proofs.«01_k».proof.Proof.DsaPart3
public import Idealize.ShloMosaic.Lib.Pipeline.FrameBody

@[expose] public section

set_option maxRecDepth 16384

noncomputable section

namespace Cert.Kernel.Dsa

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The body on whole staging memrefs: the inputs' come back as they were, the output's and the
    scratch at some contents. -/
theorem run_body (c : Dev nD) (i : grid0.Coords) (arg2 : Memref sig .tc .vmem S1x512x128 .bf16) (harg2 : arg2.IsWhole) (arg3 : Memref sig .tc .vmem S1x256x128 .bf16) (harg3 : arg3.IsWhole) (arg4 : Memref sig .tc .vmem S1x32x128 .f32) (harg4 : arg4.IsWhole) (arg5 : Memref sig .tc .vmem S1x4096x64 .bf16) (harg5 : arg5.IsWhole) (arg6 : Memref sig .tc .vmem S1x4096x64 .bf16) (harg6 : arg6.IsWhole) (arg7 : Memref sig .tc .vmem S1x64x4096 .bf16) (harg7 : arg7.IsWhole) (arg8 : Memref sig .tc .vmem S1x128x512 .bf16) (harg8 : arg8.IsWhole) (arg9 : Memref sig .tc .vmem S4096x128 .i32) (harg9 : arg9.IsWhole) (arg10 : Memref sig .tc .vmem S32x128x128 .i32) (harg10 : arg10.IsWhole) (arg11 : Memref sig .tc .vmem S1x1024 .f32) (harg11 : arg11.IsWhole) (arg12 : Memref sig .tc .vmem S80x1024 .f32) (harg12 : arg12.IsWhole) (x2 : Vec F S1x512x128 .bf16) (x3 : Vec F S1x256x128 .bf16) (x4 : Vec F S1x32x128 .f32) (x5 : Vec F S1x4096x64 .bf16) (x6 : Vec F S1x4096x64 .bf16) (x7 : Vec F S1x64x4096 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_dsa i arg2 harg2 arg3 harg3 arg4 harg4 arg5 harg5 arg6 harg6 arg7 harg7 arg8 harg8 arg9 harg9 arg10 harg10 arg11 harg11 arg12 harg12) K := by
    rw [cc0_dsa_eq_skeleton]; unfold cc0_dsa_skel
    iintro ⟨H2, H3, H4, H5, H6, H7, H8, H9, H10, H11, H12, Hk⟩
    rw [wp_bind]
    iapply (run_part97 c i _ _ _ _ _ _ _ _ _ _ _ _ _ _ _ _ _ _ _ _ _ _ _ _ _ E _)
    isplitl [H3]; · iexact H3
    isplitl [H4]; · iexact H4
    isplitl [H5]; · iexact H5
    isplitl [H9]; · iexact H9
    isplitl [H10]; · iexact H10
    iintro %r97 ⟨H3, H4, H5, H9, H10⟩
    rw [wp_bind]
    iapply (run_part98 c i _ _ _ _ _ _ _ _ _ _ _ _ _ _ _ _ _ _ _ _ _ _ _ _ _  E _)
    isplitl [H10]; · iexact H10
    iintro %r98 ⟨H10⟩
    rw [wp_bind]
    iapply (run_part99 c i _ _ _ _ _ _ _ _ _ _ _ _ _ _ _ _ _ _ _ _ _ _ _ _ _ _ _ _ _ _ _ E _)
    isplitl [H2]; · iexact H2
    isplitl [H6]; · iexact H6
    isplitl [H7]; · iexact H7
    isplitl [H9]; · iexact H9
    isplitl [H11]; · iexact H11
    isplitl [H12]; · iexact H12
    iintro %r99 ⟨H2, H6, H7, H9, H11, H12⟩
    unfold owns
    icases H8 with ⟨%d8, %f8, -, H8⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]
    · iexists _, _; isplitr; swap; · iexact H8
      ipureintro; rfl
    isplitl [H9]; · iexact H9
    isplitl [H10]; · iexact H10
    isplitl [H11]; · iexact H11
    iexact H12

/-! ## The pipeline's proof data -/

abbrev ms0_0 (t : Fin cfg0.N) : Memref sig .tc .vmem S1x512x128 .bf16 := win0_0.stage (cfg0.slots t 0)
abbrev ms0_1 (t : Fin cfg0.N) : Memref sig .tc .vmem S1x256x128 .bf16 := win0_1.stage (cfg0.slots t 1)
abbrev ms0_2 (t : Fin cfg0.N) : Memref sig .tc .vmem S1x32x128 .f32 := win0_2.stage (cfg0.slots t 2)
abbrev ms0_3 (t : Fin cfg0.N) : Memref sig .tc .vmem S1x4096x64 .bf16 := win0_3.stage (cfg0.slots t 3)
abbrev ms0_4 (t : Fin cfg0.N) : Memref sig .tc .vmem S1x4096x64 .bf16 := win0_4.stage (cfg0.slots t 4)
abbrev ms0_5 (t : Fin cfg0.N) : Memref sig .tc .vmem S1x64x4096 .bf16 := win0_5.stage (cfg0.slots t 5)
abbrev ms0_6 (t : Fin cfg0.N) : Memref sig .tc .vmem S1x128x512 .bf16 := win0_6.stage (cfg0.slots t 6)

abbrev scM0_0 : Memref sig .tc .vmem S4096x128 .i32 := Memref.whole cc0_scratch0
abbrev scM0_1 : Memref sig .tc .vmem S32x128x128 .i32 := Memref.whole cc0_scratch1
abbrev scM0_2 : Memref sig .tc .vmem S1x1024 .f32 := Memref.whole cc0_scratch2
abbrev scM0_3 : Memref sig .tc .vmem S80x1024 .f32 := Memref.whole cc0_scratch3

/-- Between two grid points each of the four scratch buffers is owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

/-- The frame says nothing of the result array, window 6. -/
def forgets0 : Fin 7 → Bool := fun w => w.val == 6

/-- The proof data: after the body each input window holds its block, the output window anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 800000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((run_body c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every execution ends, the input arrays as they were, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the sparse attention call: the six arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    have a (w) (hw) := (Pipeline.RDat.FramePost.arr_in h.1 c w hw).trans (A_eq m c w)
    ⟨a 0 rfl, a 1 rfl, a 2 rfl, a 3 rfl, a 4 rfl, a 5 rfl⟩, h.2⟩) (run_main_quiescent m ρ)

end Cert.Kernel.Dsa

end
-- ==== Proof.AdaArray.lean ====
/- The conditioning call's result array as one function of its arguments, and the reference's as the same: each entry is a
   row of the activated condition times a column of the weights, plus the bias. -/
module

public import proofs.«01_k».proof.Proof.Gen.AdaIdeal.Value
public import proofs.«01_k».proof.Proof.Gen.AdaRefIdeal.Run
public import Idealize.ShloMosaic.Lib.ValueLayout
public import Idealize.ShloMosaic.Lib.Pointwise
public import Idealize.ShloMosaic.Lib.Tactic

@[expose] public section

set_option maxRecDepth 16384

noncomputable section

namespace Cert.AdaMath

open Idealize.ShloMosaic

/-- One entry of the modulation vectors. -/
def ada (x w : Fin 1024 → EReal) (b : EReal) : EReal := (∑ k, x k * Ideal.logistic (x k) * w k) + b

end Cert.AdaMath

namespace Cert.AdaIdeal.Block

open Cert.AdaIdeal Cert.AdaIdeal.Gen Cert.AdaIdeal.Value Idealize.ShloMosaic Idealize.ShloMosaic.TcCoe Idealize.ShloMosaic.Tactic Idealize.SL.Sem
open Cert.AdaMath (ada)

theorem hz2 : (![0, 0] : Fin 2 → Nat) = fun _ => 0 := funext fun a => by fin_cases a <;> rfl

/-- The block the body leaves. -/
theorem block_apply (x0 : Vec Ideal S8x1024 .f32) (x1 : Vec Ideal S1024x1152 .f32) (x2 : Vec Ideal S1x1152 .f32) (p : Fin 8) (n : Fin 1152) :
    out0_3 (F := Ideal) x0 x1 x2 (ix2 p n) = ada (fun k => x0 (ix2 p k)) (fun k => x1 (ix2 k n)) (x2 (ix2 0 n)) := by
  unfold out0_3
  rw [View.canon_unit_zero hz2]
  simp only [View.ld_unit_zero (S := S8x1024) hz2, View.ld_unit_zero (S := S1024x1152) hz2, View.ld_unit_zero (S := S1x1152) hz2]
  pointwise [k0_pay1]
  rfl

variable (m : (ℓ : Loc nD τ sig) → Buf (Elt Ideal) ℓ) (ρ : Dev nD → PrngReg)

theorem v0_apply (c : Dev nD) (n : Fin 9216) : V m c main_v0 (ix2 0 n) = (m ((c : Thread nD τ).loc main_arg2)) (ix1 n) := by
  rw [show V m c main_v0 = shapeCast S1x9216 (m ((c : Thread nD τ).loc main_arg2)) shapeCasts_S9216_S1x9216 from rfl]
  exact ValueIdx.shapeCast_a_1a_apply _ _ _ _

/-- Each window's block index at a point. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

/-- Column `n` of a point's column block. -/
def at_ (t : Fin cfg0.N) (n : Fin 1152) : Fin 9216 := ⟨t.val * 1152 + n.val, by have h : t.val < 8 := N_0 ▸ t.isLt; omega⟩

theorem emb0 (t : Fin cfg0.N) (p : Fin 8) (k : Fin 1024) : ((cfg0.win 0).blk t).view.emb (ix2 p k) = ix2 p k := by
  obtain ⟨e0, e1⟩ := idx0 t
  funext a; apply Fin.ext
  match a with
  | ⟨0, _⟩ => show win0_0.index t (0 : Fin 2) * 8 + 1 * p.val = p.val; omega
  | ⟨1, _⟩ => show win0_0.index t (1 : Fin 2) * 1024 + 1 * k.val = k.val; omega
theorem emb1 (t : Fin cfg0.N) (k : Fin 1024) (n : Fin 1152) : ((cfg0.win 1).blk t).view.emb (ix2 k n) = ix2 k (at_ t n) := by
  obtain ⟨e0, e1⟩ := idx1 t
  funext a; apply Fin.ext
  match a with
  | ⟨0, _⟩ => show win0_1.index t (0 : Fin 2) * 1024 + 1 * k.val = k.val; omega
  | ⟨1, _⟩ => show win0_1.index t (1 : Fin 2) * 1152 + 1 * n.val = t.val * 1152 + n.val; omega
theorem emb2 (t : Fin cfg0.N) (n : Fin 1152) : ((cfg0.win 2).blk t).view.emb (ix2 0 n) = ix2 0 (at_ t n) := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 1152 + 1 * n.val = t.val * 1152 + n.val; omega
theorem emb3 (t : Fin cfg0.N) (p : Fin 8) (n : Fin 1152) : ((cfg0.win 3).blk t).view.emb (ix2 p n) = ix2 p (at_ t n) := by
  obtain ⟨e0, e1⟩ := idx3 t
  funext a; apply Fin.ext
  match a with
  | ⟨0, _⟩ => show win0_3.index t (0 : Fin 2) * 8 + 1 * p.val = p.val; omega
  | ⟨1, _⟩ => show win0_3.index t (1 : Fin 2) * 1152 + 1 * n.val = t.val * 1152 + n.val; omega

theorem iblk0_apply (c : Dev nD) (t : Fin cfg0.N) (p : Fin 8) (k : Fin 1024) :
    iblk m c 0 t (ix2 p k) = (m ((c : Thread nD τ).loc main_arg0)) (ix2 p k) := by
  show V m c main_arg0 (((cfg0.win 0).blk t).view.emb (ix2 p k)) = _; rw [emb0, V_main_arg0]
theorem iblk1_apply (c : Dev nD) (t : Fin cfg0.N) (k : Fin 1024) (n : Fin 1152) :
    iblk m c 1 t (ix2 k n) = (m ((c : Thread nD τ).loc main_arg1)) (ix2 k (at_ t n)) := by
  show V m c main_arg1 (((cfg0.win 1).blk t).view.emb (ix2 k n)) = _; rw [emb1, V_main_arg1]
theorem iblk2_apply (c : Dev nD) (t : Fin cfg0.N) (n : Fin 1152) :
    iblk m c 2 t (ix2 0 n) = (m ((c : Thread nD τ).loc main_arg2)) (ix1 (at_ t n)) := by
  show V m c main_v0 (((cfg0.win 2).blk t).view.emb (ix2 0 n)) = _; rw [emb2, v0_apply]

/-- The result array of device `c`'s arguments. -/
def entry (x : FVec Ideal S8x1024 .f32) (w : FVec Ideal S1024x9216 .f32) (b : FVec Ideal S9216 .f32) (p : Fin 8) (n : Fin 9216) : EReal :=
  ada (fun k => x (ix2 p k)) (fun k => w (ix2 k n)) (b (ix1 n))
def result (c : Dev nD) : Buf (Elt Ideal) ((c : Thread nD τ).loc main_v1) := fun i =>
  entry (m ((c : Thread nD τ).loc main_arg0)) (m ((c : Thread nD τ).loc main_arg1)) (m ((c : Thread nD τ).loc main_arg2)) (i 0) (i 1)

theorem flushed_eq (c : Dev nD) (t : Fin cfg0.N) :
    (dats m 0 c).flushed 3 t = ((cfg0.win 3).blk t).view.read (Elt Ideal) (result m c) := by
  rw [flushed3]
  funext j
  show out0_3 (F := Ideal) _ _ _ j = result m c (((cfg0.win 3).blk t).view.emb j)
  idx_vars j
  show _ = result m c (((cfg0.win 3).blk t).view.emb (ix2 j0 j1))
  rw [emb3, block_apply]
  simp only [iblk0_apply, iblk1_apply, iblk2_apply]
  rfl

/-- Every index of the result array is in some point's block. -/
theorem cover (i : S8x9216.Idx) : ∃ t : Fin cfg0.N, (cfg0.win 3).flush t = true ∧ i ∈ ((cfg0.win 3).blk t).view.set := by
  have hN : cfg0.N = 8 := N_0
  idx_vars i
  have ht : i1.val / 1152 < cfg0.N := by rw [hN]; omega
  refine ⟨⟨i1.val / 1152, ht⟩, flush0_3 _, ?_⟩
  have e : ix2 i0 i1 = ((cfg0.win 3).blk ⟨i1.val / 1152, ht⟩).view.emb (ix2 i0 ⟨i1.val % 1152, by omega⟩) := by
    rw [emb3]
    funext a; apply Fin.ext
    match a with
    | ⟨0, _⟩ => rfl
    | ⟨1, _⟩ => show i1.val = i1.val / 1152 * 1152 + i1.val % 1152; omega
  show ix2 i0 i1 ∈ _
  rw [e]
  exact ((cfg0.win 3).blk ⟨i1.val / 1152, ht⟩).view.emb_mem_set _

theorem final (c : Dev nD) : (dats m 0 c).arrAt 3 cfg0.N = result m c :=
  (dats m 0 c).arrAt_eq_of_cover 3 (result m c) (fun t _ => flushed_eq m c t) cover

/-- The run, its result array named and its arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.AdaIdeal.Block

namespace Cert.AdaRefIdeal.Stages

open Cert.AdaRefIdeal Cert.AdaRefIdeal.Gen Idealize.ShloMosaic Idealize.ShloMosaic.TcCoe Idealize.ShloMosaic.Tactic

/-- The reference's result. -/
def res (x : FVec Ideal S8x1024 .f32) (w : FVec Ideal S1024x9216 .f32) (b : FVec Ideal S9216 .f32) : FVec Ideal S8x9216 .f32 :=
  addf (Host.dotGeneral dot_S8x1024_S1024x9216_S8x9216_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) w) (broadcastInDim S8x9216 ![0, 1] bcast_S1x9216_S8x9216_0_1 (broadcastInDim S1x9216 ![1] bcast_S9216_S1x9216_1 b))
theorem res_apply (x : FVec Ideal S8x1024 .f32) (w : FVec Ideal S1024x9216 .f32) (b : FVec Ideal S9216 .f32) (p : Fin 8) (n : Fin 9216) :
    res x w b (ix2 p n) = AdaMath.ada (fun k => x (ix2 p k)) (fun k => w (ix2 k n)) (b (ix1 n)) := by
  pointwise [res]
  rfl

end Cert.AdaRefIdeal.Stages
end
-- ==== Proof.CompressBlock.lean ====
/- What the compression's body leaves in its two result blocks at the ideal instance, read at an index as sums over the
   input blocks. -/
module

public import proofs.«01_k».proof.Proof.Gen.CompressIdeal.Value
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.CompressMath

open Idealize.ShloMosaic

/-- The activation. -/
def act (h : EReal) : EReal := h * Ideal.logistic h

/-- One hidden unit of one block of 32 tokens starting at token `16 r`, wrapping at the end: the tokens' features plus
    their positions, times the unit's weights. -/
def hid (X : Fin 4096 → Fin 64 → EReal) (pe : Fin 32 → Fin 64 → EReal) (w : Fin 2048 → EReal) (r : Fin 256) : EReal :=
  ∑ q : Fin 2048, (X ⟨(16 * r.val + q.val / 64) % 4096, Nat.mod_lt _ (by decide)⟩ ⟨q.val % 64, Nat.mod_lt _ (by decide)⟩
    + pe ⟨q.val / 64, by omega⟩ ⟨q.val % 64, Nat.mod_lt _ (by decide)⟩) * w q

/-- One feature of one block's compressed token. -/
def comp (X : Fin 4096 → Fin 64 → EReal) (pe : Fin 32 → Fin 64 → EReal) (w1 : Fin 2048 → Fin 256 → EReal) (w2 : Fin 256 → EReal) (r : Fin 256) : EReal :=
  ∑ j : Fin 256, act (hid X pe (fun q => w1 q j) r) * w2 j

/-- The block after block `r`, the first one after the last. -/
def next (r : Fin 256) : Fin 256 := ⟨(r.val + 1) % 256, Nat.mod_lt _ (by decide)⟩

/-- A hidden unit as the sum of its two halves of 16 tokens, the second half the next chunk's. -/
theorem hid_split (X : Fin 4096 → Fin 64 → EReal) (pe : Fin 32 → Fin 64 → EReal) (w : Fin 2048 → EReal) (r : Fin 256) :
    hid X pe w r =
      (∑ k : Fin 1024, (X ⟨16 * r.val + k.val / 64, by omega⟩ ⟨k.val % 64, Nat.mod_lt _ (by decide)⟩
        + pe ⟨k.val / 64, by omega⟩ ⟨k.val % 64, Nat.mod_lt _ (by decide)⟩) * w ⟨k.val, by omega⟩)
      + ∑ k : Fin 1024, (X ⟨16 * (next r).val + k.val / 64, by have := (next r).isLt; omega⟩ ⟨k.val % 64, Nat.mod_lt _ (by decide)⟩
        + pe ⟨16 + k.val / 64, by omega⟩ ⟨k.val % 64, Nat.mod_lt _ (by decide)⟩) * w ⟨1024 + k.val, by omega⟩ := by
  unfold hid
  rw [show (∑ q : Fin 2048, (X ⟨(16 * r.val + q.val / 64) % 4096, Nat.mod_lt _ (by decide)⟩ ⟨q.val % 64, Nat.mod_lt _ (by decide)⟩
    + pe ⟨q.val / 64, by omega⟩ ⟨q.val % 64, Nat.mod_lt _ (by decide)⟩) * w q) = _ from Fin.sum_univ_add (a := 1024) (b := 1024) _]
  refine congrArg₂ (· + ·) (Finset.sum_congr rfl fun k _ => ?_) (Finset.sum_congr rfl fun k _ => ?_)
  · refine congrArg₂ (· * ·) (congrArg₂ (· + ·) (congrArg₂ X (Fin.ext ?_) rfl) rfl) rfl
    show (16 * r.val + k.val / 64) % 4096 = 16 * r.val + k.val / 64
    omega
  · refine congrArg₂ (· * ·) (congrArg₂ (· + ·) (congrArg₂ X (Fin.ext ?_) (Fin.ext ?_)) (congrArg₂ pe (Fin.ext ?_) (Fin.ext ?_))) rfl
    · show (16 * r.val + (1024 + k.val) / 64) % 4096 = 16 * ((r.val + 1) % 256) + k.val / 64
      omega
    · show (1024 + k.val) % 64 = k.val % 64
      omega
    · show (1024 + k.val) / 64 = 16 + k.val / 64
      omega
    · show (1024 + k.val) % 64 = k.val % 64
      omega

end Cert.CompressMath

namespace Cert.CompressIdeal.Block

open Cert.CompressIdeal Cert.CompressIdeal.Gen Cert.CompressIdeal.Value Cert.CompressMath Idealize.ShloMosaic Idealize.ShloMosaic.TcCoe Idealize.ShloMosaic.Tactic

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A hidden unit as the body computes it from its blocks. -/
def unit_ (x : Vec Ideal S1x1x256x1024 .f32) (pe : Vec Ideal S2x1024 .f32) (w : Vec Ideal S2x1024x256 .bf16) (r j : Fin 256) : EReal :=
  (∑ k : Fin 1024, (x (ix4 0 0 r k) + pe (ix2 0 k)) * w (ix3 0 k j)) + ∑ k : Fin 1024, (x (ix4 0 0 (next r) k) + pe (ix2 1 k)) * w (ix3 1 k j)

theorem rot (r : Fin 256) (h : (r.val + 256 - (255#32).toNat % 256) % 256 < 256) :
    (⟨(r.val + 256 - (255#32).toNat % 256) % 256, h⟩ : Fin 256) = next r :=
  Fin.ext (show (r.val + 256 - 255 % 256) % 256 = (r.val + 1) % 256 by omega)

theorem out8_apply (x0 : Vec Ideal S1x1x256x1024 .f32) (x1 : Vec Ideal S1x1x256x1024 .f32) (x2 : Vec Ideal S2x1024 .f32) (x3 : Vec Ideal S2x1024 .f32) (x4 : Vec Ideal S2x1024x256 .bf16) (x5 : Vec Ideal S2x1024x256 .bf16) (x6 : Vec Ideal S256x64 .bf16) (x7 : Vec Ideal S64x256 .bf16)
    (r : Fin 256) (d : Fin 64) :
    out0_8 (F := Ideal) x0 x1 x2 x3 x4 x5 x6 x7 (ix4 0 0 r d) = ∑ j : Fin 256, act (unit_ x0 x2 x4 r j) * x6 (ix2 j d) := by
  unfold out0_8
  rw [View.canon_unit_zero hz4]
  pointwise [k0_pay2, View.ld]
  rfl

theorem out9_apply (x0 : Vec Ideal S1x1x256x1024 .f32) (x1 : Vec Ideal S1x1x256x1024 .f32) (x2 : Vec Ideal S2x1024 .f32) (x3 : Vec Ideal S2x1024 .f32) (x4 : Vec Ideal S2x1024x256 .bf16) (x5 : Vec Ideal S2x1024x256 .bf16) (x6 : Vec Ideal S256x64 .bf16) (x7 : Vec Ideal S64x256 .bf16)
    (d : Fin 64) (r : Fin 256) :
    out0_9 (F := Ideal) x0 x1 x2 x3 x4 x5 x6 x7 (ix4 0 0 d r) = ∑ j : Fin 256, act (unit_ x1 x3 x5 r j) * x7 (ix2 d j) := by
  unfold out0_9
  rw [View.canon_unit_zero hz4]
  pointwise [k0_pay1, View.ld]
  refine Finset.sum_congr rfl fun j _ => Eq.trans (mul_comm _ _) ?_
  rfl

end Cert.CompressIdeal.Block
end
-- ==== Proof.CompressArray.lean ====
/- The compression kernel's two result arrays as functions of its arguments: its host arrays and its windows' blocks read
   at an index, each point's write-back as its block of the function, the write-backs covering the array, and the run with
   the arrays named. -/
module

public import proofs.«01_k».proof.Proof.CompressBlock

@[expose] public section

set_option maxRecDepth 16384

noncomputable section

namespace Cert.CompressIdeal.Block

open Cert.CompressIdeal Cert.CompressIdeal.Gen Cert.CompressIdeal.Value Cert.CompressMath Idealize.ShloMosaic Idealize.ShloMosaic.TcCoe Idealize.ShloMosaic.Tactic Idealize.SL.Sem

variable (m : (ℓ : Loc nD τ sig) → Buf (Elt Ideal) ℓ) (ρ : Dev nD → PrngReg)

/-! ## The host arrays -/

theorem chunks_apply (y : FVec Ideal S8x4096x128 .f32) (b : Fin 8) (g : Fin 2) (r : Fin 256) (k : Fin 1024) :
    shapeCast S8x2x256x1024 (transpose S8x2x256x16x64 [0, 3, 1, 2, 4] (shapeCast S8x256x16x2x64 y shapeCasts_S8x4096x128_S8x256x16x2x64) transposes_S8x256x16x2x64_S8x2x256x16x64_0_3_1_2_4) shapeCasts_S8x2x256x16x64_S8x2x256x1024 (ix4 b g r k) =
      y (ix3 b ⟨16 * r.val + k.val / 64, by omega⟩ ⟨64 * g.val + k.val % 64, by omega⟩) := by
  pointwise
  exact congrArg y (congrArg₂ (ix3 b) (Fin.ext (by show r.val * 16 + k.val / 64 = 16 * r.val + k.val / 64; omega)) (Fin.ext (by show g.val * 64 + k.val % 64 = 64 * g.val + k.val % 64; omega)))

theorem halves_apply (x : FVec Ideal S32x64 .f32) (h : Fin 2) (k : Fin 1024) :
    shapeCast S2x1024 x shapeCasts_S32x64_S2x1024 (ix2 h k) = x (ix2 ⟨16 * h.val + k.val / 64, by omega⟩ ⟨k.val % 64, Nat.mod_lt _ (by decide)⟩) :=
  shapeCast_apply x _ _ _ (by
    rw [Shape.rowMajor_val_two, Shape.rowMajor_val_two]
    show (16 * h.val + k.val / 64) * 64 + k.val % 64 = h.val * 1024 + k.val
    omega)

theorem split_apply (x : FVec Ideal S2048x256 .bf16) (h : Fin 2) (k : Fin 1024) (j : Fin 256) :
    shapeCast S2x1024x256 x shapeCasts_S2048x256_S2x1024x256 (ix3 h k j) = x (ix2 ⟨1024 * h.val + k.val, by omega⟩ j) :=
  shapeCast_apply x _ _ _ (by
    rw [Shape.rowMajor_val_two, Shape.rowMajor_val_three]
    show (1024 * h.val + k.val) * 256 + j.val = (h.val * 1024 + k.val) * 256 + j.val
    omega)

theorem v3_apply (c : Dev nD) (b : Fin 8) (g : Fin 2) (r : Fin 256) (k : Fin 1024) :
    V m c main_v3 (ix4 b g r k) = (m ((c : Thread nD τ).loc main_arg0)) (ix3 b ⟨16 * r.val + k.val / 64, by omega⟩ ⟨64 * g.val + k.val % 64, by omega⟩) := by
  rw [show V m c main_v3 = shapeCast S8x2x256x1024 (transpose S8x2x256x16x64 [0, 3, 1, 2, 4] (shapeCast S8x256x16x2x64 (extractStridedSlice S8x4096x128 ![0, 0, 0] (m ((c : Thread nD τ).loc main_arg0)) slices_S8x4096x256_S8x4096x128_0_0_0) shapeCasts_S8x4096x128_S8x256x16x2x64) transposes_S8x256x16x2x64_S8x2x256x16x64_0_3_1_2_4) shapeCasts_S8x2x256x16x64_S8x2x256x1024 from rfl]
  rw [chunks_apply]
  pointwise

theorem v7_apply (c : Dev nD) (b : Fin 8) (g : Fin 2) (r : Fin 256) (k : Fin 1024) :
    V m c main_v7 (ix4 b g r k) = (m ((c : Thread nD τ).loc main_arg0)) (ix3 b ⟨16 * r.val + k.val / 64, by omega⟩ ⟨128 + (64 * g.val + k.val % 64), by omega⟩) := by
  rw [show V m c main_v7 = shapeCast S8x2x256x1024 (transpose S8x2x256x16x64 [0, 3, 1, 2, 4] (shapeCast S8x256x16x2x64 (extractStridedSlice S8x4096x128 ![0, 0, 128] (m ((c : Thread nD τ).loc main_arg0)) slices_S8x4096x256_S8x4096x128_0_0_128) shapeCasts_S8x4096x128_S8x256x16x2x64) transposes_S8x256x16x2x64_S8x2x256x16x64_0_3_1_2_4) shapeCasts_S8x2x256x16x64_S8x2x256x1024 from rfl]
  rw [chunks_apply]
  pointwise

theorem v8_apply (c : Dev nD) (h : Fin 2) (k : Fin 1024) :
    V m c main_v8 (ix2 h k) = (m ((c : Thread nD τ).loc main_arg1)) (ix2 ⟨16 * h.val + k.val / 64, by omega⟩ ⟨k.val % 64, Nat.mod_lt _ (by decide)⟩) := by
  rw [show V m c main_v8 = shapeCast S2x1024 (m ((c : Thread nD τ).loc main_arg1)) shapeCasts_S32x64_S2x1024 from rfl]
  exact halves_apply _ _ _

theorem v9_apply (c : Dev nD) (h : Fin 2) (k : Fin 1024) :
    V m c main_v9 (ix2 h k) = (m ((c : Thread nD τ).loc main_arg4)) (ix2 ⟨16 * h.val + k.val / 64, by omega⟩ ⟨k.val % 64, Nat.mod_lt _ (by decide)⟩) := by
  rw [show V m c main_v9 = shapeCast S2x1024 (m ((c : Thread nD τ).loc main_arg4)) shapeCasts_S32x64_S2x1024 from rfl]
  exact halves_apply _ _ _

theorem v11_apply (c : Dev nD) (h : Fin 2) (k : Fin 1024) (j : Fin 256) :
    V m c main_v11 (ix3 h k j) = (m ((c : Thread nD τ).loc main_arg2)) (ix2 ⟨1024 * h.val + k.val, by omega⟩ j) := by
  rw [show V m c main_v11 = shapeCast S2x1024x256 (truncf (F := Ideal) .bf16 (m ((c : Thread nD τ).loc main_arg2)) bitsLt_bf16_f32) shapeCasts_S2048x256_S2x1024x256 from rfl]
  exact split_apply _ _ _ _

theorem v13_apply (c : Dev nD) (h : Fin 2) (k : Fin 1024) (j : Fin 256) :
    V m c main_v13 (ix3 h k j) = (m ((c : Thread nD τ).loc main_arg5)) (ix2 ⟨1024 * h.val + k.val, by omega⟩ j) := by
  rw [show V m c main_v13 = shapeCast S2x1024x256 (truncf (F := Ideal) .bf16 (m ((c : Thread nD τ).loc main_arg5)) bitsLt_bf16_f32) shapeCasts_S2048x256_S2x1024x256 from rfl]
  exact split_apply _ _ _ _

theorem v14_apply (c : Dev nD) (j : Fin 256) (d : Fin 64) : V m c main_v14 (ix2 j d) = (m ((c : Thread nD τ).loc main_arg3)) (ix2 j d) := by
  rw [show V m c main_v14 = truncf (F := Ideal) .bf16 (m ((c : Thread nD τ).loc main_arg3)) bitsLt_bf16_f32 from rfl]
  pointwise

theorem v16_apply (c : Dev nD) (d : Fin 64) (j : Fin 256) : V m c main_v16 (ix2 d j) = (m ((c : Thread nD τ).loc main_arg6)) (ix2 j d) := by
  rw [show V m c main_v16 = truncf (F := Ideal) .bf16 (transpose S64x256 [1, 0] (m ((c : Thread nD τ).loc main_arg6)) transposes_S256x64_S64x256_1_0) bitsLt_bf16_f32 from rfl]
  pointwise

/-! ## The windows' blocks -/

def img (t : Fin cfg0.N) : Fin 8 := ⟨t.val / 2, by have h : t.val < 16 := N_0 ▸ t.isLt; omega⟩
def grp (t : Fin cfg0.N) : Fin 2 := ⟨t.val % 2, Nat.mod_lt _ (by decide)⟩

/-- Each window's block index at a point: the image and the group of the point, or nothing. -/
theorem idx0 : ∀ t : Fin cfg0.N, win0_0.index t (0 : Fin 4) = t.val / 2 ∧ win0_0.index t (1 : Fin 4) = t.val % 2 ∧ win0_0.index t (2 : Fin 4) = 0 ∧ win0_0.index t (3 : Fin 4) = 0 :=
  (by decide +kernel : ∀ t : Fin grid0.N, _)
theorem idx1 : ∀ t : Fin cfg0.N, win0_1.index t (0 : Fin 4) = t.val / 2 ∧ win0_1.index t (1 : Fin 4) = t.val % 2 ∧ win0_1.index t (2 : Fin 4) = 0 ∧ win0_1.index t (3 : Fin 4) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 4) = t.val / 2 ∧ win0_8.index t (1 : Fin 4) = t.val % 2 ∧ win0_8.index t (2 : Fin 4) = 0 ∧ win0_8.index t (3 : Fin 4) = 0 :=
  (by decide +kernel : ∀ t : Fin grid0.N, _)
theorem idx9 : ∀ t : Fin cfg0.N, win0_9.index t (0 : Fin 4) = t.val / 2 ∧ win0_9.index t (1 : Fin 4) = t.val % 2 ∧ win0_9.index t (2 : Fin 4) = 0 ∧ win0_9.index t (3 : Fin 4) = 0 :=
  (by decide +kernel : ∀ t : Fin grid0.N, _)

theorem emb0 (t : Fin cfg0.N) (j2 : Fin 256) (j3 : Fin 1024) : ((cfg0.win 0).blk t).view.emb (ix4 0 0 j2 j3) = ix4 (img t) (grp t) j2 j3 := by
  obtain ⟨e0, e1, e2, e3⟩ := idx0 t
  funext a; apply Fin.ext
  match a with
  | ⟨0, _⟩ => show win0_0.index t (0 : Fin 4) * 1 + 1 * 0 = t.val / 2; omega
  | ⟨1, _⟩ => show win0_0.index t (1 : Fin 4) * 1 + 1 * 0 = t.val % 2; omega
  | ⟨2, _⟩ => show win0_0.index t (2 : Fin 4) * 256 + 1 * j2.val = j2.val; omega
  | ⟨3, _⟩ => show win0_0.index t (3 : Fin 4) * 1024 + 1 * j3.val = j3.val; omega
theorem iblk0_apply (c : Dev nD) (t : Fin cfg0.N) (j2 : Fin 256) (j3 : Fin 1024) : iblk m c 0 t (ix4 0 0 j2 j3) = V m c main_v3 (ix4 (img t) (grp t) j2 j3) := by
  show V m c main_v3 (((cfg0.win 0).blk t).view.emb (ix4 0 0 j2 j3)) = _; rw [emb0]
theorem emb1 (t : Fin cfg0.N) (j2 : Fin 256) (j3 : Fin 1024) : ((cfg0.win 1).blk t).view.emb (ix4 0 0 j2 j3) = ix4 (img t) (grp t) j2 j3 := by
  obtain ⟨e0, e1, e2, e3⟩ := idx1 t
  funext a; apply Fin.ext
  match a with
  | ⟨0, _⟩ => show win0_1.index t (0 : Fin 4) * 1 + 1 * 0 = t.val / 2; omega
  | ⟨1, _⟩ => show win0_1.index t (1 : Fin 4) * 1 + 1 * 0 = t.val % 2; omega
  | ⟨2, _⟩ => show win0_1.index t (2 : Fin 4) * 256 + 1 * j2.val = j2.val; omega
  | ⟨3, _⟩ => show win0_1.index t (3 : Fin 4) * 1024 + 1 * j3.val = j3.val; omega
theorem iblk1_apply (c : Dev nD) (t : Fin cfg0.N) (j2 : Fin 256) (j3 : Fin 1024) : iblk m c 1 t (ix4 0 0 j2 j3) = V m c main_v7 (ix4 (img t) (grp t) j2 j3) := by
  show V m c main_v7 (((cfg0.win 1).blk t).view.emb (ix4 0 0 j2 j3)) = _; rw [emb1]
theorem emb2 (t : Fin cfg0.N) (j0 : Fin 2) (j1 : Fin 1024) : ((cfg0.win 2).blk t).view.emb (ix2 j0 j1) = ix2 j0 j1 := by
  obtain ⟨e0, e1⟩ := idx2 t
  funext a; apply Fin.ext
  match a with
  | ⟨0, _⟩ => show win0_2.index t (0 : Fin 2) * 2 + 1 * j0.val = j0.val; omega
  | ⟨1, _⟩ => show win0_2.index t (1 : Fin 2) * 1024 + 1 * j1.val = j1.val; omega
theorem iblk2_apply (c : Dev nD) (t : Fin cfg0.N) (j0 : Fin 2) (j1 : Fin 1024) : iblk m c 2 t (ix2 j0 j1) = V m c main_v8 (ix2 j0 j1) := by
  show V m c main_v8 (((cfg0.win 2).blk t).view.emb (ix2 j0 j1)) = _; rw [emb2]
theorem emb3 (t : Fin cfg0.N) (j0 : Fin 2) (j1 : Fin 1024) : ((cfg0.win 3).blk t).view.emb (ix2 j0 j1) = ix2 j0 j1 := by
  obtain ⟨e0, e1⟩ := idx3 t
  funext a; apply Fin.ext
  match a with
  | ⟨0, _⟩ => show win0_3.index t (0 : Fin 2) * 2 + 1 * j0.val = j0.val; omega
  | ⟨1, _⟩ => show win0_3.index t (1 : Fin 2) * 1024 + 1 * j1.val = j1.val; omega
theorem iblk3_apply (c : Dev nD) (t : Fin cfg0.N) (j0 : Fin 2) (j1 : Fin 1024) : iblk m c 3 t (ix2 j0 j1) = V m c main_v9 (ix2 j0 j1) := by
  show V m c main_v9 (((cfg0.win 3).blk t).view.emb (ix2 j0 j1)) = _; rw [emb3]
theorem emb4 (t : Fin cfg0.N) (j0 : Fin 2) (j1 : Fin 1024) (j2 : Fin 256) : ((cfg0.win 4).blk t).view.emb (ix3 j0 j1 j2) = ix3 j0 j1 j2 := by
  obtain ⟨e0, e1, e2⟩ := idx4 t
  funext a; apply Fin.ext
  match a with
  | ⟨0, _⟩ => show win0_4.index t (0 : Fin 3) * 2 + 1 * j0.val = j0.val; omega
  | ⟨1, _⟩ => show win0_4.index t (1 : Fin 3) * 1024 + 1 * j1.val = j1.val; omega
  | ⟨2, _⟩ => show win0_4.index t (2 : Fin 3) * 256 + 1 * j2.val = j2.val; omega
theorem iblk4_apply (c : Dev nD) (t : Fin cfg0.N) (j0 : Fin 2) (j1 : Fin 1024) (j2 : Fin 256) : iblk m c 4 t (ix3 j0 j1 j2) = V m c main_v11 (ix3 j0 j1 j2) := by
  show V m c main_v11 (((cfg0.win 4).blk t).view.emb (ix3 j0 j1 j2)) = _; rw [emb4]
theorem emb5 (t : Fin cfg0.N) (j0 : Fin 2) (j1 : Fin 1024) (j2 : Fin 256) : ((cfg0.win 5).blk t).view.emb (ix3 j0 j1 j2) = ix3 j0 j1 j2 := by
  obtain ⟨e0, e1, e2⟩ := idx5 t
  funext a; apply Fin.ext
  match a with
  | ⟨0, _⟩ => show win0_5.index t (0 : Fin 3) * 2 + 1 * j0.val = j0.val; omega
  | ⟨1, _⟩ => show win0_5.index t (1 : Fin 3) * 1024 + 1 * j1.val = j1.val; omega
  | ⟨2, _⟩ => show win0_5.index t (2 : Fin 3) * 256 + 1 * j2.val = j2.val; omega
theorem iblk5_apply (c : Dev nD) (t : Fin cfg0.N) (j0 : Fin 2) (j1 : Fin 1024) (j2 : Fin 256) : iblk m c 5 t (ix3 j0 j1 j2) = V m c main_v13 (ix3 j0 j1 j2) := by
  show V m c main_v13 (((cfg0.win 5).blk t).view.emb (ix3 j0 j1 j2)) = _; rw [emb5]
theorem emb6 (t : Fin cfg0.N) (j0 : Fin 256) (j1 : Fin 64) : ((cfg0.win 6).blk t).view.emb (ix2 j0 j1) = ix2 j0 j1 := by
  obtain ⟨e0, e1⟩ := idx6 t
  funext a; apply Fin.ext
  match a with
  | ⟨0, _⟩ => show win0_6.index t (0 : Fin 2) * 256 + 1 * j0.val = j0.val; omega
  | ⟨1, _⟩ => show win0_6.index t (1 : Fin 2) * 64 + 1 * j1.val = j1.val; omega
theorem iblk6_apply (c : Dev nD) (t : Fin cfg0.N) (j0 : Fin 256) (j1 : Fin 64) : iblk m c 6 t (ix2 j0 j1) = V m c main_v14 (ix2 j0 j1) := by
  show V m c main_v14 (((cfg0.win 6).blk t).view.emb (ix2 j0 j1)) = _; rw [emb6]
theorem emb7 (t : Fin cfg0.N) (j0 : Fin 64) (j1 : Fin 256) : ((cfg0.win 7).blk t).view.emb (ix2 j0 j1) = ix2 j0 j1 := by
  obtain ⟨e0, e1⟩ := idx7 t
  funext a; apply Fin.ext
  match a with
  | ⟨0, _⟩ => show win0_7.index t (0 : Fin 2) * 64 + 1 * j0.val = j0.val; omega
  | ⟨1, _⟩ => show win0_7.index t (1 : Fin 2) * 256 + 1 * j1.val = j1.val; omega
theorem iblk7_apply (c : Dev nD) (t : Fin cfg0.N) (j0 : Fin 64) (j1 : Fin 256) : iblk m c 7 t (ix2 j0 j1) = V m c main_v16 (ix2 j0 j1) := by
  show V m c main_v16 (((cfg0.win 7).blk t).view.emb (ix2 j0 j1)) = _; rw [emb7]
theorem emb8 (t : Fin cfg0.N) (j2 : Fin 256) (j3 : Fin 64) : ((cfg0.win 8).blk t).view.emb (ix4 0 0 j2 j3) = ix4 (img t) (grp t) j2 j3 := by
  obtain ⟨e0, e1, e2, e3⟩ := idx8 t
  funext a; apply Fin.ext
  match a with
  | ⟨0, _⟩ => show win0_8.index t (0 : Fin 4) * 1 + 1 * 0 = t.val / 2; omega
  | ⟨1, _⟩ => show win0_8.index t (1 : Fin 4) * 1 + 1 * 0 = t.val % 2; omega
  | ⟨2, _⟩ => show win0_8.index t (2 : Fin 4) * 256 + 1 * j2.val = j2.val; omega
  | ⟨3, _⟩ => show win0_8.index t (3 : Fin 4) * 64 + 1 * j3.val = j3.val; omega
theorem emb9 (t : Fin cfg0.N) (j2 : Fin 64) (j3 : Fin 256) : ((cfg0.win 9).blk t).view.emb (ix4 0 0 j2 j3) = ix4 (img t) (grp t) j2 j3 := by
  obtain ⟨e0, e1, e2, e3⟩ := idx9 t
  funext a; apply Fin.ext
  match a with
  | ⟨0, _⟩ => show win0_9.index t (0 : Fin 4) * 1 + 1 * 0 = t.val / 2; omega
  | ⟨1, _⟩ => show win0_9.index t (1 : Fin 4) * 1 + 1 * 0 = t.val % 2; omega
  | ⟨2, _⟩ => show win0_9.index t (2 : Fin 4) * 64 + 1 * j2.val = j2.val; omega
  | ⟨3, _⟩ => show win0_9.index t (3 : Fin 4) * 256 + 1 * j3.val = j3.val; omega

/-! ## The result arrays -/

theorem unit8 (c : Dev nD) (t : Fin cfg0.N) (b : Fin 8) (g : Fin 2) (hb : img t = b) (hg : grp t = g) (r j : Fin 256) :
    unit_ (iblk m c 0 t) (iblk m c 2 t) (iblk m c 4 t) r j = hid (fun s e => (m ((c : Thread nD τ).loc main_arg0)) (ix3 b s ⟨64 * g.val + e.val, by omega⟩)) (fun p e => (m ((c : Thread nD τ).loc main_arg1)) (ix2 p e)) (fun q => (m ((c : Thread nD τ).loc main_arg2)) (ix2 q j)) r := by
  subst hb hg
  rw [hid_split]
  unfold unit_
  refine congrArg₂ (· + ·) (Finset.sum_congr rfl fun k _ => ?_) (Finset.sum_congr rfl fun k _ => ?_)
  · rw [iblk0_apply, iblk2_apply, iblk4_apply, v3_apply, v8_apply, v11_apply]
    refine congrArg₂ (· * ·) (congrArg₂ (· + ·) rfl (congrArg (m ((c : Thread nD τ).loc main_arg1)) (congrArg₂ ix2 (Fin.ext ?_) rfl))) (congrArg (m ((c : Thread nD τ).loc main_arg2)) (congrArg₂ ix2 (Fin.ext ?_) rfl))
    · show 16 * 0 + k.val / 64 = k.val / 64
      omega
    · show 1024 * 0 + k.val = k.val
      omega
  · rw [iblk0_apply, iblk2_apply, iblk4_apply, v3_apply, v8_apply, v11_apply]
    rfl

/-- One entry of the result array. -/
def spec8 (c : Dev nD) (b : Fin 8) (g : Fin 2) (r : Fin 256) (d : Fin 64) : EReal :=
  comp (fun s e => (m ((c : Thread nD τ).loc main_arg0)) (ix3 b s ⟨64 * g.val + e.val, by omega⟩)) (fun p e => (m ((c : Thread nD τ).loc main_arg1)) (ix2 p e)) (fun q j => (m ((c : Thread nD τ).loc main_arg2)) (ix2 q j)) (fun j => (m ((c : Thread nD τ).loc main_arg3)) (ix2 j d)) r
def result8 (c : Dev nD) : Buf (Elt Ideal) ((c : Thread nD τ).loc main_v17_0) := fun i => spec8 m c (i 0) (i 1) (i 2) (i 3)
theorem spec8_blk (c : Dev nD) (t : Fin cfg0.N) (r : Fin 256) (d : Fin 64) :
    out0_8 (F := Ideal) (iblk m c 0 t) (iblk m c 1 t) (iblk m c 2 t) (iblk m c 3 t) (iblk m c 4 t) (iblk m c 5 t) (iblk m c 6 t) (iblk m c 7 t) (ix4 0 0 r d) = spec8 m c (img t) (grp t) r d := by
  rw [out8_apply]
  unfold spec8 comp
  refine Finset.sum_congr rfl fun j _ => ?_
  rw [unit8 m c t (img t) (grp t) rfl rfl, iblk6_apply, v14_apply]
theorem flushed_eq8 (c : Dev nD) (t : Fin cfg0.N) :
    (dats m 0 c).flushed 8 t = ((cfg0.win 8).blk t).view.read (Elt Ideal) (result8 m c) := by
  rw [flushed8]
  funext j
  show out0_8 (F := Ideal) _ _ _ _ _ _ _ _ j = result8 m c (((cfg0.win 8).blk t).view.emb j)
  idx_vars j
  obtain rfl : j0 = 0 := Subsingleton.elim _ _
  obtain rfl : j1 = 0 := Subsingleton.elim _ _
  show _ = result8 m c (((cfg0.win 8).blk t).view.emb (ix4 0 0 j2 j3))
  rw [emb8]
  exact spec8_blk m c t j2 j3
theorem cover8 (i : S8x2x256x64.Idx) :
    ∃ t : Fin cfg0.N, (cfg0.win 8).flush t = true ∧ i ∈ ((cfg0.win 8).blk t).view.set := by
  have hN : cfg0.N = 16 := N_0
  idx_vars i
  have ht : i0.val * 2 + i1.val < cfg0.N := by rw [hN]; omega
  refine ⟨⟨i0.val * 2 + i1.val, ht⟩, flush0_8 _, ?_⟩
  have e : ix4 i0 i1 i2 i3 = ((cfg0.win 8).blk ⟨i0.val * 2 + i1.val, ht⟩).view.emb (ix4 0 0 i2 i3) := by
    rw [emb8]
    funext a; apply Fin.ext
    match a with
    | ⟨0, _⟩ => show i0.val = (i0.val * 2 + i1.val) / 2; omega
    | ⟨1, _⟩ => show i1.val = (i0.val * 2 + i1.val) % 2; omega
    | ⟨2, _⟩ => rfl
    | ⟨3, _⟩ => rfl
  show ix4 i0 i1 i2 i3 ∈ _
  rw [e]
  exact ((cfg0.win 8).blk ⟨i0.val * 2 + i1.val, ht⟩).view.emb_mem_set _
theorem final8 (c : Dev nD) : (dats m 0 c).arrAt 8 cfg0.N = result8 m c :=
  (dats m 0 c).arrAt_eq_of_cover 8 (result8 m c) (fun t _ => flushed_eq8 m c t) cover8

theorem unit9 (c : Dev nD) (t : Fin cfg0.N) (b : Fin 8) (g : Fin 2) (hb : img t = b) (hg : grp t = g) (r j : Fin 256) :
    unit_ (iblk m c 1 t) (iblk m c 3 t) (iblk m c 5 t) r j = hid (fun s e => (m ((c : Thread nD τ).loc main_arg0)) (ix3 b s ⟨128 + (64 * g.val + e.val), by omega⟩)) (fun p e => (m ((c : Thread nD τ).loc main_arg4)) (ix2 p e)) (fun q => (m ((c : Thread nD τ).loc main_arg5)) (ix2 q j)) r := by
  subst hb hg
  rw [hid_split]
  unfold unit_
  refine congrArg₂ (· + ·) (Finset.sum_congr rfl fun k _ => ?_) (Finset.sum_congr rfl fun k _ => ?_)
  · rw [iblk1_apply, iblk3_apply, iblk5_apply, v7_apply, v9_apply, v13_apply]
    refine congrArg₂ (· * ·) (congrArg₂ (· + ·) rfl (congrArg (m ((c : Thread nD τ).loc main_arg4)) (congrArg₂ ix2 (Fin.ext ?_) rfl))) (congrArg (m ((c : Thread nD τ).loc main_arg5)) (congrArg₂ ix2 (Fin.ext ?_) rfl))
    · show 16 * 0 + k.val / 64 = k.val / 64
      omega
    · show 1024 * 0 + k.val = k.val
      omega
  · rw [iblk1_apply, iblk3_apply, iblk5_apply, v7_apply, v9_apply, v13_apply]
    rfl

/-- One entry of the result array. -/
def spec9 (c : Dev nD) (b : Fin 8) (g : Fin 2) (r : Fin 256) (d : Fin 64) : EReal :=
  comp (fun s e => (m ((c : Thread nD τ).loc main_arg0)) (ix3 b s ⟨128 + (64 * g.val + e.val), by omega⟩)) (fun p e => (m ((c : Thread nD τ).loc main_arg4)) (ix2 p e)) (fun q j => (m ((c : Thread nD τ).loc main_arg5)) (ix2 q j)) (fun j => (m ((c : Thread nD τ).loc main_arg6)) (ix2 j d)) r
def result9 (c : Dev nD) : Buf (Elt Ideal) ((c : Thread nD τ).loc main_v17_1) := fun i => spec9 m c (i 0) (i 1) (i 3) (i 2)
theorem spec9_blk (c : Dev nD) (t : Fin cfg0.N) (r : Fin 256) (d : Fin 64) :
    out0_9 (F := Ideal) (iblk m c 0 t) (iblk m c 1 t) (iblk m c 2 t) (iblk m c 3 t) (iblk m c 4 t) (iblk m c 5 t) (iblk m c 6 t) (iblk m c 7 t) (ix4 0 0 d r) = spec9 m c (img t) (grp t) r d := by
  rw [out9_apply]
  unfold spec9 comp
  refine Finset.sum_congr rfl fun j _ => ?_
  rw [unit9 m c t (img t) (grp t) rfl rfl, iblk7_apply, v16_apply]
theorem flushed_eq9 (c : Dev nD) (t : Fin cfg0.N) :
    (dats m 0 c).flushed 9 t = ((cfg0.win 9).blk t).view.read (Elt Ideal) (result9 m c) := by
  rw [flushed9]
  funext j
  show out0_9 (F := Ideal) _ _ _ _ _ _ _ _ j = result9 m c (((cfg0.win 9).blk t).view.emb j)
  idx_vars j
  obtain rfl : j0 = 0 := Subsingleton.elim _ _
  obtain rfl : j1 = 0 := Subsingleton.elim _ _
  show _ = result9 m c (((cfg0.win 9).blk t).view.emb (ix4 0 0 j2 j3))
  rw [emb9]
  exact spec9_blk m c t j3 j2
theorem cover9 (i : S8x2x64x256.Idx) :
    ∃ t : Fin cfg0.N, (cfg0.win 9).flush t = true ∧ i ∈ ((cfg0.win 9).blk t).view.set := by
  have hN : cfg0.N = 16 := N_0
  idx_vars i
  have ht : i0.val * 2 + i1.val < cfg0.N := by rw [hN]; omega
  refine ⟨⟨i0.val * 2 + i1.val, ht⟩, flush0_9 _, ?_⟩
  have e : ix4 i0 i1 i2 i3 = ((cfg0.win 9).blk ⟨i0.val * 2 + i1.val, ht⟩).view.emb (ix4 0 0 i2 i3) := by
    rw [emb9]
    funext a; apply Fin.ext
    match a with
    | ⟨0, _⟩ => show i0.val = (i0.val * 2 + i1.val) / 2; omega
    | ⟨1, _⟩ => show i1.val = (i0.val * 2 + i1.val) % 2; omega
    | ⟨2, _⟩ => rfl
    | ⟨3, _⟩ => rfl
  show ix4 i0 i1 i2 i3 ∈ _
  rw [e]
  exact ((cfg0.win 9).blk ⟨i0.val * 2 + i1.val, ht⟩).view.emb_mem_set _
theorem final9 (c : Dev nD) : (dats m 0 c).arrAt 9 cfg0.N = result9 m c :=
  (dats m 0 c).arrAt_eq_of_cover 9 (result9 m c) (fun t _ => flushed_eq9 m c t) cover9

/-- The run, its result arrays named and its arguments unchanged. -/
theorem run : θ_run defs (onTc (τ := τ) (main (F := Ideal))) ⟨m, fun _ => 0, ρ⟩ fun r => ∀ c : Dev nD,
      r.2.mem ((c : Thread nD τ).loc main_v17_0) = result8 m c
      ∧ r.2.mem ((c : Thread nD τ).loc main_v17_1) = result9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final8 m c), (h c).2.1.trans (final9 m c), (h c).2.2⟩) (run_blocks m ρ)

end Cert.CompressIdeal.Block
end
-- ==== Proof.CompressRefValue.lean ====
/- The compression's reference: each of its two results read at an index as one function of its arguments. -/
module

public import proofs.«01_k».proof.Proof.Gen.CompressRefIdeal.Run
public import proofs.«01_k».proof.Proof.CompressBlock
public import Idealize.ShloMosaic.Lib.Pointwise
public import Idealize.ShloMosaic.Lib.Tactic

@[expose] public section

set_option maxRecDepth 16384

noncomputable section

namespace Cert.CompressRefIdeal.Stages

open Cert.CompressRefIdeal Cert.CompressRefIdeal.Gen Cert.CompressMath Idealize.ShloMosaic Idealize.ShloMosaic.TcCoe Idealize.ShloMosaic.Tactic

/-- The chunks of 16 tokens, each group's features apart. -/
def chunks (y : FVec Ideal S8x4096x128 .f32) : FVec Ideal S8x256x16x2x64 .f32 := shapeCast _ y shapeCasts_S8x4096x128_S8x256x16x2x64
theorem chunks_apply (y : FVec Ideal S8x4096x128 .f32) (b : Fin 8) (r : Fin 256) (p : Fin 16) (g : Fin 2) (e : Fin 64) :
    chunks y (ix5 b r p g e) = y (ix3 b ⟨16 * r.val + p.val, by omega⟩ ⟨64 * g.val + e.val, by omega⟩) := by
  pointwise [chunks]
  exact congrArg y (congrArg₂ (ix3 b) (Fin.ext (by show r.val * 16 + p.val = 16 * r.val + p.val; omega)) (Fin.ext (by show g.val * 64 + e.val = 64 * g.val + e.val; omega)))

/-- Each chunk's following chunk, the first after the last. -/
def following (z : FVec Ideal S8x256x16x2x64 .f32) : FVec Ideal S8x256x16x2x64 .f32 :=
  concatenate S8x256x16x2x64 1 [⟨S8x255x16x2x64, (extractStridedSlice S8x255x16x2x64 ![0, 1, 0, 0, 0] z slices_S8x256x16x2x64_S8x255x16x2x64_0_1_0_0_0)⟩, ⟨S8x1x16x2x64, (extractStridedSlice S8x1x16x2x64 ![0, 0, 0, 0, 0] z slices_S8x256x16x2x64_S8x1x16x2x64_0_0_0_0_0)⟩] concatenates_S8x255x16x2x64_S8x1x16x2x64_S8x256x16x2x64_d1
theorem following_apply (z : FVec Ideal S8x256x16x2x64 .f32) (b : Fin 8) (r : Fin 256) (p : Fin 16) (g : Fin 2) (e : Fin 64) :
    following z (ix5 b r p g e) = z (ix5 b (next r) p g e) := by
  pointwise [following]
  by_cases h : r.val < 255
  · rw [dif_pos h]
    exact congrArg (fun q => z (ix5 b q p g e)) (Fin.ext (by show 1 + r.val = (r.val + 1) % 256; omega))
  · rw [dif_neg h]
    exact congrArg (fun q => z (ix5 b q p g e)) (Fin.ext (by show r.val - 255 = (r.val + 1) % 256; omega))

/-- The blocks of 32 tokens with their positions added, one row of features for each group. -/
def flat (z : FVec Ideal S8x256x16x2x64 .f32) (pe : FVec Ideal S32x64 .f32) : FVec Ideal S8x256x2x2048 .f32 :=
  shapeCast _ (transpose S8x256x2x32x64 [0, 1, 3, 2, 4] (addf (concatenate S8x256x32x2x64 2 [⟨S8x256x16x2x64, z⟩, ⟨S8x256x16x2x64, following z⟩] concatenates_S8x256x16x2x64_S8x256x16x2x64_S8x256x32x2x64_d2) (broadcastInDim S8x256x32x2x64 ![0, 1, 2, 3, 4] bcast_S1x1x32x1x64_S8x256x32x2x64_0_1_2_3_4 (broadcastInDim S1x1x32x1x64 ![2, 3, 4] bcast_S32x1x64_S1x1x32x1x64_2_3_4 (broadcastInDim S32x1x64 ![0, 2] bcast_S32x64_S32x1x64_0_2 pe)))) transposes_S8x256x32x2x64_S8x256x2x32x64_0_1_3_2_4) shapeCasts_S8x256x2x32x64_S8x256x2x2048
theorem flat_apply (y : FVec Ideal S8x4096x128 .f32) (pe : FVec Ideal S32x64 .f32) (b : Fin 8) (r : Fin 256) (g : Fin 2) (q : Fin 2048) :
    flat (chunks y) pe (ix4 b r g q) = y (ix3 b ⟨(16 * r.val + q.val / 64) % 4096, Nat.mod_lt _ (by decide)⟩ ⟨64 * g.val + q.val % 64, by omega⟩)
      + pe (ix2 ⟨q.val / 64, by omega⟩ ⟨q.val % 64, Nat.mod_lt _ (by decide)⟩) := by
  pointwise [flat]
  refine congrArg (· + _) ?_
  by_cases h : q.val / 64 < 16
  · rw [dif_pos h, chunks_apply]
    exact congrArg (fun s => y (ix3 b s ⟨64 * g.val + q.val % 64, by omega⟩)) (Fin.ext (by show 16 * r.val + q.val / 64 = (16 * r.val + q.val / 64) % 4096; omega))
  · rw [dif_neg h, following_apply, chunks_apply]
    exact congrArg (fun s => y (ix3 b s ⟨64 * g.val + q.val % 64, by omega⟩)) (Fin.ext (by show 16 * ((r.val + 1) % 256) + (q.val / 64 - 16) = (16 * r.val + q.val / 64) % 4096; omega))

/-- The hidden units before the activation. -/
def hidden (y : FVec Ideal S8x4096x128 .f32) (pe : FVec Ideal S32x64 .f32) (w1 : FVec Ideal S2048x256 .f32) : FVec Ideal S8x256x2x256 .f32 :=
  Host.dotGeneral dot_S8x256x2x2048_S2048x256_S8x256x2x256_3_0_012_1_n_n none (flat (chunks y) pe) w1
theorem hidden_apply (y : FVec Ideal S8x4096x128 .f32) (pe : FVec Ideal S32x64 .f32) (w1 : FVec Ideal S2048x256 .f32) (b : Fin 8) (r : Fin 256) (g : Fin 2) (j : Fin 256) :
    hidden y pe w1 (ix4 b r g j) = hid (fun s e => y (ix3 b s ⟨64 * g.val + e.val, by omega⟩)) (fun p e => pe (ix2 p e)) (fun q => w1 (ix2 q j)) r := by
  pointwise [hidden]
  unfold hid
  exact Finset.sum_congr rfl fun q _ => congrArg (· * _) (flat_apply y pe b r g q)

/-- The compressed tokens. -/
def out (h : FVec Ideal S8x256x2x256 .f32) (w2 : FVec Ideal S256x64 .f32) : FVec Ideal S8x256x2x64 .f32 :=
  Host.dotGeneral dot_S8x256x2x256_S256x64_S8x256x2x64_3_0_012_1_n_n none (mulf h (Host.divf (broadcastInDim S8x256x2x256 ![] bcast_S_S8x256x2x256 (constant S_ .f32 0x3F800000#32)) (addf (broadcastInDim S8x256x2x256 ![] bcast_S_S8x256x2x256 (constant S_ .f32 0x3F800000#32)) (Host.exp (Host.negf h))))) w2
theorem out_apply (h : FVec Ideal S8x256x2x256 .f32) (w2 : FVec Ideal S256x64 .f32) (b : Fin 8) (r : Fin 256) (g : Fin 2) (d : Fin 64) :
    out h w2 (ix4 b r g d) = ∑ j : Fin 256, act (h (ix4 b r g j)) * w2 (ix2 j d) := by
  pointwise [out]
  rfl

/-- The reference's first result. -/
def resK (x : FVec Ideal S8x4096x256 .f32) (pe : FVec Ideal S32x64 .f32) (w1 : FVec Ideal S2048x256 .f32) (w2 : FVec Ideal S256x64 .f32) : FVec Ideal S8x2x256x64 .bf16 :=
  truncf .bf16 (transpose S8x2x256x64 [0, 2, 1, 3] (out (hidden (extractStridedSlice S8x4096x128 ![0, 0, 0] x slices_S8x4096x256_S8x4096x128_0_0_0) pe w1) w2) transposes_S8x256x2x64_S8x2x256x64_0_2_1_3) bitsLt_bf16_f32
theorem resK_apply (x : FVec Ideal S8x4096x256 .f32) (pe : FVec Ideal S32x64 .f32) (w1 : FVec Ideal S2048x256 .f32) (w2 : FVec Ideal S256x64 .f32) (b : Fin 8) (g : Fin 2) (r : Fin 256) (d : Fin 64) :
    resK x pe w1 w2 (ix4 b g r d) = comp (fun s e => x (ix3 b s ⟨64 * g.val + e.val, by omega⟩)) (fun p e => pe (ix2 p e)) (fun q j => w1 (ix2 q j)) (fun j => w2 (ix2 j d)) r := by
  pointwise [resK]
  rw [out_apply]
  unfold comp
  refine Finset.sum_congr rfl fun j _ => ?_
  rw [hidden_apply]
  pointwise

/-- The reference's second result. -/
def resV (x : FVec Ideal S8x4096x256 .f32) (pe : FVec Ideal S32x64 .f32) (w1 : FVec Ideal S2048x256 .f32) (w2 : FVec Ideal S256x64 .f32) : FVec Ideal S8x2x64x256 .bf16 :=
  truncf .bf16 (transpose S8x2x64x256 [0, 2, 3, 1] (out (hidden (extractStridedSlice S8x4096x128 ![0, 0, 128] x slices_S8x4096x256_S8x4096x128_0_0_128) pe w1) w2) transposes_S8x256x2x64_S8x2x64x256_0_2_3_1) bitsLt_bf16_f32
theorem resV_apply (x : FVec Ideal S8x4096x256 .f32) (pe : FVec Ideal S32x64 .f32) (w1 : FVec Ideal S2048x256 .f32) (w2 : FVec Ideal S256x64 .f32) (b : Fin 8) (g : Fin 2) (r : Fin 256) (d : Fin 64) :
    resV x pe w1 w2 (ix4 b g d r) = comp (fun s e => x (ix3 b s ⟨128 + (64 * g.val + e.val), by omega⟩)) (fun p e => pe (ix2 p e)) (fun q j => w1 (ix2 q j)) (fun j => w2 (ix2 j d)) r := by
  pointwise [resV]
  rw [out_apply]
  unfold comp
  refine Finset.sum_congr rfl fun j _ => ?_
  rw [hidden_apply]
  pointwise

end Cert.CompressRefIdeal.Stages
end
-- ==== Proof.MixinMath.lean ====
/- The mix-in's mathematics, one position at a time and over the extended reals: a column of the modulated input's
   product with the weights, the rotary turn of heads of 64 columns, the normed latent and its product with the
   up-projection, and the twelve results.  Both the kernel and the reference are shown to compute these. -/
module

public import Idealize.ShloMosaic.PureOps.Ideal

@[expose] public section

noncomputable section

namespace Cert.MixinMath

open Idealize.ShloMosaic

/-- A finite row as a function of every natural number: zero past its end. -/
def past {n : Nat} (f : Fin n → EReal) (k : Nat) : EReal := if h : k < n then f ⟨k, h⟩ else 0

theorem past_lt {n : Nat} (f : Fin n → EReal) {k : Nat} (h : k < n) : past f k = f ⟨k, h⟩ := dif_pos h

/-- The rotary turn of a row `f` made of heads of 64 columns, at column `c`: the two halves of a head under the cosines
    `co` and the sines `si`. -/
def turn (f co si : Nat → EReal) (c : Nat) : EReal :=
  if c % 64 < 32 then f c * co (c % 64) - f (c + 32) * si (c % 64)
  else f (c - 32) * si (c % 64 - 32) + f c * co (c % 64 - 32)

theorem turn_lo (f co si : Nat → EReal) {c : Nat} (h : c % 64 < 32) :
    turn f co si c = f c * co (c % 64) - f (c + 32) * si (c % 64) := if_pos h
theorem turn_hi (f co si : Nat → EReal) {c : Nat} (h : ¬ c % 64 < 32) :
    turn f co si c = f (c - 32) * si (c % 64 - 32) + f c * co (c % 64 - 32) := if_neg h

/-- The first half of a head with the sine's sign in the table. -/
theorem turn_lane_lo (f co si : Nat → EReal) {c : Nat} (h : c % 64 < 32) :
    f c * co (c % 64) + f (c + 32) * -si (c % 64) = turn f co si c := by
  rw [turn_lo f co si h, mul_neg, sub_eq_add_neg]
/-- The second half of a head, its two terms the other way round. -/
theorem turn_lane_hi (f co si : Nat → EReal) {c : Nat} (h : ¬ c % 64 < 32) :
    f c * co (c % 64 - 32) + f (c - 32) * si (c % 64 - 32) = turn f co si c := by
  rw [turn_hi f co si h, add_comm]

/-- The turn, told by the two cases of a head's half with the tables' rows finite. -/
theorem turn_dite (f : Nat → EReal) (C S : Fin 32 → EReal) {d c : Nat} {a₁ a₂ a₃ a₄ : EReal} (ed : d = c % 64)
    (hd : ¬ d < 32 → d - 32 < 32) (h₁ : d < 32 → a₁ = f c) (h₂ : d < 32 → a₂ = f (c + 32))
    (h₃ : ¬ d < 32 → a₃ = f (c - 32)) (h₄ : ¬ d < 32 → a₄ = f c) :
    (if h : d < 32 then a₁ * C ⟨d, h⟩ - a₂ * S ⟨d, h⟩ else a₃ * S ⟨d - 32, hd h⟩ + a₄ * C ⟨d - 32, hd h⟩) =
      turn f (past C) (past S) c := by
  subst ed
  by_cases h : c % 64 < 32
  · rw [dif_pos h, turn_lo _ _ _ h, past_lt _ h, past_lt _ h, h₁ h, h₂ h]
  · rw [dif_neg h, turn_hi _ _ _ h, past_lt _ (hd h), past_lt _ (hd h), h₃ h, h₄ h]

/-- Column `j` of the product of a row under its scale and shift with the weights; zero past the last column. -/
def col (x sh sc : Fin 1024 → EReal) (w : Fin 1024 → Fin 4316 → EReal) : Nat → EReal :=
  past fun j => ∑ k, (x k * (1 + sc k) + sh k) * w k j

/-- The columns from `o` on. -/
def from_ (h : Nat → EReal) (o : Nat) : Nat → EReal := fun n => h (o + n)

/-- The latent (columns 512 to 639) over its root mean square, times the gain; 128 and the small constant under the root
    are the f32 constants both programs hold. -/
def latn (h : Nat → EReal) (g : Fin 128 → EReal) (k : Fin 128) : EReal :=
  h (512 + k.val) *
      Ideal.rsqrt (Ideal.div (∑ j : Fin 128, h (512 + j.val) * h (512 + j.val)) (Ideal.ofBits .f32 0x43000000#32) +
        Ideal.ofBits .f32 0x3727C5AC#32) * g k

/-- Column `j` of the latent's up-projection; zero past the last column. -/
def up (h : Nat → EReal) (g : Fin 128 → EReal) (wu : Fin 128 → Fin 128 → EReal) : Nat → EReal :=
  past fun j => ∑ k, latn h g k * wu k j

/-- The first mixer's and the second's gates and index weights: 24 gates, 4 weights halved, 4 zeros. -/
def misc (h : Nat → EReal) (c : Nat) : EReal :=
  if c < 24 then Ideal.logistic (h (2244 + c))
  else if c < 28 then h (936 + c) * Ideal.ofBits .f32 0x3F000000#32 else 0

/-- The compressor's input: 128 turned key columns, then 128 value columns. -/
def cmp (h co si : Nat → EReal) (c : Nat) : EReal :=
  if c < 128 then turn (from_ h 1476) co si c else h (1476 + c)

end Cert.MixinMath
end
-- ==== Proof.MixinBlock.lean ====
/- What the mix-in's body leaves in its result blocks at the ideal instance, read at an index as sums over the input
   blocks: the two products kept in scratch, the normed latent, and the facts their results share. -/
module

public import proofs.«01_k».proof.Proof.Gen.MixinIdeal.Value
public import proofs.«01_k».proof.Proof.MixinMath
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.MixinIdeal.Block

open Cert.MixinIdeal Cert.MixinIdeal.Gen Cert.MixinMath Idealize.ShloMosaic Idealize.ShloMosaic.TcCoe Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The block's product with the weights kept for the feature-major results: column `s`, its feature running. -/
def ht (x0 : Vec Ideal S1x512x1024 .f32) (x1 : Vec Ideal S1x9x1024 .f32) (x3 : Vec Ideal S1568x1024 .bf16) (s : Fin 512) : Nat → EReal :=
  past fun j : Fin 1568 => ∑ k : Fin 1024, (x0 (ix3 0 s k) * (1 + x1 (ix3 0 4 k)) + x1 (ix3 0 3 k)) * x3 (ix2 j k)

/-- The block's product with the weights kept for the token-major results: row `s`, its feature running. -/
def hs (x0 : Vec Ideal S1x512x1024 .f32) (x1 : Vec Ideal S1x9x1024 .f32) (x2 : Vec Ideal S1024x768 .bf16) (s : Fin 512) : Nat → EReal :=
  past fun j : Fin 768 => ∑ k : Fin 1024, (x0 (ix3 0 s k) * (1 + x1 (ix3 0 4 k)) + x1 (ix3 0 3 k)) * x2 (ix2 k j)

/-- The turn as the lanes compute it: a column times its table entry, plus the column 32 lanes away, which is after it in
    a head's first half and before it in the second, times the other table's entry. -/
def lane (f a b : Nat → EReal) (c : Nat) : EReal :=
  f c * a c + (if c % 64 < 32 then f (c + 32) else f (c - 32)) * b c

theorem ht_read (x0 : Vec Ideal S1x512x1024 .f32) (x1 : Vec Ideal S1x9x1024 .f32) (x3 : Vec Ideal S1568x1024 .bf16) (j : Fin 1568) (s : Fin 512) :
    k0_pay5 (F := Ideal) x0 (View.ld x1 (Rect.unit ![0, 3, 0] ![1, 1, 1024] inb_S1x9x1024_S1x1x1024_0_3_0))
      (View.ld x1 (Rect.unit ![0, 4, 0] ![1, 1, 1024] inb_S1x9x1024_S1x1x1024_0_4_0)) x3 (ix2 j s) = ht x0 x1 x3 s j.val := by
  refine Eq.trans ?_ (past_lt _ j.isLt).symm
  pointwise [k0_pay5, k0_pay3, View.ld]
  exact Finset.sum_congr rfl fun k _ => mul_comm _ _

theorem hs_read (x0 : Vec Ideal S1x512x1024 .f32) (x1 : Vec Ideal S1x9x1024 .f32) (x2 : Vec Ideal S1024x768 .bf16) (s : Fin 512) (j : Fin 768) :
    k0_pay4 (F := Ideal) x0 (View.ld x1 (Rect.unit ![0, 3, 0] ![1, 1, 1024] inb_S1x9x1024_S1x1x1024_0_3_0))
      (View.ld x1 (Rect.unit ![0, 4, 0] ![1, 1, 1024] inb_S1x9x1024_S1x1x1024_0_4_0)) x2 (ix2 s j) = hs x0 x1 x2 s j.val := by
  refine Eq.trans ?_ (past_lt _ j.isLt).symm
  pointwise [k0_pay4, k0_pay3, View.ld]

theorem latn_read (A : Vec Ideal S512x768 .f32) (h : Fin 512 → Nat → EReal) (hA : ∀ s j, A (ix2 s j) = h s j.val)
    (g : Vec Ideal S1x128 .f32) (s : Fin 512) (k : Fin 128) :
    k0_pay77 (F := Ideal) (View.ld A (Rect.unit ![0, 512] ![512, 128] inb_S512x768_S512x128_0_512)) g (ix2 s k) =
      latn (h s) (fun j => g (ix2 0 j)) k := by
  pointwise [k0_pay77, View.ld]
  simp only [hA]
  rfl

/-- Rows of the feature-major product, read from `o` on. -/
theorem ld_rows {n o : Nat} (A : Vec Ideal S1568x512 .f32) (h : Fin 512 → Nat → EReal) (hA : ∀ j s, A (ix2 j s) = h s j.val)
    (inb : ∀ a, (![o, 0] : Fin 2 → Nat) a + (![n, 512] : Fin 2 → Nat) a ≤ S1568x512.size a) (r : Fin n) (s : Fin 512) :
    View.ld A (Rect.unit (s := S1568x512) ![o, 0] ![n, 512] inb) (ix2 r s) = h s (o + r.val) := by
  have b : o + r.val < 1568 := by have := inb 0; have := r.isLt; simp at *; omega
  refine Eq.trans (congrArg A ?_) (hA ⟨o + r.val, b⟩ s)
  funext a; apply Fin.ext
  match a with
  | ⟨0, _⟩ => show o + 1 * r.val = o + r.val; omega
  | ⟨1, _⟩ => show 0 + 1 * s.val = s.val; omega

/-- Columns of the token-major product, read from `o` on. -/
theorem ld_cols {o : Nat} (A : Vec Ideal S512x768 .f32) (h : Fin 512 → Nat → EReal) (hA : ∀ s j, A (ix2 s j) = h s j.val)
    (inb : ∀ a, (![0, o] : Fin 2 → Nat) a + (![512, 128] : Fin 2 → Nat) a ≤ S512x768.size a) (s : Fin 512) (r : Fin 128) :
    View.ld A (Rect.unit (s := S512x768) ![0, o] ![512, 128] inb) (ix2 s r) = h s (o + r.val) := by
  have b : o + r.val < 768 := by have := inb 1; have := r.isLt; simp at *; omega
  refine Eq.trans (congrArg A ?_) (hA s ⟨o + r.val, b⟩)
  funext a; apply Fin.ext
  match a with
  | ⟨0, _⟩ => show 0 + 1 * s.val = s.val; omega
  | ⟨1, _⟩ => show o + 1 * r.val = o + r.val; omega

theorem rows_eq (A : Vec Ideal S1568x512 .f32) (h : Fin 512 → Nat → EReal) (hA : ∀ j s, A (ix2 j s) = h s j.val) :
    A = fun i => h (i 1) (i 0).val := by
  funext i
  refine Eq.trans (congrArg A (?_ : i = ix2 (i 0) (i 1))) (hA _ _)
  funext a
  match a with
  | ⟨0, _⟩ => rfl
  | ⟨1, _⟩ => rfl

theorem cols_eq (A : Vec Ideal S512x768 .f32) (h : Fin 512 → Nat → EReal) (hA : ∀ s j, A (ix2 s j) = h s j.val) :
    A = fun i => h (i 0) (i 1).val := by
  funext i
  refine Eq.trans (congrArg A (?_ : i = ix2 (i 0) (i 1))) (hA _ _)
  funext a
  match a with
  | ⟨0, _⟩ => rfl
  | ⟨1, _⟩ => rfl

/-- A box that moves the middle axis alone. -/
theorem emb_mid {B b C o : Nat} (inb : ∀ a, (![0, o, 0] : Fin 3 → Nat) a + (![1, b, C] : Fin 3 → Nat) a ≤ (![1, B, C] : Fin 3 → Nat) a)
    (q0 : Fin 1) (q1 : Fin b) (q2 : Fin C) (h : o + q1.val < B) :
    (Rect.unit (s := ⟨3, ![1, B, C]⟩) ![0, o, 0] ![1, b, C] inb).emb (ix3 q0 q1 q2) = ix3 0 ⟨o + q1.val, h⟩ q2 := by
  funext a; apply Fin.ext
  match a with
  | ⟨0, _⟩ => show 0 + 1 * q0.val = 0; omega
  | ⟨1, _⟩ => show o + 1 * q1.val = o + q1.val; omega
  | ⟨2, _⟩ => show 0 + 1 * q2.val = q2.val; omega

/-- A box that moves the last axis alone. -/
theorem emb_last {B c C o : Nat} (inb : ∀ a, (![0, 0, o] : Fin 3 → Nat) a + (![1, B, c] : Fin 3 → Nat) a ≤ (![1, B, C] : Fin 3 → Nat) a)
    (q0 : Fin 1) (q1 : Fin B) (q2 : Fin c) (h : o + q2.val < C) :
    (Rect.unit (s := ⟨3, ![1, B, C]⟩) ![0, 0, o] ![1, B, c] inb).emb (ix3 q0 q1 q2) = ix3 0 q1 ⟨o + q2.val, h⟩ := by
  funext a; apply Fin.ext
  match a with
  | ⟨0, _⟩ => show 0 + 1 * q0.val = 0; omega
  | ⟨1, _⟩ => show 0 + 1 * q1.val = q1.val; omega
  | ⟨2, _⟩ => show o + 1 * q2.val = o + q2.val; omega

/-- The box of one of the two groups. -/
theorem emb_grp {o : Nat} (inb : ∀ a, (![0, o, 0, 0] : Fin 4 → Nat) a + (![1, 1, 512, 64] : Fin 4 → Nat) a ≤ (![1, 2, 512, 64] : Fin 4 → Nat) a)
    (q0 q1 : Fin 1) (q2 : Fin 512) (q3 : Fin 64) (h : o < 2) :
    (Rect.unit (s := ⟨4, ![1, 2, 512, 64]⟩) ![0, o, 0, 0] ![1, 1, 512, 64] inb).emb (ix4 q0 q1 q2 q3) = ix4 0 ⟨o, h⟩ q2 q3 := by
  funext a; apply Fin.ext
  match a with
  | ⟨0, _⟩ => show 0 + 1 * q0.val = 0; omega
  | ⟨1, _⟩ => show o + 1 * q1.val = o; omega
  | ⟨2, _⟩ => show 0 + 1 * q2.val = q2.val; omega
  | ⟨3, _⟩ => show 0 + 1 * q3.val = q3.val; omega

/-- The first half of a head whose columns start at `b + o`. -/
theorem half_lo (h : Nat → EReal) (C S : Fin 32 → EReal) (b o : Nat) (ho : o % 64 = 0) (r : Fin 32) :
    h (b + o + r.val) * C r - h (b + o + 32 + r.val) * S r = turn (from_ h b) (past C) (past S) (o + r.val) := by
  have hr := r.isLt
  have e : (o + r.val) % 64 = r.val := by omega
  rw [turn_lo _ _ _ (by omega), e, past_lt _ hr, past_lt _ hr]
  unfold from_
  rw [show b + (o + r.val) = b + o + r.val by omega, show b + (o + r.val + 32) = b + o + 32 + r.val by omega]

/-- Its second half. -/
theorem half_hi (h : Nat → EReal) (C S : Fin 32 → EReal) (b o : Nat) (ho : o % 64 = 0) (r : Fin 32) :
    h (b + o + r.val) * S r + h (b + o + 32 + r.val) * C r = turn (from_ h b) (past C) (past S) (o + 32 + r.val) := by
  have hr := r.isLt
  have e : (o + 32 + r.val) % 64 - 32 = r.val := by omega
  rw [turn_hi _ _ _ (by omega), e, past_lt _ hr, past_lt _ hr]
  unfold from_
  rw [show b + (o + 32 + r.val - 32) = b + o + r.val by omega, show b + (o + 32 + r.val) = b + o + 32 + r.val by omega]

/-- The lanes' comparison picks a head's first half. -/
theorem first_half {α : Type} (c : Nat) (hc : c < 128) (u v : α) :
    Scalar.select (IntOp.cmpi CmpIPredicate.slt (IntOp.andi (BitVec.ofNat 32 c) 63#32) 32#32) u v =
      if c % 64 < 32 then u else v := by
  have e : ∀ c : Fin 128, IntOp.cmpi CmpIPredicate.slt (IntOp.andi (BitVec.ofNat 32 c.val) 63#32) 32#32 =
      if c.val % 64 < 32 then 1#1 else 0#1 := by decide +kernel
  rw [e ⟨c, hc⟩]
  by_cases h : c % 64 < 32
  · rw [if_pos h, if_pos h]; rfl
  · rw [if_neg h, if_neg h]; rfl

/-- The turn by lanes of the columns from `b` on. -/
theorem lane_at (h : Nat → EReal) (C D : Fin 128 → EReal) (b c : Nat) (hc : c < 128) :
    h (b + c) * C ⟨c, hc⟩ +
        Scalar.select (IntOp.cmpi CmpIPredicate.slt (IntOp.andi (BitVec.ofNat 32 c) 63#32) 32#32)
          (h (b + (c + 128 - 96) % 128)) (h (b + (c + 128 - 32) % 128)) * D ⟨c, hc⟩ =
      lane (from_ h b) (past C) (past D) c := by
  rw [first_half c hc]
  unfold lane from_
  rw [past_lt _ hc, past_lt _ hc]
  by_cases e : c % 64 < 32
  · rw [if_pos e, if_pos e, show (c + 128 - 96) % 128 = c + 32 by omega]
  · rw [if_neg e, if_neg e, show (c + 128 - 32) % 128 = c - 32 by omega]

/-- The turn by lanes of a row of 128. -/
theorem lane_row (M C D : Fin 128 → EReal) (c : Nat) (hc : c < 128) (h1 : (c + 128 - 96) % 128 < 128) (h2 : (c + 128 - 32) % 128 < 128) :
    M ⟨c, hc⟩ * C ⟨c, hc⟩ +
        Scalar.select (IntOp.cmpi CmpIPredicate.slt (IntOp.andi (BitVec.ofNat 32 c) 63#32) 32#32)
          (M ⟨(c + 128 - 96) % 128, h1⟩) (M ⟨(c + 128 - 32) % 128, h2⟩) * D ⟨c, hc⟩ =
      lane (past M) (past C) (past D) c := by
  rw [first_half c hc]
  unfold lane
  rw [past_lt _ hc, past_lt _ hc, past_lt _ hc]
  by_cases e : c % 64 < 32
  · rw [if_pos e, if_pos e, ← past_lt M h1, show (c + 128 - 96) % 128 = c + 32 by omega]
  · rw [if_neg e, if_neg e, ← past_lt M h2, show (c + 128 - 32) % 128 = c - 32 by omega]

end Cert.MixinIdeal.Block
end
-- ==== Proof.MixinHost.lean ====
/- The mix-in kernel's windows: the arrays the host leaves before the launch, read at an index; each input window's block
   read off its array; and the block's products, tables and up-projection as the columns of the arguments. -/
module

public import proofs.«01_k».proof.Proof.Gen.MixinIdeal.Value
public import proofs.«01_k».proof.Proof.MixinBlock
public import Idealize.ShloMosaic.Lib.Pointwise
public import Idealize.ShloMosaic.Lib.Tactic

@[expose] public section

set_option maxRecDepth 16384

noncomputable section

namespace Cert.MixinIdeal.Block

open Cert.MixinIdeal Cert.MixinIdeal.Gen Cert.MixinMath Idealize.ShloMosaic Idealize.ShloMosaic.TcCoe Idealize.ShloMosaic.Tactic

/-! ## Equal rows give equal turns -/

theorem turn_congr {f g co si : Nat → EReal} (N : Nat) (hN : N % 64 = 0) {c : Nat} (hc : c < N) (h : ∀ n < N, f n = g n) :
    turn f co si c = turn g co si c := by
  by_cases hl : c % 64 < 32
  · rw [turn_lo _ _ _ hl, turn_lo _ _ _ hl, h c hc, h (c + 32) (by omega)]
  · rw [turn_hi _ _ _ hl, turn_hi _ _ _ hl, h c hc, h (c - 32) (by omega)]

/-- The turn by lanes is the turn by halves, given tables that repeat the cosines over each half of a head and carry the
    sine's sign in its first half. -/
theorem lane_turn {f g a b co si : Nat → EReal} (N : Nat) (hN : N % 64 = 0) (hN' : N ≤ 128) {c : Nat} (hc : c < N) (h : ∀ n < N, f n = g n)
    (ha : ∀ n < 128, a n = if n % 64 < 32 then co (n % 64) else co (n % 64 - 32))
    (hb : ∀ n < 128, b n = if n % 64 < 32 then -si (n % 64) else si (n % 64 - 32)) :
    lane f a b c = turn g co si c := by
  unfold lane
  rw [ha c (by omega), hb c (by omega)]
  by_cases hl : c % 64 < 32
  · rw [if_pos hl, if_pos hl, if_pos hl, h c hc, h (c + 32) (by omega)]
    exact turn_lane_lo g co si hl
  · rw [if_neg hl, if_neg hl, if_neg hl, h c hc, h (c - 32) (by omega)]
    exact turn_lane_hi g co si hl

theorem latn_congr {f h : Nat → EReal} (g : Fin 128 → EReal) (e : ∀ n < 128, f (512 + n) = h (512 + n)) : latn f g = latn h g := by
  funext k
  unfold latn
  rw [e k.val k.isLt, Finset.sum_congr rfl fun j _ => by rw [e (Fin.val j) j.isLt]]

theorem past_at {n : Nat} (f : Fin n → EReal) (j : Fin n) {k : Nat} (e : k = j.val) : f j = past f k := by
  subst e; exact (past_lt f j.isLt).symm
theorem past_out {n : Nat} (f : Fin n → EReal) {k : Nat} (e : ¬ k < n) : 0 = past f k := by rw [past, dif_neg e]

/-- A product with a weight row read past its end is a column. -/
theorem col_past (x sh sc : Fin 1024 → EReal) (w : Fin 1024 → Fin 4316 → EReal) (n : Nat) :
    ∑ k, (x k * (1 + sc k) + sh k) * past (w k) n = col x sh sc w n := by
  unfold col
  by_cases h : n < 4316
  · rw [past_lt _ h]
    exact Finset.sum_congr rfl fun k _ => by rw [past_lt _ h]
  · rw [past, dif_neg h]
    exact Finset.sum_eq_zero fun k _ => by rw [past, dif_neg h, mul_zero]

/-! ## The host operations before the launch -/

variable (m : (ℓ : Loc nD τ sig) → Buf (Elt Ideal) ℓ)

/-- The weights' column behind row `q` of the transposed weights; past the last column where the row is padding. -/
def tcol (q : Nat) : Nat :=
  if q < 512 then q else if q < 1024 then q + 452 else if q < 1280 then q - 384 else if q < 1408 then q + 580
  else if q < 1536 then q + 708 else if q < 1560 then q + 708 else if q < 1564 then q - 600 else 4316
/-- The weights' column behind column `q` of the other weights. -/
def scol (q : Nat) : Nat :=
  if q < 384 then 1476 + q else if q < 512 then q + 1604 else if q < 640 then q else if q < 704 then q + 256 else 4316

theorem v0_apply (c : Dev nD) (p : Fin 8) (q : Fin 9) (k : Fin 1024) :
    V m c main_v0 (ix3 p q k) = (m ((c : Thread nD τ).loc main_arg1)) (ix2 p ⟨1024 * q.val + k.val, by omega⟩) := by
  rw [show V m c main_v0 = shapeCast S8x9x1024 (m ((c : Thread nD τ).loc main_arg1)) shapeCasts_S8x9216_S8x9x1024 from rfl]
  pointwise
  simp only [Nat.mul_comm q.val 1024]
theorem v22_apply (c : Dev nD) (q : Fin 1568) (k : Fin 1024) : V m c main_v22 (ix2 q k) = past (fun j : Fin 4316 => (m ((c : Thread nD τ).loc main_arg2)) (ix2 k j)) (tcol q.val) := by
  rw [show V m c main_v22 = truncf (F := Ideal) .bf16 (transpose S1568x1024 [1, 0] (concatenate S1024x1568 1 [⟨S1024x512, extractStridedSlice S1024x512 ![0, 0] (m ((c : Thread nD τ).loc main_arg2)) slices_S1024x4316_S1024x512_0_0⟩, ⟨S1024x512, extractStridedSlice S1024x512 ![0, 964] (m ((c : Thread nD τ).loc main_arg2)) slices_S1024x4316_S1024x512_0_964⟩, ⟨S1024x256, extractStridedSlice S1024x256 ![0, 640] (m ((c : Thread nD τ).loc main_arg2)) slices_S1024x4316_S1024x256_0_640⟩, ⟨S1024x128, extractStridedSlice S1024x128 ![0, 384] (extractStridedSlice S1024x768 ![0, 1476] (m ((c : Thread nD τ).loc main_arg2)) slices_S1024x4316_S1024x768_0_1476) slices_S1024x768_S1024x128_0_384⟩, ⟨S1024x128, extractStridedSlice S1024x128 ![0, 640] (extractStridedSlice S1024x768 ![0, 1476] (m ((c : Thread nD τ).loc main_arg2)) slices_S1024x4316_S1024x768_0_1476) slices_S1024x768_S1024x128_0_640⟩, ⟨S1024x24, extractStridedSlice S1024x24 ![0, 2244] (m ((c : Thread nD τ).loc main_arg2)) slices_S1024x4316_S1024x24_0_2244⟩, ⟨S1024x4, extractStridedSlice S1024x4 ![0, 960] (m ((c : Thread nD τ).loc main_arg2)) slices_S1024x4316_S1024x4_0_960⟩, ⟨S1024x4, broadcastInDim S1024x4 ![] bcast_S_S1024x4 (constant (F := Ideal) S_ .f32 0x00000000#32)⟩] concatenates_S1024x512_S1024x512_S1024x256_S1024x128_S1024x128_S1024x24_S1024x4_S1024x4_S1024x1568_d1) transposes_S1024x1568_S1568x1024_1_0) bitsLt_bf16_f32 from rfl]
  pointwise
  by_cases h0 : q.val < 512
  · rw [dif_pos h0]; exact past_at (fun j : Fin 4316 => m ((c : Thread nD τ).loc main_arg2) (ix2 k j)) ⟨_, _⟩ (by unfold tcol; dsimp only; split_ifs <;> omega)
  rw [dif_neg h0]
  by_cases h1 : q.val - 512 < 512
  · rw [dif_pos h1]; exact past_at (fun j : Fin 4316 => m ((c : Thread nD τ).loc main_arg2) (ix2 k j)) ⟨_, _⟩ (by unfold tcol; dsimp only; split_ifs <;> omega)
  rw [dif_neg h1]
  by_cases h2 : q.val - 512 - 512 < 256
  · rw [dif_pos h2]; exact past_at (fun j : Fin 4316 => m ((c : Thread nD τ).loc main_arg2) (ix2 k j)) ⟨_, _⟩ (by unfold tcol; dsimp only; split_ifs <;> omega)
  rw [dif_neg h2]
  by_cases h3 : q.val - 512 - 512 - 256 < 128
  · rw [dif_pos h3]; exact past_at (fun j : Fin 4316 => m ((c : Thread nD τ).loc main_arg2) (ix2 k j)) ⟨_, _⟩ (by unfold tcol; dsimp only; split_ifs <;> omega)
  rw [dif_neg h3]
  by_cases h4 : q.val - 512 - 512 - 256 - 128 < 128
  · rw [dif_pos h4]; exact past_at (fun j : Fin 4316 => m ((c : Thread nD τ).loc main_arg2) (ix2 k j)) ⟨_, _⟩ (by unfold tcol; dsimp only; split_ifs <;> omega)
  rw [dif_neg h4]
  by_cases h5 : q.val - 512 - 512 - 256 - 128 - 128 < 24
  · rw [dif_pos h5]; exact past_at (fun j : Fin 4316 => m ((c : Thread nD τ).loc main_arg2) (ix2 k j)) ⟨_, _⟩ (by unfold tcol; dsimp only; split_ifs <;> omega)
  rw [dif_neg h5]
  by_cases h6 : q.val - 512 - 512 - 256 - 128 - 128 - 24 < 4
  · rw [dif_pos h6]; exact past_at (fun j : Fin 4316 => m ((c : Thread nD τ).loc main_arg2) (ix2 k j)) ⟨_, _⟩ (by unfold tcol; dsimp only; split_ifs <;> omega)
  rw [dif_neg h6]
  exact past_out (fun j : Fin 4316 => m ((c : Thread nD τ).loc main_arg2) (ix2 k j)) (by unfold tcol; split_ifs <;> omega)
theorem v18_apply (c : Dev nD) (k : Fin 1024) (q : Fin 768) : V m c main_v18 (ix2 k q) = past (fun j : Fin 4316 => (m ((c : Thread nD τ).loc main_arg2)) (ix2 k j)) (scol q.val) := by
  rw [show V m c main_v18 = truncf (F := Ideal) .bf16 (concatenate S1024x768 1 [⟨S1024x128, extractStridedSlice S1024x128 ![0, 0] (extractStridedSlice S1024x768 ![0, 1476] (m ((c : Thread nD τ).loc main_arg2)) slices_S1024x4316_S1024x768_0_1476) slices_S1024x768_S1024x128_0_0⟩, ⟨S1024x128, extractStridedSlice S1024x128 ![0, 128] (extractStridedSlice S1024x768 ![0, 1476] (m ((c : Thread nD τ).loc main_arg2)) slices_S1024x4316_S1024x768_0_1476) slices_S1024x768_S1024x128_0_128⟩, ⟨S1024x128, extractStridedSlice S1024x128 ![0, 256] (extractStridedSlice S1024x768 ![0, 1476] (m ((c : Thread nD τ).loc main_arg2)) slices_S1024x4316_S1024x768_0_1476) slices_S1024x768_S1024x128_0_256⟩, ⟨S1024x128, extractStridedSlice S1024x128 ![0, 512] (extractStridedSlice S1024x768 ![0, 1476] (m ((c : Thread nD τ).loc main_arg2)) slices_S1024x4316_S1024x768_0_1476) slices_S1024x768_S1024x128_0_512⟩, ⟨S1024x128, extractStridedSlice S1024x128 ![0, 512] (m ((c : Thread nD τ).loc main_arg2)) slices_S1024x4316_S1024x128_0_512⟩, ⟨S1024x64, extractStridedSlice S1024x64 ![0, 896] (m ((c : Thread nD τ).loc main_arg2)) slices_S1024x4316_S1024x64_0_896⟩, ⟨S1024x64, broadcastInDim S1024x64 ![] bcast_S_S1024x64 (constant (F := Ideal) S_ .f32 0x00000000#32)⟩] concatenates_S1024x128_S1024x128_S1024x128_S1024x128_S1024x128_S1024x64_S1024x64_S1024x768_d1) bitsLt_bf16_f32 from rfl]
  pointwise
  by_cases h0 : q.val < 128
  · rw [dif_pos h0]; exact past_at (fun j : Fin 4316 => m ((c : Thread nD τ).loc main_arg2) (ix2 k j)) ⟨_, _⟩ (by unfold scol; dsimp only; split_ifs <;> omega)
  rw [dif_neg h0]
  by_cases h1 : q.val - 128 < 128
  · rw [dif_pos h1]; exact past_at (fun j : Fin 4316 => m ((c : Thread nD τ).loc main_arg2) (ix2 k j)) ⟨_, _⟩ (by unfold scol; dsimp only; split_ifs <;> omega)
  rw [dif_neg h1]
  by_cases h2 : q.val - 128 - 128 < 128
  · rw [dif_pos h2]; exact past_at (fun j : Fin 4316 => m ((c : Thread nD τ).loc main_arg2) (ix2 k j)) ⟨_, _⟩ (by unfold scol; dsimp only; split_ifs <;> omega)
  rw [dif_neg h2]
  by_cases h3 : q.val - 128 - 128 - 128 < 128
  · rw [dif_pos h3]; exact past_at (fun j : Fin 4316 => m ((c : Thread nD τ).loc main_arg2) (ix2 k j)) ⟨_, _⟩ (by unfold scol; dsimp only; split_ifs <;> omega)
  rw [dif_neg h3]
  by_cases h4 : q.val - 128 - 128 - 128 - 128 < 128
  · rw [dif_pos h4]; exact past_at (fun j : Fin 4316 => m ((c : Thread nD τ).loc main_arg2) (ix2 k j)) ⟨_, _⟩ (by unfold scol; dsimp only; split_ifs <;> omega)
  rw [dif_neg h4]
  by_cases h5 : q.val - 128 - 128 - 128 - 128 - 128 < 64
  · rw [dif_pos h5]; exact past_at (fun j : Fin 4316 => m ((c : Thread nD τ).loc main_arg2) (ix2 k j)) ⟨_, _⟩ (by unfold scol; dsimp only; split_ifs <;> omega)
  rw [dif_neg h5]
  exact past_out (fun j : Fin 4316 => m ((c : Thread nD τ).loc main_arg2) (ix2 k j)) (by unfold scol; split_ifs <;> omega)
theorem v26_apply (c : Dev nD) (s : Fin 4096) (i : Fin 128) : V m c main_v26 (ix2 s i) = if i.val % 64 < 32 then past (fun d : Fin 32 => (m ((c : Thread nD τ).loc main_arg5)) (ix2 s d)) (i.val % 64) else past (fun d : Fin 32 => (m ((c : Thread nD τ).loc main_arg5)) (ix2 s d)) (i.val % 64 - 32) := by
  rw [show V m c main_v26 = shapeCast S4096x128 (broadcastInDim S1x4096x2x64 ![0, 1, 2, 3] bcast_S1x4096x1x64_S1x4096x2x64_0_1_2_3 (shapeCast S1x4096x1x64 (concatenate S4096x64 1 [⟨S4096x32, (m ((c : Thread nD τ).loc main_arg5))⟩, ⟨S4096x32, (m ((c : Thread nD τ).loc main_arg5))⟩] concatenates_S4096x32_S4096x32_S4096x64_d1) shapeCasts_S4096x64_S1x4096x1x64)) shapeCasts_S1x4096x2x64_S4096x128 from rfl]
  pointwise
  by_cases h : i.val % 64 < 32
  · rw [dif_pos h, if_pos h, past_lt _ h]
  · rw [dif_neg h, if_neg h, past_lt _ (by omega)]
theorem v31_apply (c : Dev nD) (s : Fin 4096) (i : Fin 128) : V m c main_v31 (ix2 s i) = if i.val % 64 < 32 then -past (fun d : Fin 32 => (m ((c : Thread nD τ).loc main_arg6)) (ix2 s d)) (i.val % 64) else past (fun d : Fin 32 => (m ((c : Thread nD τ).loc main_arg6)) (ix2 s d)) (i.val % 64 - 32) := by
  rw [show V m c main_v31 = shapeCast S4096x128 (broadcastInDim S1x4096x2x64 ![0, 1, 2, 3] bcast_S1x4096x1x64_S1x4096x2x64_0_1_2_3 (shapeCast S1x4096x1x64 (concatenate S4096x64 1 [⟨S4096x32, (Host.negf (F := Ideal) (φ := .f32) (m ((c : Thread nD τ).loc main_arg6)))⟩, ⟨S4096x32, (m ((c : Thread nD τ).loc main_arg6))⟩] concatenates_S4096x32_S4096x32_S4096x64_d1) shapeCasts_S4096x64_S1x4096x1x64)) shapeCasts_S1x4096x2x64_S4096x128 from rfl]
  pointwise
  by_cases h : i.val % 64 < 32
  · rw [dif_pos h, if_pos h, past_lt _ h]
  · rw [dif_neg h, if_neg h, past_lt _ (by omega)]
theorem v32_apply (c : Dev nD) (i : Fin 32) (s : Fin 4096) : V m c main_v32 (ix2 i s) = (m ((c : Thread nD τ).loc main_arg5)) (ix2 s i) := by
  rw [show V m c main_v32 = transpose S32x4096 [1, 0] (m ((c : Thread nD τ).loc main_arg5)) transposes_S4096x32_S32x4096_1_0 from rfl]
  pointwise
theorem v33_apply (c : Dev nD) (i : Fin 32) (s : Fin 4096) : V m c main_v33 (ix2 i s) = (m ((c : Thread nD τ).loc main_arg6)) (ix2 s i) := by
  rw [show V m c main_v33 = transpose S32x4096 [1, 0] (m ((c : Thread nD τ).loc main_arg6)) transposes_S4096x32_S32x4096_1_0 from rfl]
  pointwise
theorem v37_apply (c : Dev nD) (k i : Fin 128) : V m c main_v37 (ix2 k i) = if i.val < 64 then (m ((c : Thread nD τ).loc main_arg4)) (ix2 k i) else (0 : EReal) := by
  rw [show V m c main_v37 = truncf (F := Ideal) .bf16 (concatenate S128x128 1 [⟨S128x64, extractStridedSlice S128x64 ![0, 0] (m ((c : Thread nD τ).loc main_arg4)) slices_S128x128_S128x64_0_0⟩, ⟨S128x64, broadcastInDim S128x64 ![] bcast_S_S128x64 (constant (F := Ideal) S_ .f32 0x00000000#32)⟩] concatenates_S128x64_S128x64_S128x128_d1) bitsLt_bf16_f32 from rfl]
  pointwise
  by_cases h : i.val < 64
  · rw [dif_pos h, if_pos h]
  · rw [dif_neg h, if_neg h]
theorem v40_apply (c : Dev nD) (i : Fin 64) (k : Fin 128) : V m c main_v40 (ix2 i k) = (m ((c : Thread nD τ).loc main_arg4)) (ix2 k ⟨64 + i.val, by omega⟩) := by
  rw [show V m c main_v40 = truncf (F := Ideal) .bf16 (transpose S64x128 [1, 0] (extractStridedSlice S128x64 ![0, 64] (m ((c : Thread nD τ).loc main_arg4)) slices_S128x128_S128x64_0_64) transposes_S128x64_S64x128_1_0) bitsLt_bf16_f32 from rfl]
  pointwise
theorem v41_apply (c : Dev nD) (k : Fin 128) : V m c main_v41 (ix2 0 k) = (m ((c : Thread nD τ).loc main_arg3)) (ix1 k) := by
  rw [show V m c main_v41 = shapeCast S1x128 (m ((c : Thread nD τ).loc main_arg3)) shapeCasts_S128_S1x128 from rfl]
  pointwise

/-! ## The windows' blocks -/

/-- Each window's block index at a point: the image and the row block of the point, or nothing. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val % 8 ∧ win0_4.index t (1 : Fin 2) = 0 :=
  (by decide +kernel : ∀ t : Fin grid0.N, _)
theorem idx5 : ∀ t : Fin cfg0.N, win0_5.index t (0 : Fin 2) = t.val % 8 ∧ win0_5.index t (1 : Fin 2) = 0 :=
  (by decide +kernel : ∀ t : Fin grid0.N, _)
theorem idx6 : ∀ t : Fin cfg0.N, win0_6.index t (0 : Fin 2) = 0 ∧ win0_6.index t (1 : Fin 2) = t.val % 8 :=
  (by decide +kernel : ∀ t : Fin grid0.N, _)
theorem idx7 : ∀ t : Fin cfg0.N, win0_7.index t (0 : Fin 2) = 0 ∧ win0_7.index t (1 : Fin 2) = t.val % 8 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

/-- The image of a point, and row `r` of its row block. -/
def img (t : Fin cfg0.N) : Fin 8 := ⟨t.val / 8, by have h : t.val < 64 := N_0 ▸ t.isLt; omega⟩
def row (t : Fin cfg0.N) (r : Fin 512) : Fin 4096 := ⟨t.val % 8 * 512 + r.val, by omega⟩

theorem emb0 (t : Fin cfg0.N) (j1 : Fin 512) (j2 : Fin 1024) :
    ((cfg0.win 0).blk t).view.emb (ix3 0 j1 j2) = ix3 (img t) (row t j1) j2 := by
  obtain ⟨e0, e1, e2⟩ := idx0 t
  funext a; apply Fin.ext
  match a with
  | ⟨0, _⟩ => show win0_0.index t (0 : Fin 3) * 1 + 1 * 0 = t.val / 8; omega
  | ⟨1, _⟩ => show win0_0.index t (1 : Fin 3) * 512 + 1 * j1.val = t.val % 8 * 512 + j1.val; omega
  | ⟨2, _⟩ => show win0_0.index t (2 : Fin 3) * 1024 + 1 * j2.val = j2.val; omega
theorem emb1 (t : Fin cfg0.N) (j1 : Fin 9) (j2 : Fin 1024) :
    ((cfg0.win 1).blk t).view.emb (ix3 0 j1 j2) = ix3 (img t) j1 j2 := by
  obtain ⟨e0, e1, e2⟩ := idx1 t
  funext a; apply Fin.ext
  match a with
  | ⟨0, _⟩ => show win0_1.index t (0 : Fin 3) * 1 + 1 * 0 = t.val / 8; omega
  | ⟨1, _⟩ => show win0_1.index t (1 : Fin 3) * 9 + 1 * j1.val = j1.val; omega
  | ⟨2, _⟩ => show win0_1.index t (2 : Fin 3) * 1024 + 1 * j2.val = j2.val; omega
theorem emb2 (t : Fin cfg0.N) (j0 : Fin 1024) (j1 : Fin 768) :
    ((cfg0.win 2).blk t).view.emb (ix2 j0 j1) = ix2 j0 j1 := by
  obtain ⟨e0, e1⟩ := idx2 t
  funext a; apply Fin.ext
  match a with
  | ⟨0, _⟩ => show win0_2.index t (0 : Fin 2) * 1024 + 1 * j0.val = j0.val; omega
  | ⟨1, _⟩ => show win0_2.index t (1 : Fin 2) * 768 + 1 * j1.val = j1.val; omega
theorem emb3 (t : Fin cfg0.N) (j0 : Fin 1568) (j1 : Fin 1024) :
    ((cfg0.win 3).blk t).view.emb (ix2 j0 j1) = ix2 j0 j1 := by
  obtain ⟨e0, e1⟩ := idx3 t
  funext a; apply Fin.ext
  match a with
  | ⟨0, _⟩ => show win0_3.index t (0 : Fin 2) * 1568 + 1 * j0.val = j0.val; omega
  | ⟨1, _⟩ => show win0_3.index t (1 : Fin 2) * 1024 + 1 * j1.val = j1.val; omega
theorem emb4 (t : Fin cfg0.N) (j0 : Fin 512) (j1 : Fin 128) :
    ((cfg0.win 4).blk t).view.emb (ix2 j0 j1) = ix2 (row t j0) j1 := by
  obtain ⟨e0, e1⟩ := idx4 t
  funext a; apply Fin.ext
  match a with
  | ⟨0, _⟩ => show win0_4.index t (0 : Fin 2) * 512 + 1 * j0.val = t.val % 8 * 512 + j0.val; omega
  | ⟨1, _⟩ => show win0_4.index t (1 : Fin 2) * 128 + 1 * j1.val = j1.val; omega
theorem emb5 (t : Fin cfg0.N) (j0 : Fin 512) (j1 : Fin 128) :
    ((cfg0.win 5).blk t).view.emb (ix2 j0 j1) = ix2 (row t j0) j1 := by
  obtain ⟨e0, e1⟩ := idx5 t
  funext a; apply Fin.ext
  match a with
  | ⟨0, _⟩ => show win0_5.index t (0 : Fin 2) * 512 + 1 * j0.val = t.val % 8 * 512 + j0.val; omega
  | ⟨1, _⟩ => show win0_5.index t (1 : Fin 2) * 128 + 1 * j1.val = j1.val; omega
theorem emb6 (t : Fin cfg0.N) (j0 : Fin 32) (j1 : Fin 512) :
    ((cfg0.win 6).blk t).view.emb (ix2 j0 j1) = ix2 j0 (row t j1) := by
  obtain ⟨e0, e1⟩ := idx6 t
  funext a; apply Fin.ext
  match a with
  | ⟨0, _⟩ => show win0_6.index t (0 : Fin 2) * 32 + 1 * j0.val = j0.val; omega
  | ⟨1, _⟩ => show win0_6.index t (1 : Fin 2) * 512 + 1 * j1.val = t.val % 8 * 512 + j1.val; omega
theorem emb7 (t : Fin cfg0.N) (j0 : Fin 32) (j1 : Fin 512) :
    ((cfg0.win 7).blk t).view.emb (ix2 j0 j1) = ix2 j0 (row t j1) := by
  obtain ⟨e0, e1⟩ := idx7 t
  funext a; apply Fin.ext
  match a with
  | ⟨0, _⟩ => show win0_7.index t (0 : Fin 2) * 32 + 1 * j0.val = j0.val; omega
  | ⟨1, _⟩ => show win0_7.index t (1 : Fin 2) * 512 + 1 * j1.val = t.val % 8 * 512 + j1.val; omega
theorem emb8 (t : Fin cfg0.N) (j1 : Fin 128) :
    ((cfg0.win 8).blk t).view.emb (ix2 0 j1) = ix2 0 j1 := by
  obtain ⟨e0, e1⟩ := idx8 t
  funext a; apply Fin.ext
  match a with
  | ⟨0, _⟩ => show win0_8.index t (0 : Fin 2) * 1 + 1 * 0 = 0; omega
  | ⟨1, _⟩ => show win0_8.index t (1 : Fin 2) * 128 + 1 * j1.val = j1.val; omega
theorem emb9 (t : Fin cfg0.N) (j0 : Fin 128) (j1 : Fin 128) :
    ((cfg0.win 9).blk t).view.emb (ix2 j0 j1) = ix2 j0 j1 := by
  obtain ⟨e0, e1⟩ := idx9 t
  funext a; apply Fin.ext
  match a with
  | ⟨0, _⟩ => show win0_9.index t (0 : Fin 2) * 128 + 1 * j0.val = j0.val; omega
  | ⟨1, _⟩ => show win0_9.index t (1 : Fin 2) * 128 + 1 * j1.val = j1.val; omega
theorem emb10 (t : Fin cfg0.N) (j0 : Fin 64) (j1 : Fin 128) :
    ((cfg0.win 10).blk t).view.emb (ix2 j0 j1) = ix2 j0 j1 := by
  obtain ⟨e0, e1⟩ := idx10 t
  funext a; apply Fin.ext
  match a with
  | ⟨0, _⟩ => show win0_10.index t (0 : Fin 2) * 64 + 1 * j0.val = j0.val; omega
  | ⟨1, _⟩ => show win0_10.index t (1 : Fin 2) * 128 + 1 * j1.val = j1.val; omega
theorem iblk0_apply (c : Dev nD) (t : Fin cfg0.N) (s : Fin 512) (k : Fin 1024) :
    iblk m c 0 t (ix3 0 s k) = (m ((c : Thread nD τ).loc main_arg0)) (ix3 (img t) (row t s) k) := by
  show V m c main_arg0 (((cfg0.win 0).blk t).view.emb (ix3 0 s k)) = _; rw [emb0, V_main_arg0]
theorem iblk1_apply (c : Dev nD) (t : Fin cfg0.N) (q : Fin 9) (k : Fin 1024) :
    iblk m c 1 t (ix3 0 q k) = (m ((c : Thread nD τ).loc main_arg1)) (ix2 (img t) ⟨1024 * q.val + k.val, by omega⟩) := by
  show V m c main_v0 (((cfg0.win 1).blk t).view.emb (ix3 0 q k)) = _; rw [emb1, v0_apply]
theorem iblk2_apply (c : Dev nD) (t : Fin cfg0.N) (k : Fin 1024) (q : Fin 768) :
    iblk m c 2 t (ix2 k q) = past (fun j : Fin 4316 => (m ((c : Thread nD τ).loc main_arg2)) (ix2 k j)) (scol q.val) := by
  show V m c main_v18 (((cfg0.win 2).blk t).view.emb (ix2 k q)) = _; rw [emb2, v18_apply]
theorem iblk3_apply (c : Dev nD) (t : Fin cfg0.N) (q : Fin 1568) (k : Fin 1024) :
    iblk m c 3 t (ix2 q k) = past (fun j : Fin 4316 => (m ((c : Thread nD τ).loc main_arg2)) (ix2 k j)) (tcol q.val) := by
  show V m c main_v22 (((cfg0.win 3).blk t).view.emb (ix2 q k)) = _; rw [emb3, v22_apply]
theorem iblk4_apply (c : Dev nD) (t : Fin cfg0.N) (s : Fin 512) (i : Fin 128) :
    iblk m c 4 t (ix2 s i) = if i.val % 64 < 32 then past (fun d : Fin 32 => (m ((c : Thread nD τ).loc main_arg5)) (ix2 (row t s) d)) (i.val % 64) else past (fun d : Fin 32 => (m ((c : Thread nD τ).loc main_arg5)) (ix2 (row t s) d)) (i.val % 64 - 32) := by
  show V m c main_v26 (((cfg0.win 4).blk t).view.emb (ix2 s i)) = _; rw [emb4, v26_apply]
theorem iblk5_apply (c : Dev nD) (t : Fin cfg0.N) (s : Fin 512) (i : Fin 128) :
    iblk m c 5 t (ix2 s i) = if i.val % 64 < 32 then -past (fun d : Fin 32 => (m ((c : Thread nD τ).loc main_arg6)) (ix2 (row t s) d)) (i.val % 64) else past (fun d : Fin 32 => (m ((c : Thread nD τ).loc main_arg6)) (ix2 (row t s) d)) (i.val % 64 - 32) := by
  show V m c main_v31 (((cfg0.win 5).blk t).view.emb (ix2 s i)) = _; rw [emb5, v31_apply]
theorem iblk6_apply (c : Dev nD) (t : Fin cfg0.N) (i : Fin 32) (s : Fin 512) :
    iblk m c 6 t (ix2 i s) = (m ((c : Thread nD τ).loc main_arg5)) (ix2 (row t s) i) := by
  show V m c main_v32 (((cfg0.win 6).blk t).view.emb (ix2 i s)) = _; rw [emb6, v32_apply]
theorem iblk7_apply (c : Dev nD) (t : Fin cfg0.N) (i : Fin 32) (s : Fin 512) :
    iblk m c 7 t (ix2 i s) = (m ((c : Thread nD τ).loc main_arg6)) (ix2 (row t s) i) := by
  show V m c main_v33 (((cfg0.win 7).blk t).view.emb (ix2 i s)) = _; rw [emb7, v33_apply]
theorem iblk8_apply (c : Dev nD) (t : Fin cfg0.N) (k : Fin 128) :
    iblk m c 8 t (ix2 0 k) = (m ((c : Thread nD τ).loc main_arg3)) (ix1 k) := by
  show V m c main_v41 (((cfg0.win 8).blk t).view.emb (ix2 0 k)) = _; rw [emb8, v41_apply]
theorem iblk9_apply (c : Dev nD) (t : Fin cfg0.N) (k i : Fin 128) :
    iblk m c 9 t (ix2 k i) = if i.val < 64 then (m ((c : Thread nD τ).loc main_arg4)) (ix2 k i) else (0 : EReal) := by
  show V m c main_v37 (((cfg0.win 9).blk t).view.emb (ix2 k i)) = _; rw [emb9, v37_apply]
theorem iblk10_apply (c : Dev nD) (t : Fin cfg0.N) (i : Fin 64) (k : Fin 128) :
    iblk m c 10 t (ix2 i k) = (m ((c : Thread nD τ).loc main_arg4)) (ix2 k ⟨64 + i.val, by omega⟩) := by
  show V m c main_v40 (((cfg0.win 10).blk t).view.emb (ix2 i k)) = _; rw [emb10, v40_apply]

/-! ## The block's rows as the arguments' -/

/-- The product's columns at a position, the up-projection's, and the position's cosines and sines. -/
def hAt (c : Dev nD) (p : Fin 8) (s : Fin 4096) : Nat → EReal :=
  col (fun k => (m ((c : Thread nD τ).loc main_arg0)) (ix3 p s k)) (fun k => (m ((c : Thread nD τ).loc main_arg1)) (ix2 p ⟨3072 + k.val, by omega⟩))
    (fun k => (m ((c : Thread nD τ).loc main_arg1)) (ix2 p ⟨4096 + k.val, by omega⟩)) (fun k j => (m ((c : Thread nD τ).loc main_arg2)) (ix2 k j))
def uAt (c : Dev nD) (p : Fin 8) (s : Fin 4096) : Nat → EReal :=
  up (hAt m c p s) (fun k => (m ((c : Thread nD τ).loc main_arg3)) (ix1 k)) (fun k j => (m ((c : Thread nD τ).loc main_arg4)) (ix2 k j))
def coAt (c : Dev nD) (s : Fin 4096) : Nat → EReal := past fun d : Fin 32 => (m ((c : Thread nD τ).loc main_arg5)) (ix2 s d)
def siAt (c : Dev nD) (s : Fin 4096) : Nat → EReal := past fun d : Fin 32 => (m ((c : Thread nD τ).loc main_arg6)) (ix2 s d)

theorem ht_blk (c : Dev nD) (t : Fin cfg0.N) (s : Fin 512) {n : Nat} (hn : n < 1568) :
    ht (iblk m c 0 t) (iblk m c 1 t) (iblk m c 3 t) s n = hAt m c (img t) (row t s) (tcol n) := by
  unfold ht
  rw [past_lt _ hn, hAt, ← col_past]
  simp only [iblk0_apply, iblk1_apply, iblk3_apply]
  rfl
theorem hs_blk (c : Dev nD) (t : Fin cfg0.N) (s : Fin 512) {n : Nat} (hn : n < 768) :
    hs (iblk m c 0 t) (iblk m c 1 t) (iblk m c 2 t) s n = hAt m c (img t) (row t s) (scol n) := by
  unfold hs
  rw [past_lt _ hn, hAt, ← col_past]
  simp only [iblk0_apply, iblk1_apply, iblk2_apply]
  rfl
theorem latn_blk (c : Dev nD) (t : Fin cfg0.N) (s : Fin 512) :
    latn (hs (iblk m c 0 t) (iblk m c 1 t) (iblk m c 2 t) s) (fun j => iblk m c 8 t (ix2 0 j)) =
      latn (hAt m c (img t) (row t s)) (fun k => (m ((c : Thread nD τ).loc main_arg3)) (ix1 k)) := by
  simp only [iblk8_apply]
  refine latn_congr _ fun n hn => ?_
  rw [hs_blk m c t s (by omega)]
  refine congrArg _ ?_
  unfold scol; split_ifs <;> omega
theorem co_blk (c : Dev nD) (t : Fin cfg0.N) (s : Fin 512) : (past fun i : Fin 32 => iblk m c 6 t (ix2 i s)) = coAt m c (row t s) := by
  simp only [iblk6_apply]; rfl
theorem si_blk (c : Dev nD) (t : Fin cfg0.N) (s : Fin 512) : (past fun i : Fin 32 => iblk m c 7 t (ix2 i s)) = siAt m c (row t s) := by
  simp only [iblk7_apply]; rfl
theorem col_blk (c : Dev nD) (t : Fin cfg0.N) (s : Fin 512) (n : Nat) (hn : n < 128) : past (fun i : Fin 128 => iblk m c 4 t (ix2 s i)) n =
    if n % 64 < 32 then coAt m c (row t s) (n % 64) else coAt m c (row t s) (n % 64 - 32) := by
  rw [past_lt _ hn, iblk4_apply]; rfl
theorem sil_blk (c : Dev nD) (t : Fin cfg0.N) (s : Fin 512) (n : Nat) (hn : n < 128) : past (fun i : Fin 128 => iblk m c 5 t (ix2 s i)) n =
    if n % 64 < 32 then -siAt m c (row t s) (n % 64) else siAt m c (row t s) (n % 64 - 32) := by
  rw [past_lt _ hn, iblk5_apply]; rfl

end Cert.MixinIdeal.Block
end
-- ==== Proof.MixinBlockQ.lean ====
/- What the mix-in's body leaves in its result blocks at the ideal instance, read at an index as sums over the input
   blocks: the two products kept in scratch, the normed latent, and the three turned queries. -/
module

public import proofs.«01_k».proof.Proof.Gen.MixinIdeal.Value
public import proofs.«01_k».proof.Proof.MixinBlock
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.MixinIdeal.Block

open Cert.MixinIdeal Cert.MixinIdeal.Gen Cert.MixinMath Idealize.ShloMosaic Idealize.ShloMosaic.TcCoe Idealize.ShloMosaic.Tactic

theorem out11 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (d : Fin 512) (s : Fin 512) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 d s) =
      turn (from_ (ht x0 x1 x3 s) 0) (past fun i : Fin 32 => x6 (ix2 i s)) (past fun i : Fin 32 => x7 (ix2 i s)) d.val * Ideal.ofBits .f32 0x3E38AA3B#32 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x512x512.Idx => (fun (d : Fin 512) (s : Fin 512) => (turn (from_ (ht x0 x1 x3 s) 0) (past fun i : Fin 32 => x6 (ix2 i s)) (past fun i : Fin 32 => x7 (ix2 i s)) d.val * Ideal.ofBits .f32 0x3E38AA3B#32 : EReal)) (y 1) (y 2)) _ ?_ _
    (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun j s => ht_read x0 x1 x3 j s
  generalize k0_pay5 (F := Ideal) x0 _ _ x3 = A at hA ⊢
  generalize ht x0 x1 x3 = h at hA ⊢
  refine ⟨?_, ?_, ?_, ?_, ?_, ?_, ?_, ?_, ?_, ?_, ?_, ?_, ?_, ?_, ?_, ?_, fun _ hx => absurd hx List.not_mem_nil⟩
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 480) _ q0 q1 q2 (by omega))).symm
    refine Eq.trans ?_ (congrArg (fun z : EReal => z * Ideal.ofBits .f32 0x3E38AA3B#32) (half_hi (h q2) _ _ 0 448 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 448) _ q0 q1 q2 (by omega))).symm
    refine Eq.trans ?_ (congrArg (fun z : EReal => z * Ideal.ofBits .f32 0x3E38AA3B#32) (half_lo (h q2) _ _ 0 448 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 416) _ q0 q1 q2 (by omega))).symm
    refine Eq.trans ?_ (congrArg (fun z : EReal => z * Ideal.ofBits .f32 0x3E38AA3B#32) (half_hi (h q2) _ _ 0 384 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 384) _ q0 q1 q2 (by omega))).symm
    refine Eq.trans ?_ (congrArg (fun z : EReal => z * Ideal.ofBits .f32 0x3E38AA3B#32) (half_lo (h q2) _ _ 0 384 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 352) _ q0 q1 q2 (by omega))).symm
    refine Eq.trans ?_ (congrArg (fun z : EReal => z * Ideal.ofBits .f32 0x3E38AA3B#32) (half_hi (h q2) _ _ 0 320 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 320) _ q0 q1 q2 (by omega))).symm
    refine Eq.trans ?_ (congrArg (fun z : EReal => z * Ideal.ofBits .f32 0x3E38AA3B#32) (half_lo (h q2) _ _ 0 320 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 288) _ q0 q1 q2 (by omega))).symm
    refine Eq.trans ?_ (congrArg (fun z : EReal => z * Ideal.ofBits .f32 0x3E38AA3B#32) (half_hi (h q2) _ _ 0 256 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 256) _ q0 q1 q2 (by omega))).symm
    refine Eq.trans ?_ (congrArg (fun z : EReal => z * Ideal.ofBits .f32 0x3E38AA3B#32) (half_lo (h q2) _ _ 0 256 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 224) _ q0 q1 q2 (by omega))).symm
    refine Eq.trans ?_ (congrArg (fun z : EReal => z * Ideal.ofBits .f32 0x3E38AA3B#32) (half_hi (h q2) _ _ 0 192 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 192) _ q0 q1 q2 (by omega))).symm
    refine Eq.trans ?_ (congrArg (fun z : EReal => z * Ideal.ofBits .f32 0x3E38AA3B#32) (half_lo (h q2) _ _ 0 192 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 160) _ q0 q1 q2 (by omega))).symm
    refine Eq.trans ?_ (congrArg (fun z : EReal => z * Ideal.ofBits .f32 0x3E38AA3B#32) (half_hi (h q2) _ _ 0 128 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 128) _ q0 q1 q2 (by omega))).symm
    refine Eq.trans ?_ (congrArg (fun z : EReal => z * Ideal.ofBits .f32 0x3E38AA3B#32) (half_lo (h q2) _ _ 0 128 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 96) _ q0 q1 q2 (by omega))).symm
    refine Eq.trans ?_ (congrArg (fun z : EReal => z * Ideal.ofBits .f32 0x3E38AA3B#32) (half_hi (h q2) _ _ 0 64 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 64) _ q0 q1 q2 (by omega))).symm
    refine Eq.trans ?_ (congrArg (fun z : EReal => z * Ideal.ofBits .f32 0x3E38AA3B#32) (half_lo (h q2) _ _ 0 64 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 32) _ q0 q1 q2 (by omega))).symm
    refine Eq.trans ?_ (congrArg (fun z : EReal => z * Ideal.ofBits .f32 0x3E38AA3B#32) (half_hi (h q2) _ _ 0 0 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 0) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 0) _ q0 q1 q2 (by omega))).symm
    refine Eq.trans ?_ (congrArg (fun z : EReal => z * Ideal.ofBits .f32 0x3E38AA3B#32) (half_lo (h q2) _ _ 0 0 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)

theorem out12 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (d : Fin 512) (s : Fin 512) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 d s) =
      turn (from_ (ht x0 x1 x3 s) 512) (past fun i : Fin 32 => x6 (ix2 i s)) (past fun i : Fin 32 => x7 (ix2 i s)) d.val * Ideal.ofBits .f32 0x3E38AA3B#32 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x512x512.Idx => (fun (d : Fin 512) (s : Fin 512) => (turn (from_ (ht x0 x1 x3 s) 512) (past fun i : Fin 32 => x6 (ix2 i s)) (past fun i : Fin 32 => x7 (ix2 i s)) d.val * Ideal.ofBits .f32 0x3E38AA3B#32 : EReal)) (y 1) (y 2)) _ ?_ _
    (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun j s => ht_read x0 x1 x3 j s
  generalize k0_pay5 (F := Ideal) x0 _ _ x3 = A at hA ⊢
  generalize ht x0 x1 x3 = h at hA ⊢
  refine ⟨?_, ?_, ?_, ?_, ?_, ?_, ?_, ?_, ?_, ?_, ?_, ?_, ?_, ?_, ?_, ?_, fun _ hx => absurd hx List.not_mem_nil⟩
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 480) _ q0 q1 q2 (by omega))).symm
    refine Eq.trans ?_ (congrArg (fun z : EReal => z * Ideal.ofBits .f32 0x3E38AA3B#32) (half_hi (h q2) _ _ 512 448 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 448) _ q0 q1 q2 (by omega))).symm
    refine Eq.trans ?_ (congrArg (fun z : EReal => z * Ideal.ofBits .f32 0x3E38AA3B#32) (half_lo (h q2) _ _ 512 448 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 416) _ q0 q1 q2 (by omega))).symm
    refine Eq.trans ?_ (congrArg (fun z : EReal => z * Ideal.ofBits .f32 0x3E38AA3B#32) (half_hi (h q2) _ _ 512 384 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 384) _ q0 q1 q2 (by omega))).symm
    refine Eq.trans ?_ (congrArg (fun z : EReal => z * Ideal.ofBits .f32 0x3E38AA3B#32) (half_lo (h q2) _ _ 512 384 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 352) _ q0 q1 q2 (by omega))).symm
    refine Eq.trans ?_ (congrArg (fun z : EReal => z * Ideal.ofBits .f32 0x3E38AA3B#32) (half_hi (h q2) _ _ 512 320 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 320) _ q0 q1 q2 (by omega))).symm
    refine Eq.trans ?_ (congrArg (fun z : EReal => z * Ideal.ofBits .f32 0x3E38AA3B#32) (half_lo (h q2) _ _ 512 320 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 288) _ q0 q1 q2 (by omega))).symm
    refine Eq.trans ?_ (congrArg (fun z : EReal => z * Ideal.ofBits .f32 0x3E38AA3B#32) (half_hi (h q2) _ _ 512 256 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 256) _ q0 q1 q2 (by omega))).symm
    refine Eq.trans ?_ (congrArg (fun z : EReal => z * Ideal.ofBits .f32 0x3E38AA3B#32) (half_lo (h q2) _ _ 512 256 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 224) _ q0 q1 q2 (by omega))).symm
    refine Eq.trans ?_ (congrArg (fun z : EReal => z * Ideal.ofBits .f32 0x3E38AA3B#32) (half_hi (h q2) _ _ 512 192 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 192) _ q0 q1 q2 (by omega))).symm
    refine Eq.trans ?_ (congrArg (fun z : EReal => z * Ideal.ofBits .f32 0x3E38AA3B#32) (half_lo (h q2) _ _ 512 192 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 160) _ q0 q1 q2 (by omega))).symm
    refine Eq.trans ?_ (congrArg (fun z : EReal => z * Ideal.ofBits .f32 0x3E38AA3B#32) (half_hi (h q2) _ _ 512 128 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 128) _ q0 q1 q2 (by omega))).symm
    refine Eq.trans ?_ (congrArg (fun z : EReal => z * Ideal.ofBits .f32 0x3E38AA3B#32) (half_lo (h q2) _ _ 512 128 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 96) _ q0 q1 q2 (by omega))).symm
    refine Eq.trans ?_ (congrArg (fun z : EReal => z * Ideal.ofBits .f32 0x3E38AA3B#32) (half_hi (h q2) _ _ 512 64 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 64) _ q0 q1 q2 (by omega))).symm
    refine Eq.trans ?_ (congrArg (fun z : EReal => z * Ideal.ofBits .f32 0x3E38AA3B#32) (half_lo (h q2) _ _ 512 64 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 32) _ q0 q1 q2 (by omega))).symm
    refine Eq.trans ?_ (congrArg (fun z : EReal => z * Ideal.ofBits .f32 0x3E38AA3B#32) (half_hi (h q2) _ _ 512 0 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x512x512.Idx => (fun (d : Fin 512) (s : Fin 512) => (turn (from_ (h s) 512) (past fun i : Fin 32 => x6 (ix2 i s)) (past fun i : Fin 32 => x7 (ix2 i s)) d.val * Ideal.ofBits .f32 0x3E38AA3B#32 : EReal)) (y 1) (y 2)) (emb_mid (B := 512) (b := 32) (C := 512) (o := 0) _ q0 q1 q2 (by omega))).symm
    refine Eq.trans ?_ (congrArg (fun z : EReal => z * Ideal.ofBits .f32 0x3E38AA3B#32) (half_lo (h q2) _ _ 512 0 rfl q1))
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)

theorem out13 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (d : Fin 256) (s : Fin 512) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 d s) =
      turn (from_ (ht x0 x1 x3 s) 1024) (past fun i : Fin 32 => x6 (ix2 i s)) (past fun i : Fin 32 => x7 (ix2 i s)) d.val := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x256x512.Idx => (fun (d : Fin 256) (s : Fin 512) => (turn (from_ (ht x0 x1 x3 s) 1024) (past fun i : Fin 32 => x6 (ix2 i s)) (past fun i : Fin 32 => x7 (ix2 i s)) d.val : EReal)) (y 1) (y 2)) _ ?_ _
    (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun j s => ht_read x0 x1 x3 j s
  generalize k0_pay5 (F := Ideal) x0 _ _ x3 = A at hA ⊢
  generalize ht x0 x1 x3 = h at hA ⊢
  refine ⟨?_, ?_, ?_, ?_, ?_, ?_, ?_, ?_, fun _ hx => absurd hx List.not_mem_nil⟩
  · intro q; idx_vars q
    refine Eq.trans ?_ (congrArg (fun y : S1x256x512.Idx => (fun (d : Fin 256) (s : Fin 512) => (turn (from_ (h s) 1024) (past fun i : Fin 32 => x6 (ix2 i s)) (past fun i : Fin 32 => x7 (ix2 i s)) d.val : EReal)) (y 1) (y 2)) (emb_mid (B := 256) (b := 32) (C := 512) (o := 224) _ q0 q1 q2 (by omega))).symm
    refine Eq.trans ?_ (half_hi (h q2) _ _ 1024 192 rfl q1)
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x256x512.Idx => (fun (d : Fin 256) (s : Fin 512) => (turn (from_ (h s) 1024) (past fun i : Fin 32 => x6 (ix2 i s)) (past fun i : Fin 32 => x7 (ix2 i s)) d.val : EReal)) (y 1) (y 2)) (emb_mid (B := 256) (b := 32) (C := 512) (o := 192) _ q0 q1 q2 (by omega))).symm
    refine Eq.trans ?_ (half_lo (h q2) _ _ 1024 192 rfl q1)
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x256x512.Idx => (fun (d : Fin 256) (s : Fin 512) => (turn (from_ (h s) 1024) (past fun i : Fin 32 => x6 (ix2 i s)) (past fun i : Fin 32 => x7 (ix2 i s)) d.val : EReal)) (y 1) (y 2)) (emb_mid (B := 256) (b := 32) (C := 512) (o := 160) _ q0 q1 q2 (by omega))).symm
    refine Eq.trans ?_ (half_hi (h q2) _ _ 1024 128 rfl q1)
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x256x512.Idx => (fun (d : Fin 256) (s : Fin 512) => (turn (from_ (h s) 1024) (past fun i : Fin 32 => x6 (ix2 i s)) (past fun i : Fin 32 => x7 (ix2 i s)) d.val : EReal)) (y 1) (y 2)) (emb_mid (B := 256) (b := 32) (C := 512) (o := 128) _ q0 q1 q2 (by omega))).symm
    refine Eq.trans ?_ (half_lo (h q2) _ _ 1024 128 rfl q1)
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x256x512.Idx => (fun (d : Fin 256) (s : Fin 512) => (turn (from_ (h s) 1024) (past fun i : Fin 32 => x6 (ix2 i s)) (past fun i : Fin 32 => x7 (ix2 i s)) d.val : EReal)) (y 1) (y 2)) (emb_mid (B := 256) (b := 32) (C := 512) (o := 96) _ q0 q1 q2 (by omega))).symm
    refine Eq.trans ?_ (half_hi (h q2) _ _ 1024 64 rfl q1)
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x256x512.Idx => (fun (d : Fin 256) (s : Fin 512) => (turn (from_ (h s) 1024) (past fun i : Fin 32 => x6 (ix2 i s)) (past fun i : Fin 32 => x7 (ix2 i s)) d.val : EReal)) (y 1) (y 2)) (emb_mid (B := 256) (b := 32) (C := 512) (o := 64) _ q0 q1 q2 (by omega))).symm
    refine Eq.trans ?_ (half_lo (h q2) _ _ 1024 64 rfl q1)
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x256x512.Idx => (fun (d : Fin 256) (s : Fin 512) => (turn (from_ (h s) 1024) (past fun i : Fin 32 => x6 (ix2 i s)) (past fun i : Fin 32 => x7 (ix2 i s)) d.val : EReal)) (y 1) (y 2)) (emb_mid (B := 256) (b := 32) (C := 512) (o := 32) _ q0 q1 q2 (by omega))).symm
    refine Eq.trans ?_ (half_hi (h q2) _ _ 1024 0 rfl q1)
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)
  · intro q; idx_vars q
    refine Eq.trans ?_ (congrArg (fun y : S1x256x512.Idx => (fun (d : Fin 256) (s : Fin 512) => (turn (from_ (h s) 1024) (past fun i : Fin 32 => x6 (ix2 i s)) (past fun i : Fin 32 => x7 (ix2 i s)) d.val : EReal)) (y 1) (y 2)) (emb_mid (B := 256) (b := 32) (C := 512) (o := 0) _ q0 q1 q2 (by omega))).symm
    refine Eq.trans ?_ (half_lo (h q2) _ _ 1024 0 rfl q1)
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, ld_rows A h hA]
    all_goals (obtain rfl := rows_eq A h hA; rfl)

end Cert.MixinIdeal.Block
end
-- ==== Proof.MixinBlockT.lean ====
/- What the mix-in's body leaves in its result blocks at the ideal instance, read at an index as sums over the input
   blocks: the two products kept in scratch, the normed latent, and the token-major and the plain results. -/
module

public import proofs.«01_k».proof.Proof.Gen.MixinIdeal.Value
public import proofs.«01_k».proof.Proof.MixinBlock
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.MixinIdeal.Block

open Cert.MixinIdeal Cert.MixinIdeal.Gen Cert.MixinMath Idealize.ShloMosaic Idealize.ShloMosaic.TcCoe Idealize.ShloMosaic.Tactic

theorem out14 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (d : Fin 64) (s : Fin 512) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 d s) =
      ∑ k : Fin 128, x10 (ix2 d k) * latn (hs x0 x1 x2 s) (fun j => x8 (ix2 0 j)) k := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x64x512.Idx => (fun (d : Fin 64) (s : Fin 512) => (∑ k : Fin 128, x10 (ix2 d k) * latn (hs x0 x1 x2 s) (fun j => x8 (ix2 0 j)) k : EReal)) (y 1) (y 2)) _ ?_ _
    (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun s j => hs_read x0 x1 x2 s j
  generalize k0_pay4 (F := Ideal) x0 _ _ x2 = A at hA ⊢
  generalize hs x0 x1 x2 = h at hA ⊢
  have hB := fun s k => latn_read A h hA x8 s k
  generalize k0_pay77 (F := Ideal) _ x8 = B at hB ⊢
  refine ⟨?_, fun _ hx => absurd hx List.not_mem_nil⟩
  intro q; idx_vars q
  refine Eq.trans ?_ (congrArg (fun y : S1x64x512.Idx => (fun (d : Fin 64) (s : Fin 512) => (∑ k : Fin 128, x10 (ix2 d k) * latn (h s) (fun j => x8 (ix2 0 j)) k : EReal)) (y 1) (y 2)) (emb_mid (B := 64) (b := 64) (C := 512) (o := 0) _ q0 q1 q2 (by omega))).symm
  refine Eq.trans ?_ (congrArg (fun n : Fin 64 => ∑ k : Fin 128, x10 (ix2 n k) * latn (h q2) (fun j => x8 (ix2 0 j)) k)
    (Fin.ext (Nat.zero_add q1.val).symm : q1 = ⟨0 + q1.val, _⟩))
  pointwise [k0_pay2]
  simp only [hB]

theorem out15 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (d : Fin 128) (s : Fin 512) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 d s) =
      ht x0 x1 x3 s (1280 + d.val) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x128x512.Idx => (fun (d : Fin 128) (s : Fin 512) => (ht x0 x1 x3 s (1280 + d.val) : EReal)) (y 1) (y 2)) _ ?_ _
    (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun j s => ht_read x0 x1 x3 j s
  generalize k0_pay5 (F := Ideal) x0 _ _ x3 = A at hA ⊢
  generalize ht x0 x1 x3 = h at hA ⊢
  refine ⟨?_, fun _ hx => absurd hx List.not_mem_nil⟩
  intro q; idx_vars q
  refine Eq.trans ?_ (congrArg (fun y : S1x128x512.Idx => (fun (d : Fin 128) (s : Fin 512) => (h s (1280 + d.val) : EReal)) (y 1) (y 2)) (emb_mid (B := 128) (b := 128) (C := 512) (o := 0) _ q0 q1 q2 (by omega))).symm
  refine Eq.trans ?_ (congrArg (fun n => h q2 (1280 + n)) (Nat.zero_add q1.val).symm)
  pointwise [k0_pay59, k0_pay60, k0_pay61, ld_rows A h hA]
  all_goals (obtain rfl := rows_eq A h hA; rfl)

theorem out16 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (d : Fin 128) (s : Fin 512) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 d s) =
      ht x0 x1 x3 s (1408 + d.val) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x128x512.Idx => (fun (d : Fin 128) (s : Fin 512) => (ht x0 x1 x3 s (1408 + d.val) : EReal)) (y 1) (y 2)) _ ?_ _
    (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun j s => ht_read x0 x1 x3 j s
  generalize k0_pay5 (F := Ideal) x0 _ _ x3 = A at hA ⊢
  generalize ht x0 x1 x3 = h at hA ⊢
  refine ⟨?_, fun _ hx => absurd hx List.not_mem_nil⟩
  intro q; idx_vars q
  refine Eq.trans ?_ (congrArg (fun y : S1x128x512.Idx => (fun (d : Fin 128) (s : Fin 512) => (h s (1408 + d.val) : EReal)) (y 1) (y 2)) (emb_mid (B := 128) (b := 128) (C := 512) (o := 0) _ q0 q1 q2 (by omega))).symm
  refine Eq.trans ?_ (congrArg (fun n => h q2 (1408 + n)) (Nat.zero_add q1.val).symm)
  pointwise [k0_pay59, k0_pay60, k0_pay61, ld_rows A h hA]
  all_goals (obtain rfl := rows_eq A h hA; rfl)

theorem out17 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (d : Fin 32) (s : Fin 512) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 d s) =
      if d.val < 24 then Ideal.logistic (ht x0 x1 x3 s (1536 + d.val)) else ht x0 x1 x3 s (1536 + d.val) * Ideal.ofBits .f32 0x3F000000#32 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x32x512.Idx => (fun (d : Fin 32) (s : Fin 512) => (if d.val < 24 then Ideal.logistic (ht x0 x1 x3 s (1536 + d.val)) else ht x0 x1 x3 s (1536 + d.val) * Ideal.ofBits .f32 0x3F000000#32 : EReal)) (y 1) (y 2)) _ ?_ _
    (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun j s => ht_read x0 x1 x3 j s
  generalize k0_pay5 (F := Ideal) x0 _ _ x3 = A at hA ⊢
  generalize ht x0 x1 x3 = h at hA ⊢
  refine ⟨?_, fun _ hx => absurd hx List.not_mem_nil⟩
  intro q; idx_vars q
  refine Eq.trans ?_ (congrArg (fun y : S1x32x512.Idx => (fun (d : Fin 32) (s : Fin 512) => (if d.val < 24 then Ideal.logistic (h s (1536 + d.val)) else h s (1536 + d.val) * Ideal.ofBits .f32 0x3F000000#32 : EReal)) (y 1) (y 2)) (emb_mid (B := 32) (b := 32) (C := 512) (o := 0) _ q0 q1 q2 (by omega))).symm
  refine Eq.trans ?_ (congrArg (fun n => if n < 24 then Ideal.logistic (h q2 (1536 + n)) else h q2 (1536 + n) * Ideal.ofBits .f32 0x3F000000#32)
    (Nat.zero_add q1.val).symm)
  pointwise [k0_pay62, ld_rows A h hA]
  have e : ∀ c : Fin 32, IntOp.cmpi CmpIPredicate.slt (BitVec.ofNat 32 c.val) 24#32 = if c.val < 24 then 1#1 else 0#1 := by decide +kernel
  rw [e q1]
  by_cases hc : q1.val < 24
  · rw [if_pos hc, if_pos hc]; obtain rfl := rows_eq A h hA; rfl
  · rw [if_neg hc, if_neg hc]; obtain rfl := rows_eq A h hA; rfl

theorem out18 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (s : Fin 512) (d : Fin 64) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 s d) =
      lane (past fun j : Fin 128 => ∑ k : Fin 128, latn (hs x0 x1 x2 s) (fun j => x8 (ix2 0 j)) k * x9 (ix2 k j)) (past fun i : Fin 128 => x4 (ix2 s i)) (past fun i : Fin 128 => x5 (ix2 s i)) d.val := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x512x64.Idx => (fun (s : Fin 512) (d : Fin 64) => (lane (past fun j : Fin 128 => ∑ k : Fin 128, latn (hs x0 x1 x2 s) (fun j => x8 (ix2 0 j)) k * x9 (ix2 k j)) (past fun i : Fin 128 => x4 (ix2 s i)) (past fun i : Fin 128 => x5 (ix2 s i)) d.val : EReal)) (y 1) (y 2)) _ ?_ _
    (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun s j => hs_read x0 x1 x2 s j
  generalize k0_pay4 (F := Ideal) x0 _ _ x2 = A at hA ⊢
  generalize hs x0 x1 x2 = h at hA ⊢
  have hB := fun s k => latn_read A h hA x8 s k
  generalize k0_pay77 (F := Ideal) _ x8 = B at hB ⊢
  refine ⟨?_, fun _ hx => absurd hx List.not_mem_nil⟩
  intro q; idx_vars q
  refine Eq.trans ?_ (congrArg (fun y : S1x512x64.Idx => (fun (s : Fin 512) (d : Fin 64) => (lane (past fun j : Fin 128 => ∑ k : Fin 128, latn (h s) (fun j => x8 (ix2 0 j)) k * x9 (ix2 k j)) (past fun i : Fin 128 => x4 (ix2 s i)) (past fun i : Fin 128 => x5 (ix2 s i)) d.val : EReal)) (y 1) (y 2)) (emb_last (B := 512) (c := 64) (C := 64) (o := 0) _ q0 q1 q2 (by omega))).symm
  refine Eq.trans ?_ (congrArg (fun n => lane (past fun j : Fin 128 => ∑ k : Fin 128, latn (h q1) (fun j => x8 (ix2 0 j)) k * x9 (ix2 k j)) (past fun i : Fin 128 => x4 (ix2 q1 i)) (past fun i : Fin 128 => x5 (ix2 q1 i)) n) (Nat.zero_add q2.val).symm)
  have hq := q2.isLt
  refine Eq.trans ?_ (lane_row (fun j : Fin 128 => ∑ k : Fin 128, latn (h q1) (fun j => x8 (ix2 0 j)) k * x9 (ix2 k j)) _ _ q2.val (by omega) (by omega) (by omega))
  pointwise [k0_pay1, k0_pay63, k0_pay64, k0_pay65]
  simp only [hB]

theorem out19 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (s : Fin 512) (d : Fin 64) :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 s d) =
      lane (from_ (hs x0 x1 x2 s) 640) (past fun i : Fin 128 => x4 (ix2 s i)) (past fun i : Fin 128 => x5 (ix2 s i)) d.val := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x512x64.Idx => (fun (s : Fin 512) (d : Fin 64) => (lane (from_ (hs x0 x1 x2 s) 640) (past fun i : Fin 128 => x4 (ix2 s i)) (past fun i : Fin 128 => x5 (ix2 s i)) d.val : EReal)) (y 1) (y 2)) _ ?_ _
    (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun s j => hs_read x0 x1 x2 s j
  generalize k0_pay4 (F := Ideal) x0 _ _ x2 = A at hA ⊢
  generalize hs x0 x1 x2 = h at hA ⊢
  refine ⟨?_, fun _ hx => absurd hx List.not_mem_nil⟩
  intro q; idx_vars q
  refine Eq.trans ?_ (congrArg (fun y : S1x512x64.Idx => (fun (s : Fin 512) (d : Fin 64) => (lane (from_ (h s) 640) (past fun i : Fin 128 => x4 (ix2 s i)) (past fun i : Fin 128 => x5 (ix2 s i)) d.val : EReal)) (y 1) (y 2)) (emb_last (B := 512) (c := 64) (C := 64) (o := 0) _ q0 q1 q2 (by omega))).symm
  refine Eq.trans ?_ (congrArg (fun n => lane (from_ (h q1) 640) (past fun i : Fin 128 => x4 (ix2 q1 i)) (past fun i : Fin 128 => x5 (ix2 q1 i)) n) (Nat.zero_add q2.val).symm)
  have hq := q2.isLt
  refine Eq.trans ?_ (lane_at (h q1) _ _ 640 q2.val (by omega))
  pointwise [k0_pay63, k0_pay64, k0_pay65, k0_pay66, k0_pay67, k0_pay68, k0_pay69, k0_pay70, k0_pay71, k0_pay72, k0_pay73, k0_pay74, k0_pay75, k0_pay76, ld_cols A h hA]
  all_goals (obtain rfl := cols_eq A h hA; rfl)

theorem out20 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (g : Fin 2) (s : Fin 512) (d : Fin 64) :
    out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 g s d) =
      lane (from_ (hs x0 x1 x2 s) 256) (past fun i : Fin 128 => x4 (ix2 s i)) (past fun i : Fin 128 => x5 (ix2 s i)) (64 * g.val + d.val) := by
  unfold out0_A_20
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x2x512x64.Idx => (fun (g : Fin 2) (s : Fin 512) (d : Fin 64) => (lane (from_ (hs x0 x1 x2 s) 256) (past fun i : Fin 128 => x4 (ix2 s i)) (past fun i : Fin 128 => x5 (ix2 s i)) (64 * g.val + d.val) : EReal)) (y 1) (y 2) (y 3)) _ ?_ _
    (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun s j => hs_read x0 x1 x2 s j
  generalize k0_pay4 (F := Ideal) x0 _ _ x2 = A at hA ⊢
  generalize hs x0 x1 x2 = h at hA ⊢
  refine ⟨?_, ?_, fun _ hx => absurd hx List.not_mem_nil⟩
  · intro q; idx_vars q
    refine Eq.trans ?_ (congrArg (fun y : S1x2x512x64.Idx => (fun (g : Fin 2) (s : Fin 512) (d : Fin 64) => (lane (from_ (h s) 256) (past fun i : Fin 128 => x4 (ix2 s i)) (past fun i : Fin 128 => x5 (ix2 s i)) (64 * g.val + d.val) : EReal)) (y 1) (y 2) (y 3)) (emb_grp (o := 1) _ q0 q1 q2 q3 (by omega))).symm
    have hq := q3.isLt
    skip
    refine Eq.trans ?_ (lane_at (h q2) _ _ 256 (64 + q3.val) (by omega))
    pointwise [k0_pay63, k0_pay64, k0_pay65, k0_pay66, k0_pay67, k0_pay68, k0_pay69, k0_pay70, k0_pay71, k0_pay72, k0_pay73, k0_pay74, k0_pay75, k0_pay76, ld_cols A h hA]
    all_goals (obtain rfl := cols_eq A h hA; rfl)
  · intro q; idx_vars q
    refine Eq.trans ?_ (congrArg (fun y : S1x2x512x64.Idx => (fun (g : Fin 2) (s : Fin 512) (d : Fin 64) => (lane (from_ (h s) 256) (past fun i : Fin 128 => x4 (ix2 s i)) (past fun i : Fin 128 => x5 (ix2 s i)) (64 * g.val + d.val) : EReal)) (y 1) (y 2) (y 3)) (emb_grp (o := 0) _ q0 q1 q2 q3 (by omega))).symm
    have hq := q3.isLt
    refine Eq.trans ?_ (congrArg (fun n => lane (from_ (h q2) 256) (past fun i : Fin 128 => x4 (ix2 q2 i)) (past fun i : Fin 128 => x5 (ix2 q2 i)) n) (Nat.zero_add q3.val).symm)
    refine Eq.trans ?_ (lane_at (h q2) _ _ 256 (q3.val) (by omega))
    pointwise [k0_pay63, k0_pay64, k0_pay65, k0_pay66, k0_pay67, k0_pay68, k0_pay69, k0_pay70, k0_pay71, k0_pay72, k0_pay73, k0_pay74, k0_pay75, k0_pay76, ld_cols A h hA]
    all_goals (obtain rfl := cols_eq A h hA; rfl)

theorem out21 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (g : Fin 2) (s : Fin 512) (d : Fin 64) :
    out0_A_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 g s d) =
      lane (from_ (hs x0 x1 x2 s) 384) (past fun i : Fin 128 => x4 (ix2 s i)) (past fun i : Fin 128 => x5 (ix2 s i)) (64 * g.val + d.val) := by
  unfold out0_A_21
  rw [View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x2x512x64.Idx => (fun (g : Fin 2) (s : Fin 512) (d : Fin 64) => (lane (from_ (hs x0 x1 x2 s) 384) (past fun i : Fin 128 => x4 (ix2 s i)) (past fun i : Fin 128 => x5 (ix2 s i)) (64 * g.val + d.val) : EReal)) (y 1) (y 2) (y 3)) _ ?_ _
    (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun s j => hs_read x0 x1 x2 s j
  generalize k0_pay4 (F := Ideal) x0 _ _ x2 = A at hA ⊢
  generalize hs x0 x1 x2 = h at hA ⊢
  refine ⟨?_, ?_, fun _ hx => absurd hx List.not_mem_nil⟩
  · intro q; idx_vars q
    refine Eq.trans ?_ (congrArg (fun y : S1x2x512x64.Idx => (fun (g : Fin 2) (s : Fin 512) (d : Fin 64) => (lane (from_ (h s) 384) (past fun i : Fin 128 => x4 (ix2 s i)) (past fun i : Fin 128 => x5 (ix2 s i)) (64 * g.val + d.val) : EReal)) (y 1) (y 2) (y 3)) (emb_grp (o := 1) _ q0 q1 q2 q3 (by omega))).symm
    have hq := q3.isLt
    skip
    refine Eq.trans ?_ (lane_at (h q2) _ _ 384 (64 + q3.val) (by omega))
    pointwise [k0_pay63, k0_pay64, k0_pay65, k0_pay66, k0_pay67, k0_pay68, k0_pay69, k0_pay70, k0_pay71, k0_pay72, k0_pay73, k0_pay74, k0_pay75, k0_pay76, ld_cols A h hA]
    all_goals (obtain rfl := cols_eq A h hA; rfl)
  · intro q; idx_vars q
    refine Eq.trans ?_ (congrArg (fun y : S1x2x512x64.Idx => (fun (g : Fin 2) (s : Fin 512) (d : Fin 64) => (lane (from_ (h s) 384) (past fun i : Fin 128 => x4 (ix2 s i)) (past fun i : Fin 128 => x5 (ix2 s i)) (64 * g.val + d.val) : EReal)) (y 1) (y 2) (y 3)) (emb_grp (o := 0) _ q0 q1 q2 q3 (by omega))).symm
    have hq := q3.isLt
    refine Eq.trans ?_ (congrArg (fun n => lane (from_ (h q2) 384) (past fun i : Fin 128 => x4 (ix2 q2 i)) (past fun i : Fin 128 => x5 (ix2 q2 i)) n) (Nat.zero_add q3.val).symm)
    refine Eq.trans ?_ (lane_at (h q2) _ _ 384 (q3.val) (by omega))
    pointwise [k0_pay63, k0_pay64, k0_pay65, k0_pay66, k0_pay67, k0_pay68, k0_pay69, k0_pay70, k0_pay71, k0_pay72, k0_pay73, k0_pay74, k0_pay75, k0_pay76, ld_cols A h hA]
    all_goals (obtain rfl := cols_eq A h hA; rfl)

theorem out22 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x768 .bf16) (harg4 : arg4.IsWhole) (arg5 : Memref sig .tc .vmem S1568x1024 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S64x128 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x256x512 .bf16) (harg15 : arg15.IsWhole) (arg16 : Memref sig .tc .vmem S1x64x512 .bf16) (harg16 : arg16.IsWhole) (arg17 : Memref sig .tc .vmem S1x128x512 .bf16) (harg17 : arg17.IsWhole) (arg18 : Memref sig .tc .vmem S1x128x512 .bf16) (harg18 : arg18.IsWhole) (arg19 : Memref sig .tc .vmem S1x32x512 .f32) (harg19 : arg19.IsWhole) (arg20 : Memref sig .tc .vmem S1x512x64 .bf16) (harg20 : arg20.IsWhole) (arg21 : Memref sig .tc .vmem S1x512x64 .bf16) (harg21 : arg21.IsWhole) (arg22 : Memref sig .tc .vmem S1x2x512x64 .bf16) (harg22 : arg22.IsWhole) (arg23 : Memref sig .tc .vmem S1x2x512x64 .bf16) (harg23 : arg23.IsWhole) (arg24 : Memref sig .tc .vmem S1x512x256 .f32) (harg24 : arg24.IsWhole) (arg25 : Memref sig .tc .vmem S512x768 .f32) (harg25 : arg25.IsWhole) (arg26 : Memref sig .tc .vmem S1568x512 .f32) (harg26 : arg26.IsWhole)
    (x0 : Vec Ideal S1x512x1024 .f32) (x1 : Vec Ideal S1x9x1024 .f32) (x2 : Vec Ideal S1024x768 .bf16) (x3 : Vec Ideal S1568x1024 .bf16) (x4 : Vec Ideal S512x128 .f32) (x5 : Vec Ideal S512x128 .f32) (x6 : Vec Ideal S32x512 .f32) (x7 : Vec Ideal S32x512 .f32) (x8 : Vec Ideal S1x128 .f32) (x9 : Vec Ideal S128x128 .bf16) (x10 : Vec Ideal S64x128 .bf16) (s : Fin 512) (d : Fin 256) :
    out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix3 0 s d) =
      if d.val < 128 then lane (from_ (hs x0 x1 x2 s) 0) (past fun i : Fin 128 => x4 (ix2 s i)) (past fun i : Fin 128 => x5 (ix2 s i)) d.val else hs x0 x1 x2 s d.val := by
  unfold out0_A_22
  rw [View.read_writes_eq_canon _ _ _ (cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)]
  refine View.canon_apply_of_pieces (fun y : S1x512x256.Idx => (fun (s : Fin 512) (d : Fin 256) => (if d.val < 128 then lane (from_ (hs x0 x1 x2 s) 0) (past fun i : Fin 128 => x4 (ix2 s i)) (past fun i : Fin 128 => x5 (ix2 s i)) d.val else hs x0 x1 x2 s d.val : EReal)) (y 1) (y 2)) _ ?_ _
    (cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 _)
  unfold kernelRun0_A
  dsimp only
  sl_unfold_words
  simp only [View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread]
  simp (discharger := exact congrFun hz2) only [View.readCov_fill]
  simp only [List.forall_mem_cons, View.ld_unit_zero (S := S1x512x1024) hz3, View.ld_unit_zero (S := S1024x768) hz2, View.ld_unit_zero (S := S1568x1024) hz2, View.ld_unit_zero (S := S512x128) hz2, View.ld_unit_zero (S := S32x512) hz2, View.ld_unit_zero (S := S1x128) hz2, View.ld_unit_zero (S := S128x128) hz2, View.ld_unit_zero (S := S64x128) hz2]
  have hA := fun s j => hs_read x0 x1 x2 s j
  generalize k0_pay4 (F := Ideal) x0 _ _ x2 = A at hA ⊢
  generalize hs x0 x1 x2 = h at hA ⊢
  refine ⟨?_, ?_, fun _ hx => absurd hx List.not_mem_nil⟩
  · intro q; idx_vars q
    refine Eq.trans ?_ (congrArg (fun y : S1x512x256.Idx => (fun (s : Fin 512) (d : Fin 256) => (if d.val < 128 then lane (from_ (h s) 0) (past fun i : Fin 128 => x4 (ix2 s i)) (past fun i : Fin 128 => x5 (ix2 s i)) d.val else h s d.val : EReal)) (y 1) (y 2)) (emb_last (B := 512) (c := 128) (C := 256) (o := 128) _ q0 q1 q2 (by omega))).symm
    refine Eq.trans ?_ (if_neg (by show ¬ 128 + q2.val < 128; omega)).symm
    pointwise [k0_pay63, k0_pay64, k0_pay65, k0_pay66, k0_pay67, k0_pay68, k0_pay69, k0_pay70, k0_pay71, k0_pay72, k0_pay73, k0_pay74, k0_pay75, k0_pay76, ld_cols A h hA]
    all_goals (obtain rfl := cols_eq A h hA; rfl)
  · intro q; idx_vars q
    refine Eq.trans ?_ (congrArg (fun y : S1x512x256.Idx => (fun (s : Fin 512) (d : Fin 256) => (if d.val < 128 then lane (from_ (h s) 0) (past fun i : Fin 128 => x4 (ix2 s i)) (past fun i : Fin 128 => x5 (ix2 s i)) d.val else h s d.val : EReal)) (y 1) (y 2)) (emb_last (B := 512) (c := 128) (C := 256) (o := 0) _ q0 q1 q2 (by omega))).symm
    refine Eq.trans ?_ (if_pos (by show 0 + q2.val < 128; omega)).symm
    have hq := q2.isLt
    refine Eq.trans ?_ (congrArg (fun n => lane (from_ (h q1) 0) (past fun i : Fin 128 => x4 (ix2 q1 i)) (past fun i : Fin 128 => x5 (ix2 q1 i)) n) (Nat.zero_add q2.val).symm)
    refine Eq.trans ?_ (lane_at (h q1) _ _ 0 q2.val (by omega))
    pointwise [k0_pay63, k0_pay64, k0_pay65, k0_pay66, k0_pay67, k0_pay68, k0_pay69, k0_pay70, k0_pay71, k0_pay72, k0_pay73, k0_pay74, k0_pay75, k0_pay76, ld_cols A h hA]
    all_goals (obtain rfl := cols_eq A h hA; rfl)

end Cert.MixinIdeal.Block
end
-- ==== Proof.MixinArray.lean ====
/- The mix-in kernel's twelve result arrays as functions of its arguments: each point's write-back as its block of the
   function, the write-backs covering the array, and the run with the arrays named. -/
module

public import proofs.«01_k».proof.Proof.MixinHost
public import proofs.«01_k».proof.Proof.MixinBlockQ
public import proofs.«01_k».proof.Proof.MixinBlockT

@[expose] public section

set_option maxRecDepth 16384

noncomputable section

namespace Cert.MixinIdeal.Block

open Cert.MixinIdeal Cert.MixinIdeal.Gen Cert.MixinIdeal.Value Cert.MixinMath Idealize.ShloMosaic Idealize.ShloMosaic.TcCoe Idealize.ShloMosaic.Tactic Idealize.SL.Sem

variable (m : (ℓ : Loc nD τ sig) → Buf (Elt Ideal) ℓ) (ρ : Dev nD → PrngReg)

/-! ## The windows' blocks -/

theorem idx11 : ∀ t : Fin cfg0.N, win0_11.index t (0 : Fin 3) = t.val / 8 ∧ win0_11.index t (1 : Fin 3) = 0 ∧ win0_11.index t (2 : Fin 3) = t.val % 8 :=
  (by decide +kernel : ∀ t : Fin grid0.N, _)
theorem idx12 : ∀ t : Fin cfg0.N, win0_12.index t (0 : Fin 3) = t.val / 8 ∧ win0_12.index t (1 : Fin 3) = 0 ∧ win0_12.index t (2 : Fin 3) = t.val % 8 :=
  (by decide +kernel : ∀ t : Fin grid0.N, _)
theorem idx13 : ∀ t : Fin cfg0.N, win0_13.index t (0 : Fin 3) = t.val / 8 ∧ win0_13.index t (1 : Fin 3) = 0 ∧ win0_13.index t (2 : Fin 3) = t.val % 8 :=
  (by decide +kernel : ∀ t : Fin grid0.N, _)
theorem idx14 : ∀ t : Fin cfg0.N, win0_14.index t (0 : Fin 3) = t.val / 8 ∧ win0_14.index t (1 : Fin 3) = 0 ∧ win0_14.index t (2 : Fin 3) = t.val % 8 :=
  (by decide +kernel : ∀ t : Fin grid0.N, _)
theorem idx15 : ∀ t : Fin cfg0.N, win0_15.index t (0 : Fin 3) = t.val / 8 ∧ win0_15.index t (1 : Fin 3) = 0 ∧ win0_15.index t (2 : Fin 3) = t.val % 8 :=
  (by decide +kernel : ∀ t : Fin grid0.N, _)
theorem idx16 : ∀ t : Fin cfg0.N, win0_16.index t (0 : Fin 3) = t.val / 8 ∧ win0_16.index t (1 : Fin 3) = 0 ∧ win0_16.index t (2 : Fin 3) = t.val % 8 :=
  (by decide +kernel : ∀ t : Fin grid0.N, _)
theorem idx17 : ∀ t : Fin cfg0.N, win0_17.index t (0 : Fin 3) = t.val / 8 ∧ win0_17.index t (1 : Fin 3) = 0 ∧ win0_17.index t (2 : Fin 3) = t.val % 8 :=
  (by decide +kernel : ∀ t : Fin grid0.N, _)
theorem idx18 : ∀ t : Fin cfg0.N, win0_18.index t (0 : Fin 3) = t.val / 8 ∧ win0_18.index t (1 : Fin 3) = t.val % 8 ∧ win0_18.index t (2 : Fin 3) = 0 :=
  (by decide +kernel : ∀ t : Fin grid0.N, _)
theorem idx19 : ∀ t : Fin cfg0.N, win0_19.index t (0 : Fin 3) = t.val / 8 ∧ win0_19.index t (1 : Fin 3) = t.val % 8 ∧ win0_19.index t (2 : Fin 3) = 0 :=
  (by decide +kernel : ∀ t : Fin grid0.N, _)
theorem idx20 : ∀ t : Fin cfg0.N, win0_20.index t (0 : Fin 4) = t.val / 8 ∧ win0_20.index t (1 : Fin 4) = 0 ∧ win0_20.index t (2 : Fin 4) = t.val % 8 ∧ win0_20.index t (3 : Fin 4) = 0 :=
  (by decide +kernel : ∀ t : Fin grid0.N, _)
theorem idx21 : ∀ t : Fin cfg0.N, win0_21.index t (0 : Fin 4) = t.val / 8 ∧ win0_21.index t (1 : Fin 4) = 0 ∧ win0_21.index t (2 : Fin 4) = t.val % 8 ∧ win0_21.index t (3 : Fin 4) = 0 :=
  (by decide +kernel : ∀ t : Fin grid0.N, _)
theorem idx22 : ∀ t : Fin cfg0.N, win0_22.index t (0 : Fin 3) = t.val / 8 ∧ win0_22.index t (1 : Fin 3) = t.val % 8 ∧ win0_22.index t (2 : Fin 3) = 0 :=
  (by decide +kernel : ∀ t : Fin grid0.N, _)
theorem emb11 (t : Fin cfg0.N) (j1 : Fin 512) (j2 : Fin 512) :
    ((cfg0.win 11).blk t).view.emb (ix3 0 j1 j2) = ix3 (img t) j1 (row t j2) := by
  obtain ⟨e0, e1, e2⟩ := idx11 t
  funext a; apply Fin.ext
  match a with
  | ⟨0, _⟩ => show win0_11.index t (0 : Fin 3) * 1 + 1 * 0 = t.val / 8; omega
  | ⟨1, _⟩ => show win0_11.index t (1 : Fin 3) * 512 + 1 * j1.val = j1.val; omega
  | ⟨2, _⟩ => show win0_11.index t (2 : Fin 3) * 512 + 1 * j2.val = t.val % 8 * 512 + j2.val; omega
theorem emb12 (t : Fin cfg0.N) (j1 : Fin 512) (j2 : Fin 512) :
    ((cfg0.win 12).blk t).view.emb (ix3 0 j1 j2) = ix3 (img t) j1 (row t j2) := by
  obtain ⟨e0, e1, e2⟩ := idx12 t
  funext a; apply Fin.ext
  match a with
  | ⟨0, _⟩ => show win0_12.index t (0 : Fin 3) * 1 + 1 * 0 = t.val / 8; omega
  | ⟨1, _⟩ => show win0_12.index t (1 : Fin 3) * 512 + 1 * j1.val = j1.val; omega
  | ⟨2, _⟩ => show win0_12.index t (2 : Fin 3) * 512 + 1 * j2.val = t.val % 8 * 512 + j2.val; omega
theorem emb13 (t : Fin cfg0.N) (j1 : Fin 256) (j2 : Fin 512) :
    ((cfg0.win 13).blk t).view.emb (ix3 0 j1 j2) = ix3 (img t) j1 (row t j2) := by
  obtain ⟨e0, e1, e2⟩ := idx13 t
  funext a; apply Fin.ext
  match a with
  | ⟨0, _⟩ => show win0_13.index t (0 : Fin 3) * 1 + 1 * 0 = t.val / 8; omega
  | ⟨1, _⟩ => show win0_13.index t (1 : Fin 3) * 256 + 1 * j1.val = j1.val; omega
  | ⟨2, _⟩ => show win0_13.index t (2 : Fin 3) * 512 + 1 * j2.val = t.val % 8 * 512 + j2.val; omega
theorem emb14 (t : Fin cfg0.N) (j1 : Fin 64) (j2 : Fin 512) :
    ((cfg0.win 14).blk t).view.emb (ix3 0 j1 j2) = ix3 (img t) j1 (row t j2) := by
  obtain ⟨e0, e1, e2⟩ := idx14 t
  funext a; apply Fin.ext
  match a with
  | ⟨0, _⟩ => show win0_14.index t (0 : Fin 3) * 1 + 1 * 0 = t.val / 8; omega
  | ⟨1, _⟩ => show win0_14.index t (1 : Fin 3) * 64 + 1 * j1.val = j1.val; omega
  | ⟨2, _⟩ => show win0_14.index t (2 : Fin 3) * 512 + 1 * j2.val = t.val % 8 * 512 + j2.val; omega
theorem emb15 (t : Fin cfg0.N) (j1 : Fin 128) (j2 : Fin 512) :
    ((cfg0.win 15).blk t).view.emb (ix3 0 j1 j2) = ix3 (img t) j1 (row t j2) := by
  obtain ⟨e0, e1, e2⟩ := idx15 t
  funext a; apply Fin.ext
  match a with
  | ⟨0, _⟩ => show win0_15.index t (0 : Fin 3) * 1 + 1 * 0 = t.val / 8; omega
  | ⟨1, _⟩ => show win0_15.index t (1 : Fin 3) * 128 + 1 * j1.val = j1.val; omega
  | ⟨2, _⟩ => show win0_15.index t (2 : Fin 3) * 512 + 1 * j2.val = t.val % 8 * 512 + j2.val; omega
theorem emb16 (t : Fin cfg0.N) (j1 : Fin 128) (j2 : Fin 512) :
    ((cfg0.win 16).blk t).view.emb (ix3 0 j1 j2) = ix3 (img t) j1 (row t j2) := by
  obtain ⟨e0, e1, e2⟩ := idx16 t
  funext a; apply Fin.ext
  match a with
  | ⟨0, _⟩ => show win0_16.index t (0 : Fin 3) * 1 + 1 * 0 = t.val / 8; omega
  | ⟨1, _⟩ => show win0_16.index t (1 : Fin 3) * 128 + 1 * j1.val = j1.val; omega
  | ⟨2, _⟩ => show win0_16.index t (2 : Fin 3) * 512 + 1 * j2.val = t.val % 8 * 512 + j2.val; omega
theorem emb17 (t : Fin cfg0.N) (j1 : Fin 32) (j2 : Fin 512) :
    ((cfg0.win 17).blk t).view.emb (ix3 0 j1 j2) = ix3 (img t) j1 (row t j2) := by
  obtain ⟨e0, e1, e2⟩ := idx17 t
  funext a; apply Fin.ext
  match a with
  | ⟨0, _⟩ => show win0_17.index t (0 : Fin 3) * 1 + 1 * 0 = t.val / 8; omega
  | ⟨1, _⟩ => show win0_17.index t (1 : Fin 3) * 32 + 1 * j1.val = j1.val; omega
  | ⟨2, _⟩ => show win0_17.index t (2 : Fin 3) * 512 + 1 * j2.val = t.val % 8 * 512 + j2.val; omega
theorem emb18 (t : Fin cfg0.N) (j1 : Fin 512) (j2 : Fin 64) :
    ((cfg0.win 18).blk t).view.emb (ix3 0 j1 j2) = ix3 (img t) (row t j1) j2 := by
  obtain ⟨e0, e1, e2⟩ := idx18 t
  funext a; apply Fin.ext
  match a with
  | ⟨0, _⟩ => show win0_18.index t (0 : Fin 3) * 1 + 1 * 0 = t.val / 8; omega
  | ⟨1, _⟩ => show win0_18.index t (1 : Fin 3) * 512 + 1 * j1.val = t.val % 8 * 512 + j1.val; omega
  | ⟨2, _⟩ => show win0_18.index t (2 : Fin 3) * 64 + 1 * j2.val = j2.val; omega
theorem emb19 (t : Fin cfg0.N) (j1 : Fin 512) (j2 : Fin 64) :
    ((cfg0.win 19).blk t).view.emb (ix3 0 j1 j2) = ix3 (img t) (row t j1) j2 := by
  obtain ⟨e0, e1, e2⟩ := idx19 t
  funext a; apply Fin.ext
  match a with
  | ⟨0, _⟩ => show win0_19.index t (0 : Fin 3) * 1 + 1 * 0 = t.val / 8; omega
  | ⟨1, _⟩ => show win0_19.index t (1 : Fin 3) * 512 + 1 * j1.val = t.val % 8 * 512 + j1.val; omega
  | ⟨2, _⟩ => show win0_19.index t (2 : Fin 3) * 64 + 1 * j2.val = j2.val; omega
theorem emb20 (t : Fin cfg0.N) (j1 : Fin 2) (j2 : Fin 512) (j3 : Fin 64) :
    ((cfg0.win 20).blk t).view.emb (ix4 0 j1 j2 j3) = ix4 (img t) j1 (row t j2) j3 := by
  obtain ⟨e0, e1, e2, e3⟩ := idx20 t
  funext a; apply Fin.ext
  match a with
  | ⟨0, _⟩ => show win0_20.index t (0 : Fin 4) * 1 + 1 * 0 = t.val / 8; omega
  | ⟨1, _⟩ => show win0_20.index t (1 : Fin 4) * 2 + 1 * j1.val = j1.val; omega
  | ⟨2, _⟩ => show win0_20.index t (2 : Fin 4) * 512 + 1 * j2.val = t.val % 8 * 512 + j2.val; omega
  | ⟨3, _⟩ => show win0_20.index t (3 : Fin 4) * 64 + 1 * j3.val = j3.val; omega
theorem emb21 (t : Fin cfg0.N) (j1 : Fin 2) (j2 : Fin 512) (j3 : Fin 64) :
    ((cfg0.win 21).blk t).view.emb (ix4 0 j1 j2 j3) = ix4 (img t) j1 (row t j2) j3 := by
  obtain ⟨e0, e1, e2, e3⟩ := idx21 t
  funext a; apply Fin.ext
  match a with
  | ⟨0, _⟩ => show win0_21.index t (0 : Fin 4) * 1 + 1 * 0 = t.val / 8; omega
  | ⟨1, _⟩ => show win0_21.index t (1 : Fin 4) * 2 + 1 * j1.val = j1.val; omega
  | ⟨2, _⟩ => show win0_21.index t (2 : Fin 4) * 512 + 1 * j2.val = t.val % 8 * 512 + j2.val; omega
  | ⟨3, _⟩ => show win0_21.index t (3 : Fin 4) * 64 + 1 * j3.val = j3.val; omega
theorem emb22 (t : Fin cfg0.N) (j1 : Fin 512) (j2 : Fin 256) :
    ((cfg0.win 22).blk t).view.emb (ix3 0 j1 j2) = ix3 (img t) (row t j1) j2 := by
  obtain ⟨e0, e1, e2⟩ := idx22 t
  funext a; apply Fin.ext
  match a with
  | ⟨0, _⟩ => show win0_22.index t (0 : Fin 3) * 1 + 1 * 0 = t.val / 8; omega
  | ⟨1, _⟩ => show win0_22.index t (1 : Fin 3) * 512 + 1 * j1.val = t.val % 8 * 512 + j1.val; omega
  | ⟨2, _⟩ => show win0_22.index t (2 : Fin 3) * 256 + 1 * j2.val = j2.val; omega

/-! ## The result arrays -/

def spec11 (c : Dev nD) (p : Fin 8) (d : Fin 512) (s : Fin 4096) : EReal := turn (from_ (hAt m c p s) 0) (coAt m c s) (siAt m c s) d.val * Ideal.ofBits .f32 0x3E38AA3B#32
def result11 (c : Dev nD) : Buf (Elt Ideal) ((c : Thread nD τ).loc main_v42_0) := fun i => spec11 m c (i 0) (i 1) (i 2)
theorem spec11_blk (c : Dev nD) (t : Fin cfg0.N) (d : Fin 512) (s : Fin 512) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 d s) =
      spec11 m c (img t) d (row t s) := by
  rw [out11]
  unfold spec11
  rw [co_blk, si_blk]
  exact congrArg (· * Ideal.ofBits .f32 0x3E38AA3B#32) (turn_congr 512 rfl d.isLt (fun n hn => (ht_blk m c t s (by omega)).trans (congrArg (hAt m c (img t) (row t s)) (by unfold tcol; split_ifs <;> omega))))
theorem flushed_eq11 (c : Dev nD) (t : Fin cfg0.N) :
    (dats m 0 c).flushed 11 t = ((cfg0.win 11).blk t).view.read (Elt Ideal) (result11 m c) := by
  rw [flushed11_A]
  funext j
  show out0_A_11 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result11 m c (((cfg0.win 11).blk t).view.emb j)
  idx_vars j
  obtain rfl : j0 = 0 := Subsingleton.elim _ _
  show _ = result11 m c (((cfg0.win 11).blk t).view.emb (ix3 0 j1 j2))
  rw [emb11]
  exact spec11_blk m c t j1 j2
theorem cover11 (i : S8x512x4096.Idx) :
    ∃ t : Fin cfg0.N, (cfg0.win 11).flush t = true ∧ i ∈ ((cfg0.win 11).blk t).view.set := by
  have hN : cfg0.N = 64 := N_0
  idx_vars i
  have ht : i0.val * 8 + i2.val / 512 < cfg0.N := by rw [hN]; omega
  refine ⟨⟨i0.val * 8 + i2.val / 512, ht⟩, flush0_11 _, ?_⟩
  have e : ix3 i0 i1 i2 = ((cfg0.win 11).blk ⟨i0.val * 8 + i2.val / 512, ht⟩).view.emb (ix3 0 i1 ⟨i2.val % 512, by omega⟩) := by
    rw [emb11]
    funext a; apply Fin.ext
    match a with
    | ⟨0, _⟩ => show i0.val = (i0.val * 8 + i2.val / 512) / 8; omega
    | ⟨1, _⟩ => rfl
    | ⟨2, _⟩ => show i2.val = (i0.val * 8 + i2.val / 512) % 8 * 512 + i2.val % 512; omega
  show ix3 i0 i1 i2 ∈ _
  rw [e]
  exact ((cfg0.win 11).blk ⟨i0.val * 8 + i2.val / 512, ht⟩).view.emb_mem_set _
theorem final11 (c : Dev nD) : (dats m 0 c).arrAt 11 cfg0.N = result11 m c :=
  (dats m 0 c).arrAt_eq_of_cover 11 (result11 m c) (fun t _ => flushed_eq11 m c t) cover11

def spec12 (c : Dev nD) (p : Fin 8) (d : Fin 512) (s : Fin 4096) : EReal := turn (from_ (hAt m c p s) 964) (coAt m c s) (siAt m c s) d.val * Ideal.ofBits .f32 0x3E38AA3B#32
def result12 (c : Dev nD) : Buf (Elt Ideal) ((c : Thread nD τ).loc main_v42_1) := fun i => spec12 m c (i 0) (i 1) (i 2)
theorem spec12_blk (c : Dev nD) (t : Fin cfg0.N) (d : Fin 512) (s : Fin 512) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 d s) =
      spec12 m c (img t) d (row t s) := by
  rw [out12]
  unfold spec12
  rw [co_blk, si_blk]
  exact congrArg (· * Ideal.ofBits .f32 0x3E38AA3B#32) (turn_congr 512 rfl d.isLt (fun n hn => (ht_blk m c t s (by omega)).trans (congrArg (hAt m c (img t) (row t s)) (by unfold tcol; split_ifs <;> omega))))
theorem flushed_eq12 (c : Dev nD) (t : Fin cfg0.N) :
    (dats m 0 c).flushed 12 t = ((cfg0.win 12).blk t).view.read (Elt Ideal) (result12 m c) := by
  rw [flushed12_A]
  funext j
  show out0_A_12 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result12 m c (((cfg0.win 12).blk t).view.emb j)
  idx_vars j
  obtain rfl : j0 = 0 := Subsingleton.elim _ _
  show _ = result12 m c (((cfg0.win 12).blk t).view.emb (ix3 0 j1 j2))
  rw [emb12]
  exact spec12_blk m c t j1 j2
theorem cover12 (i : S8x512x4096.Idx) :
    ∃ t : Fin cfg0.N, (cfg0.win 12).flush t = true ∧ i ∈ ((cfg0.win 12).blk t).view.set := by
  have hN : cfg0.N = 64 := N_0
  idx_vars i
  have ht : i0.val * 8 + i2.val / 512 < cfg0.N := by rw [hN]; omega
  refine ⟨⟨i0.val * 8 + i2.val / 512, ht⟩, flush0_12 _, ?_⟩
  have e : ix3 i0 i1 i2 = ((cfg0.win 12).blk ⟨i0.val * 8 + i2.val / 512, ht⟩).view.emb (ix3 0 i1 ⟨i2.val % 512, by omega⟩) := by
    rw [emb12]
    funext a; apply Fin.ext
    match a with
    | ⟨0, _⟩ => show i0.val = (i0.val * 8 + i2.val / 512) / 8; omega
    | ⟨1, _⟩ => rfl
    | ⟨2, _⟩ => show i2.val = (i0.val * 8 + i2.val / 512) % 8 * 512 + i2.val % 512; omega
  show ix3 i0 i1 i2 ∈ _
  rw [e]
  exact ((cfg0.win 12).blk ⟨i0.val * 8 + i2.val / 512, ht⟩).view.emb_mem_set _
theorem final12 (c : Dev nD) : (dats m 0 c).arrAt 12 cfg0.N = result12 m c :=
  (dats m 0 c).arrAt_eq_of_cover 12 (result12 m c) (fun t _ => flushed_eq12 m c t) cover12

def spec13 (c : Dev nD) (p : Fin 8) (d : Fin 256) (s : Fin 4096) : EReal := turn (from_ (hAt m c p s) 640) (coAt m c s) (siAt m c s) d.val
def result13 (c : Dev nD) : Buf (Elt Ideal) ((c : Thread nD τ).loc main_v42_2) := fun i => spec13 m c (i 0) (i 1) (i 2)
theorem spec13_blk (c : Dev nD) (t : Fin cfg0.N) (d : Fin 256) (s : Fin 512) :
    out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 d s) =
      spec13 m c (img t) d (row t s) := by
  rw [out13]
  unfold spec13
  rw [co_blk, si_blk]
  exact turn_congr 256 rfl d.isLt (fun n hn => (ht_blk m c t s (by omega)).trans (congrArg (hAt m c (img t) (row t s)) (by unfold tcol; split_ifs <;> omega)))
theorem flushed_eq13 (c : Dev nD) (t : Fin cfg0.N) :
    (dats m 0 c).flushed 13 t = ((cfg0.win 13).blk t).view.read (Elt Ideal) (result13 m c) := by
  rw [flushed13_A]
  funext j
  show out0_A_13 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result13 m c (((cfg0.win 13).blk t).view.emb j)
  idx_vars j
  obtain rfl : j0 = 0 := Subsingleton.elim _ _
  show _ = result13 m c (((cfg0.win 13).blk t).view.emb (ix3 0 j1 j2))
  rw [emb13]
  exact spec13_blk m c t j1 j2
theorem cover13 (i : S8x256x4096.Idx) :
    ∃ t : Fin cfg0.N, (cfg0.win 13).flush t = true ∧ i ∈ ((cfg0.win 13).blk t).view.set := by
  have hN : cfg0.N = 64 := N_0
  idx_vars i
  have ht : i0.val * 8 + i2.val / 512 < cfg0.N := by rw [hN]; omega
  refine ⟨⟨i0.val * 8 + i2.val / 512, ht⟩, flush0_13 _, ?_⟩
  have e : ix3 i0 i1 i2 = ((cfg0.win 13).blk ⟨i0.val * 8 + i2.val / 512, ht⟩).view.emb (ix3 0 i1 ⟨i2.val % 512, by omega⟩) := by
    rw [emb13]
    funext a; apply Fin.ext
    match a with
    | ⟨0, _⟩ => show i0.val = (i0.val * 8 + i2.val / 512) / 8; omega
    | ⟨1, _⟩ => rfl
    | ⟨2, _⟩ => show i2.val = (i0.val * 8 + i2.val / 512) % 8 * 512 + i2.val % 512; omega
  show ix3 i0 i1 i2 ∈ _
  rw [e]
  exact ((cfg0.win 13).blk ⟨i0.val * 8 + i2.val / 512, ht⟩).view.emb_mem_set _
theorem final13 (c : Dev nD) : (dats m 0 c).arrAt 13 cfg0.N = result13 m c :=
  (dats m 0 c).arrAt_eq_of_cover 13 (result13 m c) (fun t _ => flushed_eq13 m c t) cover13

def spec14 (c : Dev nD) (p : Fin 8) (d : Fin 64) (s : Fin 4096) : EReal := uAt m c p s (64 + d.val)
def result14 (c : Dev nD) : Buf (Elt Ideal) ((c : Thread nD τ).loc main_v42_3) := fun i => spec14 m c (i 0) (i 1) (i 2)
theorem spec14_blk (c : Dev nD) (t : Fin cfg0.N) (d : Fin 64) (s : Fin 512) :
    out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 d s) =
      spec14 m c (img t) d (row t s) := by
  rw [out14]
  unfold spec14
  simp only [latn_blk, iblk10_apply]
  rw [uAt, up, past_lt _ (by omega)]
  exact Finset.sum_congr rfl fun k _ => mul_comm _ _
theorem flushed_eq14 (c : Dev nD) (t : Fin cfg0.N) :
    (dats m 0 c).flushed 14 t = ((cfg0.win 14).blk t).view.read (Elt Ideal) (result14 m c) := by
  rw [flushed14_A]
  funext j
  show out0_A_14 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result14 m c (((cfg0.win 14).blk t).view.emb j)
  idx_vars j
  obtain rfl : j0 = 0 := Subsingleton.elim _ _
  show _ = result14 m c (((cfg0.win 14).blk t).view.emb (ix3 0 j1 j2))
  rw [emb14]
  exact spec14_blk m c t j1 j2
theorem cover14 (i : S8x64x4096.Idx) :
    ∃ t : Fin cfg0.N, (cfg0.win 14).flush t = true ∧ i ∈ ((cfg0.win 14).blk t).view.set := by
  have hN : cfg0.N = 64 := N_0
  idx_vars i
  have ht : i0.val * 8 + i2.val / 512 < cfg0.N := by rw [hN]; omega
  refine ⟨⟨i0.val * 8 + i2.val / 512, ht⟩, flush0_14 _, ?_⟩
  have e : ix3 i0 i1 i2 = ((cfg0.win 14).blk ⟨i0.val * 8 + i2.val / 512, ht⟩).view.emb (ix3 0 i1 ⟨i2.val % 512, by omega⟩) := by
    rw [emb14]
    funext a; apply Fin.ext
    match a with
    | ⟨0, _⟩ => show i0.val = (i0.val * 8 + i2.val / 512) / 8; omega
    | ⟨1, _⟩ => rfl
    | ⟨2, _⟩ => show i2.val = (i0.val * 8 + i2.val / 512) % 8 * 512 + i2.val % 512; omega
  show ix3 i0 i1 i2 ∈ _
  rw [e]
  exact ((cfg0.win 14).blk ⟨i0.val * 8 + i2.val / 512, ht⟩).view.emb_mem_set _
theorem final14 (c : Dev nD) : (dats m 0 c).arrAt 14 cfg0.N = result14 m c :=
  (dats m 0 c).arrAt_eq_of_cover 14 (result14 m c) (fun t _ => flushed_eq14 m c t) cover14

def spec15 (c : Dev nD) (p : Fin 8) (d : Fin 128) (s : Fin 4096) : EReal := hAt m c p s (1860 + d.val)
def result15 (c : Dev nD) : Buf (Elt Ideal) ((c : Thread nD τ).loc main_v42_4) := fun i => spec15 m c (i 0) (i 1) (i 2)
theorem spec15_blk (c : Dev nD) (t : Fin cfg0.N) (d : Fin 128) (s : Fin 512) :
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 d s) =
      spec15 m c (img t) d (row t s) := by
  rw [out15]
  unfold spec15
  rw [ht_blk m c t s (by omega)]
  exact congrArg _ (by unfold tcol; split_ifs <;> omega)
theorem flushed_eq15 (c : Dev nD) (t : Fin cfg0.N) :
    (dats m 0 c).flushed 15 t = ((cfg0.win 15).blk t).view.read (Elt Ideal) (result15 m c) := by
  rw [flushed15_A]
  funext j
  show out0_A_15 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result15 m c (((cfg0.win 15).blk t).view.emb j)
  idx_vars j
  obtain rfl : j0 = 0 := Subsingleton.elim _ _
  show _ = result15 m c (((cfg0.win 15).blk t).view.emb (ix3 0 j1 j2))
  rw [emb15]
  exact spec15_blk m c t j1 j2
theorem cover15 (i : S8x128x4096.Idx) :
    ∃ t : Fin cfg0.N, (cfg0.win 15).flush t = true ∧ i ∈ ((cfg0.win 15).blk t).view.set := by
  have hN : cfg0.N = 64 := N_0
  idx_vars i
  have ht : i0.val * 8 + i2.val / 512 < cfg0.N := by rw [hN]; omega
  refine ⟨⟨i0.val * 8 + i2.val / 512, ht⟩, flush0_15 _, ?_⟩
  have e : ix3 i0 i1 i2 = ((cfg0.win 15).blk ⟨i0.val * 8 + i2.val / 512, ht⟩).view.emb (ix3 0 i1 ⟨i2.val % 512, by omega⟩) := by
    rw [emb15]
    funext a; apply Fin.ext
    match a with
    | ⟨0, _⟩ => show i0.val = (i0.val * 8 + i2.val / 512) / 8; omega
    | ⟨1, _⟩ => rfl
    | ⟨2, _⟩ => show i2.val = (i0.val * 8 + i2.val / 512) % 8 * 512 + i2.val % 512; omega
  show ix3 i0 i1 i2 ∈ _
  rw [e]
  exact ((cfg0.win 15).blk ⟨i0.val * 8 + i2.val / 512, ht⟩).view.emb_mem_set _
theorem final15 (c : Dev nD) : (dats m 0 c).arrAt 15 cfg0.N = result15 m c :=
  (dats m 0 c).arrAt_eq_of_cover 15 (result15 m c) (fun t _ => flushed_eq15 m c t) cover15

def spec16 (c : Dev nD) (p : Fin 8) (d : Fin 128) (s : Fin 4096) : EReal := hAt m c p s (2116 + d.val)
def result16 (c : Dev nD) : Buf (Elt Ideal) ((c : Thread nD τ).loc main_v42_5) := fun i => spec16 m c (i 0) (i 1) (i 2)
theorem spec16_blk (c : Dev nD) (t : Fin cfg0.N) (d : Fin 128) (s : Fin 512) :
    out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 d s) =
      spec16 m c (img t) d (row t s) := by
  rw [out16]
  unfold spec16
  rw [ht_blk m c t s (by omega)]
  exact congrArg _ (by unfold tcol; split_ifs <;> omega)
theorem flushed_eq16 (c : Dev nD) (t : Fin cfg0.N) :
    (dats m 0 c).flushed 16 t = ((cfg0.win 16).blk t).view.read (Elt Ideal) (result16 m c) := by
  rw [flushed16_A]
  funext j
  show out0_A_16 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result16 m c (((cfg0.win 16).blk t).view.emb j)
  idx_vars j
  obtain rfl : j0 = 0 := Subsingleton.elim _ _
  show _ = result16 m c (((cfg0.win 16).blk t).view.emb (ix3 0 j1 j2))
  rw [emb16]
  exact spec16_blk m c t j1 j2
theorem cover16 (i : S8x128x4096.Idx) :
    ∃ t : Fin cfg0.N, (cfg0.win 16).flush t = true ∧ i ∈ ((cfg0.win 16).blk t).view.set := by
  have hN : cfg0.N = 64 := N_0
  idx_vars i
  have ht : i0.val * 8 + i2.val / 512 < cfg0.N := by rw [hN]; omega
  refine ⟨⟨i0.val * 8 + i2.val / 512, ht⟩, flush0_16 _, ?_⟩
  have e : ix3 i0 i1 i2 = ((cfg0.win 16).blk ⟨i0.val * 8 + i2.val / 512, ht⟩).view.emb (ix3 0 i1 ⟨i2.val % 512, by omega⟩) := by
    rw [emb16]
    funext a; apply Fin.ext
    match a with
    | ⟨0, _⟩ => show i0.val = (i0.val * 8 + i2.val / 512) / 8; omega
    | ⟨1, _⟩ => rfl
    | ⟨2, _⟩ => show i2.val = (i0.val * 8 + i2.val / 512) % 8 * 512 + i2.val % 512; omega
  show ix3 i0 i1 i2 ∈ _
  rw [e]
  exact ((cfg0.win 16).blk ⟨i0.val * 8 + i2.val / 512, ht⟩).view.emb_mem_set _
theorem final16 (c : Dev nD) : (dats m 0 c).arrAt 16 cfg0.N = result16 m c :=
  (dats m 0 c).arrAt_eq_of_cover 16 (result16 m c) (fun t _ => flushed_eq16 m c t) cover16

def spec17 (c : Dev nD) (p : Fin 8) (d : Fin 32) (s : Fin 4096) : EReal := misc (hAt m c p s) d.val
def result17 (c : Dev nD) : Buf (Elt Ideal) ((c : Thread nD τ).loc main_v42_6) := fun i => spec17 m c (i 0) (i 1) (i 2)
theorem spec17_blk (c : Dev nD) (t : Fin cfg0.N) (d : Fin 32) (s : Fin 512) :
    out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 d s) =
      spec17 m c (img t) d (row t s) := by
  rw [out17]
  unfold spec17
  rw [ht_blk m c t s (by omega)]
  unfold misc
  by_cases h1 : d.val < 24
  · rw [if_pos h1, if_pos h1]
    exact congrArg (fun n => Ideal.logistic (hAt m c (img t) (row t s) n)) (by unfold tcol; split_ifs <;> omega)
  · rw [if_neg h1, if_neg h1]
    by_cases h2 : d.val < 28
    · rw [if_pos h2]
      exact congrArg (fun n => hAt m c (img t) (row t s) n * Ideal.ofBits .f32 0x3F000000#32) (by unfold tcol; split_ifs <;> omega)
    · rw [if_neg h2, show tcol (1536 + d.val) = 4316 from by unfold tcol; split_ifs <;> omega, hAt, col, past, dif_neg (by decide), zero_mul]
theorem flushed_eq17 (c : Dev nD) (t : Fin cfg0.N) :
    (dats m 0 c).flushed 17 t = ((cfg0.win 17).blk t).view.read (Elt Ideal) (result17 m c) := by
  rw [flushed17_A]
  funext j
  show out0_A_17 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result17 m c (((cfg0.win 17).blk t).view.emb j)
  idx_vars j
  obtain rfl : j0 = 0 := Subsingleton.elim _ _
  show _ = result17 m c (((cfg0.win 17).blk t).view.emb (ix3 0 j1 j2))
  rw [emb17]
  exact spec17_blk m c t j1 j2
theorem cover17 (i : S8x32x4096.Idx) :
    ∃ t : Fin cfg0.N, (cfg0.win 17).flush t = true ∧ i ∈ ((cfg0.win 17).blk t).view.set := by
  have hN : cfg0.N = 64 := N_0
  idx_vars i
  have ht : i0.val * 8 + i2.val / 512 < cfg0.N := by rw [hN]; omega
  refine ⟨⟨i0.val * 8 + i2.val / 512, ht⟩, flush0_17 _, ?_⟩
  have e : ix3 i0 i1 i2 = ((cfg0.win 17).blk ⟨i0.val * 8 + i2.val / 512, ht⟩).view.emb (ix3 0 i1 ⟨i2.val % 512, by omega⟩) := by
    rw [emb17]
    funext a; apply Fin.ext
    match a with
    | ⟨0, _⟩ => show i0.val = (i0.val * 8 + i2.val / 512) / 8; omega
    | ⟨1, _⟩ => rfl
    | ⟨2, _⟩ => show i2.val = (i0.val * 8 + i2.val / 512) % 8 * 512 + i2.val % 512; omega
  show ix3 i0 i1 i2 ∈ _
  rw [e]
  exact ((cfg0.win 17).blk ⟨i0.val * 8 + i2.val / 512, ht⟩).view.emb_mem_set _
theorem final17 (c : Dev nD) : (dats m 0 c).arrAt 17 cfg0.N = result17 m c :=
  (dats m 0 c).arrAt_eq_of_cover 17 (result17 m c) (fun t _ => flushed_eq17 m c t) cover17

def spec18 (c : Dev nD) (p : Fin 8) (s : Fin 4096) (d : Fin 64) : EReal := turn (uAt m c p s) (coAt m c s) (siAt m c s) d.val
def result18 (c : Dev nD) : Buf (Elt Ideal) ((c : Thread nD τ).loc main_v42_7) := fun i => spec18 m c (i 0) (i 1) (i 2)
theorem spec18_blk (c : Dev nD) (t : Fin cfg0.N) (s : Fin 512) (d : Fin 64) :
    out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 s d) =
      spec18 m c (img t) (row t s) d := by
  rw [out18]
  unfold spec18
  simp only [latn_blk]
  refine lane_turn 64 rfl (by decide) d.isLt (fun n hn => ?_) (col_blk m c t s) (sil_blk m c t s)
  rw [past_lt _ (show n < 128 by omega), uAt, up, past_lt _ (show n < 128 by omega)]
  refine Finset.sum_congr rfl fun k _ => ?_
  rw [iblk9_apply, if_pos hn]
theorem flushed_eq18 (c : Dev nD) (t : Fin cfg0.N) :
    (dats m 0 c).flushed 18 t = ((cfg0.win 18).blk t).view.read (Elt Ideal) (result18 m c) := by
  rw [flushed18_A]
  funext j
  show out0_A_18 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result18 m c (((cfg0.win 18).blk t).view.emb j)
  idx_vars j
  obtain rfl : j0 = 0 := Subsingleton.elim _ _
  show _ = result18 m c (((cfg0.win 18).blk t).view.emb (ix3 0 j1 j2))
  rw [emb18]
  exact spec18_blk m c t j1 j2
theorem cover18 (i : S8x4096x64.Idx) :
    ∃ t : Fin cfg0.N, (cfg0.win 18).flush t = true ∧ i ∈ ((cfg0.win 18).blk t).view.set := by
  have hN : cfg0.N = 64 := N_0
  idx_vars i
  have ht : i0.val * 8 + i1.val / 512 < cfg0.N := by rw [hN]; omega
  refine ⟨⟨i0.val * 8 + i1.val / 512, ht⟩, flush0_18 _, ?_⟩
  have e : ix3 i0 i1 i2 = ((cfg0.win 18).blk ⟨i0.val * 8 + i1.val / 512, ht⟩).view.emb (ix3 0 ⟨i1.val % 512, by omega⟩ i2) := by
    rw [emb18]
    funext a; apply Fin.ext
    match a with
    | ⟨0, _⟩ => show i0.val = (i0.val * 8 + i1.val / 512) / 8; omega
    | ⟨1, _⟩ => show i1.val = (i0.val * 8 + i1.val / 512) % 8 * 512 + i1.val % 512; omega
    | ⟨2, _⟩ => rfl
  show ix3 i0 i1 i2 ∈ _
  rw [e]
  exact ((cfg0.win 18).blk ⟨i0.val * 8 + i1.val / 512, ht⟩).view.emb_mem_set _
theorem final18 (c : Dev nD) : (dats m 0 c).arrAt 18 cfg0.N = result18 m c :=
  (dats m 0 c).arrAt_eq_of_cover 18 (result18 m c) (fun t _ => flushed_eq18 m c t) cover18

def spec19 (c : Dev nD) (p : Fin 8) (s : Fin 4096) (d : Fin 64) : EReal := turn (from_ (hAt m c p s) 896) (coAt m c s) (siAt m c s) d.val
def result19 (c : Dev nD) : Buf (Elt Ideal) ((c : Thread nD τ).loc main_v42_8) := fun i => spec19 m c (i 0) (i 1) (i 2)
theorem spec19_blk (c : Dev nD) (t : Fin cfg0.N) (s : Fin 512) (d : Fin 64) :
    out0_A_19 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 s d) =
      spec19 m c (img t) (row t s) d := by
  rw [out19]
  unfold spec19
  exact lane_turn 64 rfl (by decide) d.isLt (fun n hn => (hs_blk m c t s (by omega)).trans (congrArg (hAt m c (img t) (row t s)) (by unfold scol; split_ifs <;> omega))) (col_blk m c t s) (sil_blk m c t s)
theorem flushed_eq19 (c : Dev nD) (t : Fin cfg0.N) :
    (dats m 0 c).flushed 19 t = ((cfg0.win 19).blk t).view.read (Elt Ideal) (result19 m c) := by
  rw [flushed19_A]
  funext j
  show out0_A_19 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result19 m c (((cfg0.win 19).blk t).view.emb j)
  idx_vars j
  obtain rfl : j0 = 0 := Subsingleton.elim _ _
  show _ = result19 m c (((cfg0.win 19).blk t).view.emb (ix3 0 j1 j2))
  rw [emb19]
  exact spec19_blk m c t j1 j2
theorem cover19 (i : S8x4096x64.Idx) :
    ∃ t : Fin cfg0.N, (cfg0.win 19).flush t = true ∧ i ∈ ((cfg0.win 19).blk t).view.set := by
  have hN : cfg0.N = 64 := N_0
  idx_vars i
  have ht : i0.val * 8 + i1.val / 512 < cfg0.N := by rw [hN]; omega
  refine ⟨⟨i0.val * 8 + i1.val / 512, ht⟩, flush0_19 _, ?_⟩
  have e : ix3 i0 i1 i2 = ((cfg0.win 19).blk ⟨i0.val * 8 + i1.val / 512, ht⟩).view.emb (ix3 0 ⟨i1.val % 512, by omega⟩ i2) := by
    rw [emb19]
    funext a; apply Fin.ext
    match a with
    | ⟨0, _⟩ => show i0.val = (i0.val * 8 + i1.val / 512) / 8; omega
    | ⟨1, _⟩ => show i1.val = (i0.val * 8 + i1.val / 512) % 8 * 512 + i1.val % 512; omega
    | ⟨2, _⟩ => rfl
  show ix3 i0 i1 i2 ∈ _
  rw [e]
  exact ((cfg0.win 19).blk ⟨i0.val * 8 + i1.val / 512, ht⟩).view.emb_mem_set _
theorem final19 (c : Dev nD) : (dats m 0 c).arrAt 19 cfg0.N = result19 m c :=
  (dats m 0 c).arrAt_eq_of_cover 19 (result19 m c) (fun t _ => flushed_eq19 m c t) cover19

def spec20 (c : Dev nD) (p : Fin 8) (g : Fin 2) (s : Fin 4096) (d : Fin 64) : EReal := turn (from_ (hAt m c p s) 1732) (coAt m c s) (siAt m c s) (64 * g.val + d.val)
def result20 (c : Dev nD) : Buf (Elt Ideal) ((c : Thread nD τ).loc main_v42_9) := fun i => spec20 m c (i 0) (i 1) (i 2) (i 3)
theorem spec20_blk (c : Dev nD) (t : Fin cfg0.N) (g : Fin 2) (s : Fin 512) (d : Fin 64) :
    out0_A_20 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 g s d) =
      spec20 m c (img t) g (row t s) d := by
  rw [out20]
  unfold spec20
  exact lane_turn 128 rfl (by decide) (by omega) (fun n hn => (hs_blk m c t s (by omega)).trans (congrArg (hAt m c (img t) (row t s)) (by unfold scol; split_ifs <;> omega))) (col_blk m c t s) (sil_blk m c t s)
theorem flushed_eq20 (c : Dev nD) (t : Fin cfg0.N) :
    (dats m 0 c).flushed 20 t = ((cfg0.win 20).blk t).view.read (Elt Ideal) (result20 m c) := by
  rw [flushed20_A]
  funext j
  show out0_A_20 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result20 m c (((cfg0.win 20).blk t).view.emb j)
  idx_vars j
  obtain rfl : j0 = 0 := Subsingleton.elim _ _
  show _ = result20 m c (((cfg0.win 20).blk t).view.emb (ix4 0 j1 j2 j3))
  rw [emb20]
  exact spec20_blk m c t j1 j2 j3
theorem cover20 (i : S8x2x4096x64.Idx) :
    ∃ t : Fin cfg0.N, (cfg0.win 20).flush t = true ∧ i ∈ ((cfg0.win 20).blk t).view.set := by
  have hN : cfg0.N = 64 := N_0
  idx_vars i
  have ht : i0.val * 8 + i2.val / 512 < cfg0.N := by rw [hN]; omega
  refine ⟨⟨i0.val * 8 + i2.val / 512, ht⟩, flush0_20 _, ?_⟩
  have e : ix4 i0 i1 i2 i3 = ((cfg0.win 20).blk ⟨i0.val * 8 + i2.val / 512, ht⟩).view.emb (ix4 0 i1 ⟨i2.val % 512, by omega⟩ i3) := by
    rw [emb20]
    funext a; apply Fin.ext
    match a with
    | ⟨0, _⟩ => show i0.val = (i0.val * 8 + i2.val / 512) / 8; omega
    | ⟨1, _⟩ => rfl
    | ⟨2, _⟩ => show i2.val = (i0.val * 8 + i2.val / 512) % 8 * 512 + i2.val % 512; omega
    | ⟨3, _⟩ => rfl
  show ix4 i0 i1 i2 i3 ∈ _
  rw [e]
  exact ((cfg0.win 20).blk ⟨i0.val * 8 + i2.val / 512, ht⟩).view.emb_mem_set _
theorem final20 (c : Dev nD) : (dats m 0 c).arrAt 20 cfg0.N = result20 m c :=
  (dats m 0 c).arrAt_eq_of_cover 20 (result20 m c) (fun t _ => flushed_eq20 m c t) cover20

def spec21 (c : Dev nD) (p : Fin 8) (g : Fin 2) (s : Fin 4096) (d : Fin 64) : EReal := turn (from_ (hAt m c p s) 1988) (coAt m c s) (siAt m c s) (64 * g.val + d.val)
def result21 (c : Dev nD) : Buf (Elt Ideal) ((c : Thread nD τ).loc main_v42_10) := fun i => spec21 m c (i 0) (i 1) (i 2) (i 3)
theorem spec21_blk (c : Dev nD) (t : Fin cfg0.N) (g : Fin 2) (s : Fin 512) (d : Fin 64) :
    out0_A_21 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 g s d) =
      spec21 m c (img t) g (row t s) d := by
  rw [out21]
  unfold spec21
  exact lane_turn 128 rfl (by decide) (by omega) (fun n hn => (hs_blk m c t s (by omega)).trans (congrArg (hAt m c (img t) (row t s)) (by unfold scol; split_ifs <;> omega))) (col_blk m c t s) (sil_blk m c t s)
theorem flushed_eq21 (c : Dev nD) (t : Fin cfg0.N) :
    (dats m 0 c).flushed 21 t = ((cfg0.win 21).blk t).view.read (Elt Ideal) (result21 m c) := by
  rw [flushed21_A]
  funext j
  show out0_A_21 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result21 m c (((cfg0.win 21).blk t).view.emb j)
  idx_vars j
  obtain rfl : j0 = 0 := Subsingleton.elim _ _
  show _ = result21 m c (((cfg0.win 21).blk t).view.emb (ix4 0 j1 j2 j3))
  rw [emb21]
  exact spec21_blk m c t j1 j2 j3
theorem cover21 (i : S8x2x4096x64.Idx) :
    ∃ t : Fin cfg0.N, (cfg0.win 21).flush t = true ∧ i ∈ ((cfg0.win 21).blk t).view.set := by
  have hN : cfg0.N = 64 := N_0
  idx_vars i
  have ht : i0.val * 8 + i2.val / 512 < cfg0.N := by rw [hN]; omega
  refine ⟨⟨i0.val * 8 + i2.val / 512, ht⟩, flush0_21 _, ?_⟩
  have e : ix4 i0 i1 i2 i3 = ((cfg0.win 21).blk ⟨i0.val * 8 + i2.val / 512, ht⟩).view.emb (ix4 0 i1 ⟨i2.val % 512, by omega⟩ i3) := by
    rw [emb21]
    funext a; apply Fin.ext
    match a with
    | ⟨0, _⟩ => show i0.val = (i0.val * 8 + i2.val / 512) / 8; omega
    | ⟨1, _⟩ => rfl
    | ⟨2, _⟩ => show i2.val = (i0.val * 8 + i2.val / 512) % 8 * 512 + i2.val % 512; omega
    | ⟨3, _⟩ => rfl
  show ix4 i0 i1 i2 i3 ∈ _
  rw [e]
  exact ((cfg0.win 21).blk ⟨i0.val * 8 + i2.val / 512, ht⟩).view.emb_mem_set _
theorem final21 (c : Dev nD) : (dats m 0 c).arrAt 21 cfg0.N = result21 m c :=
  (dats m 0 c).arrAt_eq_of_cover 21 (result21 m c) (fun t _ => flushed_eq21 m c t) cover21

def spec22 (c : Dev nD) (p : Fin 8) (s : Fin 4096) (d : Fin 256) : EReal := MixinMath.cmp (hAt m c p s) (coAt m c s) (siAt m c s) d.val
def result22 (c : Dev nD) : Buf (Elt Ideal) ((c : Thread nD τ).loc main_v42_11) := fun i => spec22 m c (i 0) (i 1) (i 2)
theorem spec22_blk (c : Dev nD) (t : Fin cfg0.N) (s : Fin 512) (d : Fin 256) :
    out0_A_22 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 s d) =
      spec22 m c (img t) (row t s) d := by
  rw [out22]
  unfold spec22
  unfold MixinMath.cmp
  by_cases h1 : d.val < 128
  · rw [if_pos h1, if_pos h1]
    exact lane_turn 128 rfl (by decide) h1 (fun n hn => (hs_blk m c t s (by omega)).trans (congrArg (hAt m c (img t) (row t s)) (by unfold scol; split_ifs <;> omega))) (col_blk m c t s) (sil_blk m c t s)
  · rw [if_neg h1, if_neg h1, hs_blk m c t s (by omega)]
    exact congrArg _ (by unfold scol; split_ifs <;> omega)
theorem flushed_eq22 (c : Dev nD) (t : Fin cfg0.N) :
    (dats m 0 c).flushed 22 t = ((cfg0.win 22).blk t).view.read (Elt Ideal) (result22 m c) := by
  rw [flushed22_A]
  funext j
  show out0_A_22 (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j = result22 m c (((cfg0.win 22).blk t).view.emb j)
  idx_vars j
  obtain rfl : j0 = 0 := Subsingleton.elim _ _
  show _ = result22 m c (((cfg0.win 22).blk t).view.emb (ix3 0 j1 j2))
  rw [emb22]
  exact spec22_blk m c t j1 j2
theorem cover22 (i : S8x4096x256.Idx) :
    ∃ t : Fin cfg0.N, (cfg0.win 22).flush t = true ∧ i ∈ ((cfg0.win 22).blk t).view.set := by
  have hN : cfg0.N = 64 := N_0
  idx_vars i
  have ht : i0.val * 8 + i1.val / 512 < cfg0.N := by rw [hN]; omega
  refine ⟨⟨i0.val * 8 + i1.val / 512, ht⟩, flush0_22 _, ?_⟩
  have e : ix3 i0 i1 i2 = ((cfg0.win 22).blk ⟨i0.val * 8 + i1.val / 512, ht⟩).view.emb (ix3 0 ⟨i1.val % 512, by omega⟩ i2) := by
    rw [emb22]
    funext a; apply Fin.ext
    match a with
    | ⟨0, _⟩ => show i0.val = (i0.val * 8 + i1.val / 512) / 8; omega
    | ⟨1, _⟩ => show i1.val = (i0.val * 8 + i1.val / 512) % 8 * 512 + i1.val % 512; omega
    | ⟨2, _⟩ => rfl
  show ix3 i0 i1 i2 ∈ _
  rw [e]
  exact ((cfg0.win 22).blk ⟨i0.val * 8 + i1.val / 512, ht⟩).view.emb_mem_set _
theorem final22 (c : Dev nD) : (dats m 0 c).arrAt 22 cfg0.N = result22 m c :=
  (dats m 0 c).arrAt_eq_of_cover 22 (result22 m c) (fun t _ => flushed_eq22 m c t) cover22

/-- The run, its result arrays named and its arguments unchanged. -/
theorem run : θ_run defs (onTc (τ := τ) (main (F := Ideal))) ⟨m, fun _ => 0, ρ⟩ fun r => ∀ c : Dev nD,
      r.2.mem ((c : Thread nD τ).loc main_v42_0) = result11 m c
      ∧ r.2.mem ((c : Thread nD τ).loc main_v42_1) = result12 m c
      ∧ r.2.mem ((c : Thread nD τ).loc main_v42_2) = result13 m c
      ∧ r.2.mem ((c : Thread nD τ).loc main_v42_3) = result14 m c
      ∧ r.2.mem ((c : Thread nD τ).loc main_v42_4) = result15 m c
      ∧ r.2.mem ((c : Thread nD τ).loc main_v42_5) = result16 m c
      ∧ r.2.mem ((c : Thread nD τ).loc main_v42_6) = result17 m c
      ∧ r.2.mem ((c : Thread nD τ).loc main_v42_7) = result18 m c
      ∧ r.2.mem ((c : Thread nD τ).loc main_v42_8) = result19 m c
      ∧ r.2.mem ((c : Thread nD τ).loc main_v42_9) = result20 m c
      ∧ r.2.mem ((c : Thread nD τ).loc main_v42_10) = result21 m c
      ∧ r.2.mem ((c : Thread nD τ).loc main_v42_11) = result22 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run_blocks m ρ)
  obtain ⟨r0, r1, r2, r3, r4, r5, r6, r7, r8, r9, r10, r11, hk⟩ := h c
  exact ⟨r0.trans (final11 m c), r1.trans (final12 m c), r2.trans (final13 m c), r3.trans (final14 m c), r4.trans (final15 m c), r5.trans (final16 m c), r6.trans (final17 m c), r7.trans (final18 m c), r8.trans (final19 m c), r9.trans (final20 m c), r10.trans (final21 m c), r11.trans (final22 m c), hk⟩

end Cert.MixinIdeal.Block
end
-- ==== Proof.MixinRefValue.lean ====
/- The mix-in's reference program, read at an index: its product and its up-projection as sums, each result as the
   mathematics of `MixinMath`. -/
module

public import proofs.«01_k».proof.Proof.Gen.MixinRefIdeal.Run
public import proofs.«01_k».proof.Proof.MixinMath
public import Idealize.ShloMosaic.Lib.Pointwise

@[expose] public section

set_option maxRecDepth 16384

noncomputable section

namespace Cert.MixinRefIdeal.Stages

open Cert.MixinRefIdeal Cert.MixinRefIdeal.Gen Cert.MixinRefIdeal.Value Idealize.ShloMosaic Idealize.ShloMosaic.TcCoe Idealize.SL.Sem
open Idealize.ShloMosaic.StableHlo
open Cert.MixinMath (past turn col from_ latn up)

section
variable {F : FTy → Type} [FloatOps F]

/-- The first mixer's queries, from the arrays before. -/
def qa (V : Valuation τ sig (Elt F)) : FVec F S8x512x4096 .bf16 :=
  truncf .bf16 (transpose S8x512x4096 [0, 2, 1] (shapeCast _ (mulf (concatenate S8x4096x8x64 3 [⟨S8x4096x8x32, (subf (mulf (res_main_v54 V)
    (broadcastInDim S8x4096x8x32 ![0, 1, 2, 3] bcast_S1x4096x1x32_S8x4096x8x32_0_1_2_3 (broadcastInDim S1x4096x1x32 ![1, 2, 3]
    bcast_S4096x1x32_S1x4096x1x32_1_2_3 (res_main_v11 V)))) (mulf (res_main_v55 V) (broadcastInDim S8x4096x8x32 ![0, 1, 2, 3]
    bcast_S1x4096x1x32_S8x4096x8x32_0_1_2_3 (broadcastInDim S1x4096x1x32 ![1, 2, 3] bcast_S4096x1x32_S1x4096x1x32_1_2_3 (res_main_v12 V)))))⟩,
    ⟨S8x4096x8x32, (addf (mulf (res_main_v54 V) (broadcastInDim S8x4096x8x32 ![0, 1, 2, 3] bcast_S1x4096x1x32_S8x4096x8x32_0_1_2_3 (broadcastInDim
    S1x4096x1x32 ![1, 2, 3] bcast_S4096x1x32_S1x4096x1x32_1_2_3 (res_main_v12 V)))) (mulf (res_main_v55 V) (broadcastInDim S8x4096x8x32 ![0, 1, 2, 3]
    bcast_S1x4096x1x32_S8x4096x8x32_0_1_2_3 (broadcastInDim S1x4096x1x32 ![1, 2, 3] bcast_S4096x1x32_S1x4096x1x32_1_2_3 (res_main_v11 V)))))⟩]
    concatenates_S8x4096x8x32_S8x4096x8x32_S8x4096x8x64_d3) (broadcastInDim S8x4096x8x64 ![] bcast_S_S8x4096x8x64 (constant S_ .f32 0x3E38AA3B#32)))
    shapeCasts_S8x4096x8x64_S8x4096x512) transposes_S8x4096x512_S8x512x4096_0_2_1) bitsLt_bf16_f32
/-- The second mixer's queries, from the arrays before. -/
def qb (V : Valuation τ sig (Elt F)) : FVec F S8x512x4096 .bf16 :=
  truncf .bf16 (transpose S8x512x4096 [0, 2, 1] (shapeCast _ (mulf (concatenate S8x4096x8x64 3 [⟨S8x4096x8x32, (subf (mulf (res_main_v77 V)
    (broadcastInDim S8x4096x8x32 ![0, 1, 2, 3] bcast_S1x4096x1x32_S8x4096x8x32_0_1_2_3 (broadcastInDim S1x4096x1x32 ![1, 2, 3]
    bcast_S4096x1x32_S1x4096x1x32_1_2_3 (res_main_v11 V)))) (mulf (res_main_v78 V) (broadcastInDim S8x4096x8x32 ![0, 1, 2, 3]
    bcast_S1x4096x1x32_S8x4096x8x32_0_1_2_3 (broadcastInDim S1x4096x1x32 ![1, 2, 3] bcast_S4096x1x32_S1x4096x1x32_1_2_3 (res_main_v12 V)))))⟩,
    ⟨S8x4096x8x32, (addf (mulf (res_main_v77 V) (broadcastInDim S8x4096x8x32 ![0, 1, 2, 3] bcast_S1x4096x1x32_S8x4096x8x32_0_1_2_3 (broadcastInDim
    S1x4096x1x32 ![1, 2, 3] bcast_S4096x1x32_S1x4096x1x32_1_2_3 (res_main_v12 V)))) (mulf (res_main_v78 V) (broadcastInDim S8x4096x8x32 ![0, 1, 2, 3]
    bcast_S1x4096x1x32_S8x4096x8x32_0_1_2_3 (broadcastInDim S1x4096x1x32 ![1, 2, 3] bcast_S4096x1x32_S1x4096x1x32_1_2_3 (res_main_v11 V)))))⟩]
    concatenates_S8x4096x8x32_S8x4096x8x32_S8x4096x8x64_d3) (broadcastInDim S8x4096x8x64 ![] bcast_S_S8x4096x8x64 (constant S_ .f32 0x3E38AA3B#32)))
    shapeCasts_S8x4096x8x64_S8x4096x512) transposes_S8x4096x512_S8x512x4096_0_2_1) bitsLt_bf16_f32
/-- The index queries, from the arrays before. -/
def qi (V : Valuation τ sig (Elt F)) : FVec F S8x256x4096 .bf16 :=
  truncf .bf16 (transpose S8x256x4096 [0, 2, 1] (shapeCast _ (concatenate S8x4096x4x64 3 [⟨S8x4096x4x32, (subf (mulf (res_main_v100 V)
    (broadcastInDim S8x4096x4x32 ![0, 1, 2, 3] bcast_S1x4096x1x32_S8x4096x4x32_0_1_2_3 (broadcastInDim S1x4096x1x32 ![1, 2, 3]
    bcast_S4096x1x32_S1x4096x1x32_1_2_3 (res_main_v11 V)))) (mulf (res_main_v101 V) (broadcastInDim S8x4096x4x32 ![0, 1, 2, 3]
    bcast_S1x4096x1x32_S8x4096x4x32_0_1_2_3 (broadcastInDim S1x4096x1x32 ![1, 2, 3] bcast_S4096x1x32_S1x4096x1x32_1_2_3 (res_main_v12 V)))))⟩,
    ⟨S8x4096x4x32, (addf (mulf (res_main_v100 V) (broadcastInDim S8x4096x4x32 ![0, 1, 2, 3] bcast_S1x4096x1x32_S8x4096x4x32_0_1_2_3 (broadcastInDim
    S1x4096x1x32 ![1, 2, 3] bcast_S4096x1x32_S1x4096x1x32_1_2_3 (res_main_v12 V)))) (mulf (res_main_v101 V) (broadcastInDim S8x4096x4x32 ![0, 1, 2,
    3] bcast_S1x4096x1x32_S8x4096x4x32_0_1_2_3 (broadcastInDim S1x4096x1x32 ![1, 2, 3] bcast_S4096x1x32_S1x4096x1x32_1_2_3 (res_main_v11 V)))))⟩]
    concatenates_S8x4096x4x32_S8x4096x4x32_S8x4096x4x64_d3) shapeCasts_S8x4096x4x64_S8x4096x256) transposes_S8x4096x256_S8x256x4096_0_2_1)
    bitsLt_bf16_f32
/-- The first mixer's values, from the arrays before. -/
def va (V : Valuation τ sig (Elt F)) : FVec F S8x64x4096 .bf16 :=
  truncf .bf16 (transpose S8x64x4096 [0, 2, 1] (extractStridedSlice S8x4096x64 ![0, 0, 64] (res_main_v40 V) slices_S8x4096x128_S8x4096x64_0_0_64)
    transposes_S8x4096x64_S8x64x4096_0_2_1) bitsLt_bf16_f32
/-- The second mixer's selected values, from the arrays before. -/
def vs (V : Valuation τ sig (Elt F)) : FVec F S8x128x4096 .bf16 :=
  truncf .bf16 (transpose S8x128x4096 [0, 2, 1] (extractStridedSlice S8x4096x128 ![0, 0, 384] (res_main_v20 V)
    slices_S8x4096x768_S8x4096x128_0_0_384) transposes_S8x4096x128_S8x128x4096_0_2_1) bitsLt_bf16_f32
/-- The second mixer's window values, from the arrays before. -/
def vw (V : Valuation τ sig (Elt F)) : FVec F S8x128x4096 .bf16 :=
  truncf .bf16 (transpose S8x128x4096 [0, 2, 1] (extractStridedSlice S8x4096x128 ![0, 0, 640] (res_main_v20 V)
    slices_S8x4096x768_S8x4096x128_0_0_640) transposes_S8x4096x128_S8x128x4096_0_2_1) bitsLt_bf16_f32
/-- The gates and the index weights, from the arrays before. -/
def misc (V : Valuation τ sig (Elt F)) : FVec F S8x32x4096 .f32 :=
  transpose S8x32x4096 [0, 2, 1] ((concatenate S8x4096x32 2 [⟨S8x4096x24, ((Host.divf (broadcastInDim S8x4096x24 ![] bcast_S_S8x4096x24 (constant S_
    .f32 0x3F800000#32)) (addf (broadcastInDim S8x4096x24 ![] bcast_S_S8x4096x24 (constant S_ .f32 0x3F800000#32)) (Host.exp (Host.negf
    (extractStridedSlice S8x4096x24 ![0, 0, 2244] (res_main_v10 V) slices_S8x4096x4316_S8x4096x24_0_0_2244))))) : (⟨S8x4096x24, .f32⟩ :
    BufTy).Contents (Elt F))⟩, ⟨S8x4096x4, ((mulf (extractStridedSlice S8x4096x4 ![0, 0, 960] (res_main_v10 V) slices_S8x4096x4316_S8x4096x4_0_0_960)
    (broadcastInDim S8x4096x4 ![] bcast_S_S8x4096x4 (constant S_ .f32 0x3F000000#32))) : (⟨S8x4096x4, .f32⟩ : BufTy).Contents (Elt F))⟩, ⟨S8x4096x4,
    ((broadcastInDim S8x4096x4 ![] bcast_S_S8x4096x4 (constant S_ .f32 0x00000000#32)) : (⟨S8x4096x4, .f32⟩ : BufTy).Contents (Elt F))⟩]
    concatenates_S8x4096x24_S8x4096x4_S8x4096x4_S8x4096x32_d2 : (⟨S8x4096x32, .f32⟩ : BufTy).Contents (Elt F)))
    transposes_S8x4096x32_S8x32x4096_0_2_1
/-- The first mixer's keys, from the arrays before. -/
def ka (V : Valuation τ sig (Elt F)) : FVec F S8x4096x64 .bf16 :=
  truncf .bf16 (shapeCast _ (concatenate S8x4096x1x64 3 [⟨S8x4096x1x32, (subf (mulf (res_main_v128 V) (broadcastInDim S8x4096x1x32 ![0, 1, 2, 3]
    bcast_S1x4096x1x32_S8x4096x1x32_0_1_2_3 (broadcastInDim S1x4096x1x32 ![1, 2, 3] bcast_S4096x1x32_S1x4096x1x32_1_2_3 (res_main_v11 V)))) (mulf
    (res_main_v129 V) (broadcastInDim S8x4096x1x32 ![0, 1, 2, 3] bcast_S1x4096x1x32_S8x4096x1x32_0_1_2_3 (broadcastInDim S1x4096x1x32 ![1, 2, 3]
    bcast_S4096x1x32_S1x4096x1x32_1_2_3 (res_main_v12 V)))))⟩, ⟨S8x4096x1x32, (addf (mulf (res_main_v128 V) (broadcastInDim S8x4096x1x32 ![0, 1, 2,
    3] bcast_S1x4096x1x32_S8x4096x1x32_0_1_2_3 (broadcastInDim S1x4096x1x32 ![1, 2, 3] bcast_S4096x1x32_S1x4096x1x32_1_2_3 (res_main_v12 V)))) (mulf
    (res_main_v129 V) (broadcastInDim S8x4096x1x32 ![0, 1, 2, 3] bcast_S1x4096x1x32_S8x4096x1x32_0_1_2_3 (broadcastInDim S1x4096x1x32 ![1, 2, 3]
    bcast_S4096x1x32_S1x4096x1x32_1_2_3 (res_main_v11 V)))))⟩] concatenates_S8x4096x1x32_S8x4096x1x32_S8x4096x1x64_d3)
    shapeCasts_S8x4096x1x64_S8x4096x64) bitsLt_bf16_f32
/-- The index keys, from the arrays before. -/
def ki (V : Valuation τ sig (Elt F)) : FVec F S8x4096x64 .bf16 :=
  truncf .bf16 (shapeCast _ (concatenate S8x4096x1x64 3 [⟨S8x4096x1x32, (subf (mulf (res_main_v148 V) (broadcastInDim S8x4096x1x32 ![0, 1, 2, 3]
    bcast_S1x4096x1x32_S8x4096x1x32_0_1_2_3 (broadcastInDim S1x4096x1x32 ![1, 2, 3] bcast_S4096x1x32_S1x4096x1x32_1_2_3 (res_main_v11 V)))) (mulf
    (res_main_v149 V) (broadcastInDim S8x4096x1x32 ![0, 1, 2, 3] bcast_S1x4096x1x32_S8x4096x1x32_0_1_2_3 (broadcastInDim S1x4096x1x32 ![1, 2, 3]
    bcast_S4096x1x32_S1x4096x1x32_1_2_3 (res_main_v12 V)))))⟩, ⟨S8x4096x1x32, (addf (mulf (res_main_v148 V) (broadcastInDim S8x4096x1x32 ![0, 1, 2,
    3] bcast_S1x4096x1x32_S8x4096x1x32_0_1_2_3 (broadcastInDim S1x4096x1x32 ![1, 2, 3] bcast_S4096x1x32_S1x4096x1x32_1_2_3 (res_main_v12 V)))) (mulf
    (res_main_v149 V) (broadcastInDim S8x4096x1x32 ![0, 1, 2, 3] bcast_S1x4096x1x32_S8x4096x1x32_0_1_2_3 (broadcastInDim S1x4096x1x32 ![1, 2, 3]
    bcast_S4096x1x32_S1x4096x1x32_1_2_3 (res_main_v11 V)))))⟩] concatenates_S8x4096x1x32_S8x4096x1x32_S8x4096x1x64_d3)
    shapeCasts_S8x4096x1x64_S8x4096x64) bitsLt_bf16_f32
/-- The selected keys, from the arrays before. -/
def ks (V : Valuation τ sig (Elt F)) : FVec F S8x2x4096x64 .bf16 :=
  truncf .bf16 (transpose S8x2x4096x64 [0, 2, 1, 3] (concatenate S8x4096x2x64 3 [⟨S8x4096x2x32, (subf (mulf (res_main_v168 V) (broadcastInDim
    S8x4096x2x32 ![0, 1, 2, 3] bcast_S1x4096x1x32_S8x4096x2x32_0_1_2_3 (broadcastInDim S1x4096x1x32 ![1, 2, 3] bcast_S4096x1x32_S1x4096x1x32_1_2_3
    (res_main_v11 V)))) (mulf (res_main_v169 V) (broadcastInDim S8x4096x2x32 ![0, 1, 2, 3] bcast_S1x4096x1x32_S8x4096x2x32_0_1_2_3 (broadcastInDim
    S1x4096x1x32 ![1, 2, 3] bcast_S4096x1x32_S1x4096x1x32_1_2_3 (res_main_v12 V)))))⟩, ⟨S8x4096x2x32, (addf (mulf (res_main_v168 V) (broadcastInDim
    S8x4096x2x32 ![0, 1, 2, 3] bcast_S1x4096x1x32_S8x4096x2x32_0_1_2_3 (broadcastInDim S1x4096x1x32 ![1, 2, 3] bcast_S4096x1x32_S1x4096x1x32_1_2_3
    (res_main_v12 V)))) (mulf (res_main_v169 V) (broadcastInDim S8x4096x2x32 ![0, 1, 2, 3] bcast_S1x4096x1x32_S8x4096x2x32_0_1_2_3 (broadcastInDim
    S1x4096x1x32 ![1, 2, 3] bcast_S4096x1x32_S1x4096x1x32_1_2_3 (res_main_v11 V)))))⟩] concatenates_S8x4096x2x32_S8x4096x2x32_S8x4096x2x64_d3)
    transposes_S8x4096x2x64_S8x2x4096x64_0_2_1_3) bitsLt_bf16_f32
/-- The window keys, from the arrays before. -/
def kw (V : Valuation τ sig (Elt F)) : FVec F S8x2x4096x64 .bf16 :=
  truncf .bf16 (transpose S8x2x4096x64 [0, 2, 1, 3] (concatenate S8x4096x2x64 3 [⟨S8x4096x2x32, (subf (mulf (res_main_v188 V) (broadcastInDim
    S8x4096x2x32 ![0, 1, 2, 3] bcast_S1x4096x1x32_S8x4096x2x32_0_1_2_3 (broadcastInDim S1x4096x1x32 ![1, 2, 3] bcast_S4096x1x32_S1x4096x1x32_1_2_3
    (res_main_v11 V)))) (mulf (res_main_v189 V) (broadcastInDim S8x4096x2x32 ![0, 1, 2, 3] bcast_S1x4096x1x32_S8x4096x2x32_0_1_2_3 (broadcastInDim
    S1x4096x1x32 ![1, 2, 3] bcast_S4096x1x32_S1x4096x1x32_1_2_3 (res_main_v12 V)))))⟩, ⟨S8x4096x2x32, (addf (mulf (res_main_v188 V) (broadcastInDim
    S8x4096x2x32 ![0, 1, 2, 3] bcast_S1x4096x1x32_S8x4096x2x32_0_1_2_3 (broadcastInDim S1x4096x1x32 ![1, 2, 3] bcast_S4096x1x32_S1x4096x1x32_1_2_3
    (res_main_v12 V)))) (mulf (res_main_v189 V) (broadcastInDim S8x4096x2x32 ![0, 1, 2, 3] bcast_S1x4096x1x32_S8x4096x2x32_0_1_2_3 (broadcastInDim
    S1x4096x1x32 ![1, 2, 3] bcast_S4096x1x32_S1x4096x1x32_1_2_3 (res_main_v11 V)))))⟩] concatenates_S8x4096x2x32_S8x4096x2x32_S8x4096x2x64_d3)
    transposes_S8x4096x2x64_S8x2x4096x64_0_2_1_3) bitsLt_bf16_f32
/-- The compressor's input, from the arrays before. -/
def cmp (V : Valuation τ sig (Elt F)) : FVec F S8x4096x256 .f32 :=
  concatenate S8x4096x256 2 [⟨S8x4096x128, (shapeCast _ (concatenate S8x4096x2x64 3 [⟨S8x4096x2x32, (subf (mulf (res_main_v208 V) (broadcastInDim
    S8x4096x2x32 ![0, 1, 2, 3] bcast_S1x4096x1x32_S8x4096x2x32_0_1_2_3 (broadcastInDim S1x4096x1x32 ![1, 2, 3] bcast_S4096x1x32_S1x4096x1x32_1_2_3
    (res_main_v11 V)))) (mulf (res_main_v209 V) (broadcastInDim S8x4096x2x32 ![0, 1, 2, 3] bcast_S1x4096x1x32_S8x4096x2x32_0_1_2_3 (broadcastInDim
    S1x4096x1x32 ![1, 2, 3] bcast_S4096x1x32_S1x4096x1x32_1_2_3 (res_main_v12 V)))))⟩, ⟨S8x4096x2x32, (addf (mulf (res_main_v208 V) (broadcastInDim
    S8x4096x2x32 ![0, 1, 2, 3] bcast_S1x4096x1x32_S8x4096x2x32_0_1_2_3 (broadcastInDim S1x4096x1x32 ![1, 2, 3] bcast_S4096x1x32_S1x4096x1x32_1_2_3
    (res_main_v12 V)))) (mulf (res_main_v209 V) (broadcastInDim S8x4096x2x32 ![0, 1, 2, 3] bcast_S1x4096x1x32_S8x4096x2x32_0_1_2_3 (broadcastInDim
    S1x4096x1x32 ![1, 2, 3] bcast_S4096x1x32_S1x4096x1x32_1_2_3 (res_main_v11 V)))))⟩] concatenates_S8x4096x2x32_S8x4096x2x32_S8x4096x2x64_d3)
    shapeCasts_S8x4096x2x64_S8x4096x128)⟩, ⟨S8x4096x128, (extractStridedSlice S8x4096x128 ![0, 0, 128] (res_main_v20 V)
    slices_S8x4096x768_S8x4096x128_0_0_128)⟩] concatenates_S8x4096x128_S8x4096x128_S8x4096x256_d2

end

variable (V : Valuation τ sig (Elt Ideal))

/-- The arguments. -/
abbrev ax : FVec Ideal S8x4096x1024 .f32 := V (Proc.devRef .tc main_arg0)
abbrev amd : FVec Ideal S8x9216 .f32 := V (Proc.devRef .tc main_arg1)
abbrev aw : FVec Ideal S1024x4316 .f32 := V (Proc.devRef .tc main_arg2)
abbrev ag : FVec Ideal S128 .f32 := V (Proc.devRef .tc main_arg3)
abbrev awu : FVec Ideal S128x128 .f32 := V (Proc.devRef .tc main_arg4)
abbrev aco : FVec Ideal S4096x32 .f32 := V (Proc.devRef .tc main_arg5)
abbrev asi : FVec Ideal S4096x32 .f32 := V (Proc.devRef .tc main_arg6)

/-- The product's columns at a position. -/
abbrev hcol (p : Fin 8) (s : Fin 4096) : Nat → EReal :=
  col (fun k => ax V (ix3 p s k)) (fun k => amd V (ix2 p ⟨3072 + k.val, by omega⟩))
    (fun k => amd V (ix2 p ⟨4096 + k.val, by omega⟩)) (fun k j => aw V (ix2 k j))
/-- The up-projection's columns at a position. -/
abbrev ucol (p : Fin 8) (s : Fin 4096) : Nat → EReal :=
  up (hcol V p s) (fun k => ag V (ix1 k)) (fun k j => awu V (ix2 k j))
/-- The cosines and the sines of a position. -/
abbrev co (s : Fin 4096) : Nat → EReal := past fun d : Fin 32 => aco V (ix2 s d)
abbrev si (s : Fin 4096) : Nat → EReal := past fun d : Fin 32 => asi V (ix2 s d)

theorem h_apply (p : Fin 8) (s : Fin 4096) (j : Fin 4316) :
    (res_main_v10 V : FVec Ideal S8x4096x4316 .f32) (ix3 p s j) = hcol V p s j.val := by
  pointwise [res_main_v10]
  rw [hcol, col, MixinMath.past_lt _ j.isLt]

theorem u_apply (p : Fin 8) (s : Fin 4096) (j : Fin 128) :
    (res_main_v40 V : FVec Ideal S8x4096x128 .f32) (ix3 p s j) = ucol V p s j.val := by
  pointwise [res_main_v40, res_main_v14]
  simp only [h_apply]
  rw [ucol, up, MixinMath.past_lt _ j.isLt]
  rfl

theorem qa_apply (p : Fin 8) (c : Fin 512) (s : Fin 4096) :
    qa V (ix3 p c s) = turn (hcol V p s) (co V s) (si V s) c.val * Ideal.ofBits .f32 0x3E38AA3B#32 := by
  pointwise [qa, res_main_v54, res_main_v55, res_main_v53, res_main_v11, res_main_v12]
  simp only [h_apply]
  refine congrArg (· * Ideal.ofBits .f32 0x3E38AA3B#32) ?_
  refine Eq.trans ?_ (MixinMath.turn_dite (d := c.val % 64) (c := c.val) (hcol V p s) (fun d => aco V (ix2 s d)) (fun d => asi V (ix2 s d))
    (a₁ := (hcol V p s (c.val)))
    (a₂ := (hcol V p s (c.val / 64 * 64 + (32 + c.val % 64))))
    (a₃ := (hcol V p s (c.val / 64 * 64 + (c.val % 64 - 32))))
    (a₄ := (hcol V p s (c.val / 64 * 64 + (32 + (c.val % 64 - 32))))) (by omega) (by omega)
    (fun h => congrArg (hcol V p s) (by omega)) (fun h => congrArg (hcol V p s) (by omega)) (fun h => congrArg (hcol V p s) (by omega)) (fun h => congrArg (hcol V p s) (by omega)))
  rfl
theorem qb_apply (p : Fin 8) (c : Fin 512) (s : Fin 4096) :
    qb V (ix3 p c s) = turn (from_ (hcol V p s) 964) (co V s) (si V s) c.val * Ideal.ofBits .f32 0x3E38AA3B#32 := by
  pointwise [qb, res_main_v77, res_main_v78, res_main_v76, res_main_v11, res_main_v12]
  simp only [h_apply]
  refine congrArg (· * Ideal.ofBits .f32 0x3E38AA3B#32) ?_
  refine Eq.trans ?_ (MixinMath.turn_dite (d := c.val % 64) (c := c.val) (from_ (hcol V p s) 964) (fun d => aco V (ix2 s d)) (fun d => asi V (ix2 s d))
    (a₁ := (hcol V p s (964 + c.val)))
    (a₂ := (hcol V p s (964 + (c.val / 64 * 64 + (32 + c.val % 64)))))
    (a₃ := (hcol V p s (964 + (c.val / 64 * 64 + (c.val % 64 - 32)))))
    (a₄ := (hcol V p s (964 + (c.val / 64 * 64 + (32 + (c.val % 64 - 32)))))) (by omega) (by omega)
    (fun h => congrArg (hcol V p s) (by omega)) (fun h => congrArg (hcol V p s) (by omega)) (fun h => congrArg (hcol V p s) (by omega)) (fun h => congrArg (hcol V p s) (by omega)))
  rfl
theorem qi_apply (p : Fin 8) (c : Fin 256) (s : Fin 4096) :
    qi V (ix3 p c s) = turn (from_ (hcol V p s) 640) (co V s) (si V s) c.val := by
  pointwise [qi, res_main_v100, res_main_v101, res_main_v99, res_main_v11, res_main_v12]
  simp only [h_apply]
  refine Eq.trans ?_ (MixinMath.turn_dite (d := c.val % 64) (c := c.val) (from_ (hcol V p s) 640) (fun d => aco V (ix2 s d)) (fun d => asi V (ix2 s d))
    (a₁ := (hcol V p s (640 + c.val)))
    (a₂ := (hcol V p s (640 + (c.val / 64 * 64 + (32 + c.val % 64)))))
    (a₃ := (hcol V p s (640 + (c.val / 64 * 64 + (c.val % 64 - 32)))))
    (a₄ := (hcol V p s (640 + (c.val / 64 * 64 + (32 + (c.val % 64 - 32)))))) (by omega) (by omega)
    (fun h => congrArg (hcol V p s) (by omega)) (fun h => congrArg (hcol V p s) (by omega)) (fun h => congrArg (hcol V p s) (by omega)) (fun h => congrArg (hcol V p s) (by omega)))
  rfl
theorem ka_apply (p : Fin 8) (s : Fin 4096) (c : Fin 64) :
    ka V (ix3 p s c) = turn (ucol V p s) (co V s) (si V s) c.val := by
  pointwise [ka, res_main_v128, res_main_v129, res_main_v127, res_main_v11, res_main_v12]
  simp only [u_apply]
  refine Eq.trans ?_ (MixinMath.turn_dite (d := c.val) (c := c.val) (ucol V p s) (fun d => aco V (ix2 s d)) (fun d => asi V (ix2 s d))
    (a₁ := (ucol V p s (c.val)))
    (a₂ := (ucol V p s (32 + c.val)))
    (a₃ := (ucol V p s ((c.val - 32))))
    (a₄ := (ucol V p s (32 + (c.val - 32)))) (by omega) (by omega)
    (fun h => congrArg (ucol V p s) (by omega)) (fun h => congrArg (ucol V p s) (by omega)) (fun h => congrArg (ucol V p s) (by omega)) (fun h => congrArg (ucol V p s) (by omega)))
  rfl
theorem ki_apply (p : Fin 8) (s : Fin 4096) (c : Fin 64) :
    ki V (ix3 p s c) = turn (from_ (hcol V p s) 896) (co V s) (si V s) c.val := by
  pointwise [ki, res_main_v148, res_main_v149, res_main_v147, res_main_v11, res_main_v12]
  simp only [h_apply]
  refine Eq.trans ?_ (MixinMath.turn_dite (d := c.val) (c := c.val) (from_ (hcol V p s) 896) (fun d => aco V (ix2 s d)) (fun d => asi V (ix2 s d))
    (a₁ := (hcol V p s (896 + c.val)))
    (a₂ := (hcol V p s (896 + (32 + c.val))))
    (a₃ := (hcol V p s (896 + (c.val - 32))))
    (a₄ := (hcol V p s (896 + (32 + (c.val - 32))))) (by omega) (by omega)
    (fun h => congrArg (hcol V p s) (by omega)) (fun h => congrArg (hcol V p s) (by omega)) (fun h => congrArg (hcol V p s) (by omega)) (fun h => congrArg (hcol V p s) (by omega)))
  rfl
theorem ks_apply (p : Fin 8) (g : Fin 2) (s : Fin 4096) (d : Fin 64) :
    ks V (ix4 p g s d) = turn (from_ (hcol V p s) 1732) (co V s) (si V s) (64 * g.val + d.val) := by
  pointwise [ks, res_main_v168, res_main_v169, res_main_v167, res_main_v20, res_main_v11, res_main_v12]
  simp only [h_apply]
  refine Eq.trans ?_ (MixinMath.turn_dite (d := d.val) (c := (64 * g.val + d.val)) (from_ (hcol V p s) 1732) (fun d => aco V (ix2 s d)) (fun d => asi V (ix2 s d))
    (a₁ := (hcol V p s (1476 + (256 + (g.val * 64 + d.val)))))
    (a₂ := (hcol V p s (1476 + (256 + (g.val * 64 + (32 + d.val))))))
    (a₃ := (hcol V p s (1476 + (256 + (g.val * 64 + (d.val - 32))))))
    (a₄ := (hcol V p s (1476 + (256 + (g.val * 64 + (32 + (d.val - 32))))))) (by omega) (by omega)
    (fun h => congrArg (hcol V p s) (by omega)) (fun h => congrArg (hcol V p s) (by omega)) (fun h => congrArg (hcol V p s) (by omega)) (fun h => congrArg (hcol V p s) (by omega)))
  rfl
theorem kw_apply (p : Fin 8) (g : Fin 2) (s : Fin 4096) (d : Fin 64) :
    kw V (ix4 p g s d) = turn (from_ (hcol V p s) 1988) (co V s) (si V s) (64 * g.val + d.val) := by
  pointwise [kw, res_main_v188, res_main_v189, res_main_v187, res_main_v20, res_main_v11, res_main_v12]
  simp only [h_apply]
  refine Eq.trans ?_ (MixinMath.turn_dite (d := d.val) (c := (64 * g.val + d.val)) (from_ (hcol V p s) 1988) (fun d => aco V (ix2 s d)) (fun d => asi V (ix2 s d))
    (a₁ := (hcol V p s (1476 + (512 + (g.val * 64 + d.val)))))
    (a₂ := (hcol V p s (1476 + (512 + (g.val * 64 + (32 + d.val))))))
    (a₃ := (hcol V p s (1476 + (512 + (g.val * 64 + (d.val - 32))))))
    (a₄ := (hcol V p s (1476 + (512 + (g.val * 64 + (32 + (d.val - 32))))))) (by omega) (by omega)
    (fun h => congrArg (hcol V p s) (by omega)) (fun h => congrArg (hcol V p s) (by omega)) (fun h => congrArg (hcol V p s) (by omega)) (fun h => congrArg (hcol V p s) (by omega)))
  rfl
theorem va_apply (p : Fin 8) (c : Fin 64) (s : Fin 4096) : va V (ix3 p c s) = ucol V p s (64 + c.val) := by
  pointwise [va]
  rw [u_apply]
theorem vs_apply (p : Fin 8) (c : Fin 128) (s : Fin 4096) : vs V (ix3 p c s) = hcol V p s (1860 + c.val) := by
  pointwise [vs, res_main_v20]
  rw [h_apply]
  exact congrArg (hcol V p s) (by show 1476 + (384 + c.val) = _; omega)
theorem vw_apply (p : Fin 8) (c : Fin 128) (s : Fin 4096) : vw V (ix3 p c s) = hcol V p s (2116 + c.val) := by
  pointwise [vw, res_main_v20]
  rw [h_apply]
  exact congrArg (hcol V p s) (by show 1476 + (640 + c.val) = _; omega)
theorem misc_apply (p : Fin 8) (c : Fin 32) (s : Fin 4096) : misc V (ix3 p c s) = MixinMath.misc (hcol V p s) c.val := by
  pointwise [misc]
  simp only [h_apply, MixinMath.misc]
  by_cases h : c.val < 24
  · rw [dif_pos h, if_pos h]; rfl
  · rw [dif_neg h, if_neg h]
    by_cases h' : c.val < 28
    · have e : 960 + (c.val - 24) = 936 + c.val := by omega
      rw [dif_pos (by omega), if_pos h', e]
    · rw [dif_neg (by omega), if_neg h']

end Cert.MixinRefIdeal.Stages
end
-- ==== Proof.MixinRefCmp.lean ====
/- The mix-in's reference program, its last result: the compressor's input read at an index. -/
module

public import proofs.«01_k».proof.Proof.MixinRefValue
public import Idealize.ShloMosaic.Lib.Pointwise

@[expose] public section
set_option maxRecDepth 16384
noncomputable section
namespace Cert.MixinRefIdeal.Stages
open Cert.MixinRefIdeal Cert.MixinRefIdeal.Gen Cert.MixinRefIdeal.Value Idealize.ShloMosaic Idealize.ShloMosaic.TcCoe Idealize.SL.Sem
open Idealize.ShloMosaic.StableHlo
open Cert.MixinMath (past turn col from_ latn up)
variable (V : Valuation τ sig (Elt Ideal))

theorem cmp_apply (p : Fin 8) (s : Fin 4096) (c : Fin 256) :
    cmp V (ix3 p s c) = MixinMath.cmp (hcol V p s) (co V s) (si V s) c.val := by
  pointwise [cmp, res_main_v208, res_main_v209, res_main_v207, res_main_v20, res_main_v11, res_main_v12]
  simp only [h_apply, MixinMath.cmp]
  by_cases h : c.val < 128
  · simp only [h, if_true, dif_pos]
    refine Eq.trans ?_ (MixinMath.turn_dite (d := c.val % 64) (c := c.val) (from_ (hcol V p s) 1476) (fun d => aco V (ix2 s d)) (fun d => asi V (ix2 s d))
      (a₁ := hcol V p s (1476 + (c.val / 64 * 64 + c.val % 64)))
      (a₂ := hcol V p s (1476 + (c.val / 64 * 64 + (32 + c.val % 64))))
      (a₃ := hcol V p s (1476 + (c.val / 64 * 64 + (c.val % 64 - 32))))
      (a₄ := hcol V p s (1476 + (c.val / 64 * 64 + (32 + (c.val % 64 - 32))))) (by omega) (by omega)
      (fun h => congrArg (hcol V p s) (by omega)) (fun h => congrArg (hcol V p s) (by omega))
      (fun h => congrArg (hcol V p s) (by omega)) (fun h => congrArg (hcol V p s) (by omega)))
    rfl
  · have e : 1476 + (128 + (c.val - 128)) = 1476 + c.val := by omega
    rw [dif_neg h, if_neg h, e]

end Cert.MixinRefIdeal.Stages
end
-- ==== Proof.MixinEquation.lean ====
/- The mix-in's equation: under arguments that agree, each of the reference's twelve results is the kernel's. -/
module

public import proofs.«01_k».proof.Proof.MixinArray
public import proofs.«01_k».proof.Proof.MixinRefValue
public import proofs.«01_k».proof.Proof.MixinRefCmp

@[expose] public section

set_option maxRecDepth 16384

noncomputable section

namespace Cert.MixinIdeal.Equation

open Idealize.ShloMosaic Idealize.ShloMosaic.TcCoe Idealize.ShloMosaic.Tactic Idealize.SL.Sem Idealize.ShloMosaic.StableHlo
open Cert.MixinIdeal.Block

variable (m : (ℓ : Loc Cert.MixinIdeal.nD Cert.MixinIdeal.τ Cert.MixinIdeal.sig) → Buf (Elt Ideal) ℓ)
    (m' : (ℓ : Loc Cert.MixinRefIdeal.nD Cert.MixinRefIdeal.τ Cert.MixinRefIdeal.sig) → Buf (Elt Ideal) ℓ) (c : Dev Cert.MixinIdeal.nD)

/-- The arguments of the two programs agree on device `c`. -/
def Agree : Prop :=
  m' ((c.tc : Thread Cert.MixinRefIdeal.nD Cert.MixinRefIdeal.τ).loc Cert.MixinRefIdeal.main_arg0) = m ((c.tc : Thread Cert.MixinIdeal.nD Cert.MixinIdeal.τ).loc Cert.MixinIdeal.main_arg0)
    ∧ m' ((c.tc : Thread Cert.MixinRefIdeal.nD Cert.MixinRefIdeal.τ).loc Cert.MixinRefIdeal.main_arg1) = m ((c.tc : Thread Cert.MixinIdeal.nD Cert.MixinIdeal.τ).loc Cert.MixinIdeal.main_arg1)
    ∧ m' ((c.tc : Thread Cert.MixinRefIdeal.nD Cert.MixinRefIdeal.τ).loc Cert.MixinRefIdeal.main_arg2) = m ((c.tc : Thread Cert.MixinIdeal.nD Cert.MixinIdeal.τ).loc Cert.MixinIdeal.main_arg2)
    ∧ m' ((c.tc : Thread Cert.MixinRefIdeal.nD Cert.MixinRefIdeal.τ).loc Cert.MixinRefIdeal.main_arg3) = m ((c.tc : Thread Cert.MixinIdeal.nD Cert.MixinIdeal.τ).loc Cert.MixinIdeal.main_arg3)
    ∧ m' ((c.tc : Thread Cert.MixinRefIdeal.nD Cert.MixinRefIdeal.τ).loc Cert.MixinRefIdeal.main_arg4) = m ((c.tc : Thread Cert.MixinIdeal.nD Cert.MixinIdeal.τ).loc Cert.MixinIdeal.main_arg4)
    ∧ m' ((c.tc : Thread Cert.MixinRefIdeal.nD Cert.MixinRefIdeal.τ).loc Cert.MixinRefIdeal.main_arg5) = m ((c.tc : Thread Cert.MixinIdeal.nD Cert.MixinIdeal.τ).loc Cert.MixinIdeal.main_arg5)
    ∧ m' ((c.tc : Thread Cert.MixinRefIdeal.nD Cert.MixinRefIdeal.τ).loc Cert.MixinRefIdeal.main_arg6) = m ((c.tc : Thread Cert.MixinIdeal.nD Cert.MixinIdeal.τ).loc Cert.MixinIdeal.main_arg6)

variable {m m' c}

theorem hcol_eq (h : Agree m m' c) (p : Fin 8) (s : Fin 4096) : Cert.MixinRefIdeal.Stages.hcol (launchContents m' c) p s = hAt m c p s := by
  obtain ⟨h0, h1, h2, -⟩ := h
  show MixinMath.col (fun k => m' ((c.tc : Thread Cert.MixinRefIdeal.nD Cert.MixinRefIdeal.τ).loc Cert.MixinRefIdeal.main_arg0) (ix3 p s k))
    (fun k => m' ((c.tc : Thread Cert.MixinRefIdeal.nD Cert.MixinRefIdeal.τ).loc Cert.MixinRefIdeal.main_arg1) (ix2 p ⟨3072 + k.val, by omega⟩))
    (fun k => m' ((c.tc : Thread Cert.MixinRefIdeal.nD Cert.MixinRefIdeal.τ).loc Cert.MixinRefIdeal.main_arg1) (ix2 p ⟨4096 + k.val, by omega⟩))
    (fun k j => m' ((c.tc : Thread Cert.MixinRefIdeal.nD Cert.MixinRefIdeal.τ).loc Cert.MixinRefIdeal.main_arg2) (ix2 k j)) = _
  rw [h0, h1, h2]
  rfl
theorem ucol_eq (h : Agree m m' c) (p : Fin 8) (s : Fin 4096) : Cert.MixinRefIdeal.Stages.ucol (launchContents m' c) p s = uAt m c p s := by
  have e := hcol_eq h p s
  obtain ⟨-, -, -, h3, h4, -⟩ := h
  show MixinMath.up (Cert.MixinRefIdeal.Stages.hcol (launchContents m' c) p s)
    (fun k => m' ((c.tc : Thread Cert.MixinRefIdeal.nD Cert.MixinRefIdeal.τ).loc Cert.MixinRefIdeal.main_arg3) (ix1 k))
    (fun k j => m' ((c.tc : Thread Cert.MixinRefIdeal.nD Cert.MixinRefIdeal.τ).loc Cert.MixinRefIdeal.main_arg4) (ix2 k j)) = _
  rw [e, h3, h4]
  rfl
theorem co_eq (h : Agree m m' c) (s : Fin 4096) : Cert.MixinRefIdeal.Stages.co (launchContents m' c) s = coAt m c s := by
  obtain ⟨-, -, -, -, -, h5, -⟩ := h
  show MixinMath.past (fun d : Fin 32 => m' ((c.tc : Thread Cert.MixinRefIdeal.nD Cert.MixinRefIdeal.τ).loc Cert.MixinRefIdeal.main_arg5) (ix2 s d)) = _
  rw [h5]
  rfl
theorem si_eq (h : Agree m m' c) (s : Fin 4096) : Cert.MixinRefIdeal.Stages.si (launchContents m' c) s = siAt m c s := by
  obtain ⟨-, -, -, -, -, -, h6⟩ := h
  show MixinMath.past (fun d : Fin 32 => m' ((c.tc : Thread Cert.MixinRefIdeal.nD Cert.MixinRefIdeal.τ).loc Cert.MixinRefIdeal.main_arg6) (ix2 s d)) = _
  rw [h6]
  rfl

theorem qa_eq (h : Agree m m' c) : Cert.MixinRefIdeal.Stages.qa (launchContents m' c) = result11 m c := by
  funext i
  idx_vars i
  show _ = spec11 m c i0 i1 i2
  refine (Cert.MixinRefIdeal.Stages.qa_apply (launchContents m' c) i0 i1 i2).trans ?_
  rw [hcol_eq h, co_eq h, si_eq h]
  rw [spec11, show MixinMath.from_ (hAt m c i0 i2) 0 = hAt m c i0 i2 from funext fun n => congrArg _ (Nat.zero_add n)]
theorem qb_eq (h : Agree m m' c) : Cert.MixinRefIdeal.Stages.qb (launchContents m' c) = result12 m c := by
  funext i
  idx_vars i
  show _ = spec12 m c i0 i1 i2
  refine (Cert.MixinRefIdeal.Stages.qb_apply (launchContents m' c) i0 i1 i2).trans ?_
  rw [hcol_eq h, co_eq h, si_eq h]
  rfl
theorem qi_eq (h : Agree m m' c) : Cert.MixinRefIdeal.Stages.qi (launchContents m' c) = result13 m c := by
  funext i
  idx_vars i
  show _ = spec13 m c i0 i1 i2
  refine (Cert.MixinRefIdeal.Stages.qi_apply (launchContents m' c) i0 i1 i2).trans ?_
  rw [hcol_eq h, co_eq h, si_eq h]
  rfl
theorem va_eq (h : Agree m m' c) : Cert.MixinRefIdeal.Stages.va (launchContents m' c) = result14 m c := by
  funext i
  idx_vars i
  show _ = spec14 m c i0 i1 i2
  refine (Cert.MixinRefIdeal.Stages.va_apply (launchContents m' c) i0 i1 i2).trans ?_
  rw [ucol_eq h]
  rfl
theorem vs_eq (h : Agree m m' c) : Cert.MixinRefIdeal.Stages.vs (launchContents m' c) = result15 m c := by
  funext i
  idx_vars i
  show _ = spec15 m c i0 i1 i2
  refine (Cert.MixinRefIdeal.Stages.vs_apply (launchContents m' c) i0 i1 i2).trans ?_
  rw [hcol_eq h]
  rfl
theorem vw_eq (h : Agree m m' c) : Cert.MixinRefIdeal.Stages.vw (launchContents m' c) = result16 m c := by
  funext i
  idx_vars i
  show _ = spec16 m c i0 i1 i2
  refine (Cert.MixinRefIdeal.Stages.vw_apply (launchContents m' c) i0 i1 i2).trans ?_
  rw [hcol_eq h]
  rfl
theorem misc_eq (h : Agree m m' c) : Cert.MixinRefIdeal.Stages.misc (launchContents m' c) = result17 m c := by
  funext i
  idx_vars i
  show _ = spec17 m c i0 i1 i2
  refine (Cert.MixinRefIdeal.Stages.misc_apply (launchContents m' c) i0 i1 i2).trans ?_
  rw [hcol_eq h]
  rfl
theorem ka_eq (h : Agree m m' c) : Cert.MixinRefIdeal.Stages.ka (launchContents m' c) = result18 m c := by
  funext i
  idx_vars i
  show _ = spec18 m c i0 i1 i2
  refine (Cert.MixinRefIdeal.Stages.ka_apply (launchContents m' c) i0 i1 i2).trans ?_
  rw [ucol_eq h, co_eq h, si_eq h]
  rfl
theorem ki_eq (h : Agree m m' c) : Cert.MixinRefIdeal.Stages.ki (launchContents m' c) = result19 m c := by
  funext i
  idx_vars i
  show _ = spec19 m c i0 i1 i2
  refine (Cert.MixinRefIdeal.Stages.ki_apply (launchContents m' c) i0 i1 i2).trans ?_
  rw [hcol_eq h, co_eq h, si_eq h]
  rfl
theorem ks_eq (h : Agree m m' c) : Cert.MixinRefIdeal.Stages.ks (launchContents m' c) = result20 m c := by
  funext i
  idx_vars i
  show _ = spec20 m c i0 i1 i2 i3
  refine (Cert.MixinRefIdeal.Stages.ks_apply (launchContents m' c) i0 i1 i2 i3).trans ?_
  rw [hcol_eq h, co_eq h, si_eq h]
  rfl
theorem kw_eq (h : Agree m m' c) : Cert.MixinRefIdeal.Stages.kw (launchContents m' c) = result21 m c := by
  funext i
  idx_vars i
  show _ = spec21 m c i0 i1 i2 i3
  refine (Cert.MixinRefIdeal.Stages.kw_apply (launchContents m' c) i0 i1 i2 i3).trans ?_
  rw [hcol_eq h, co_eq h, si_eq h]
  rfl
theorem cmp_eq (h : Agree m m' c) : Cert.MixinRefIdeal.Stages.cmp (launchContents m' c) = result22 m c := by
  funext i
  idx_vars i
  show _ = spec22 m c i0 i1 i2
  refine (Cert.MixinRefIdeal.Stages.cmp_apply (launchContents m' c) i0 i1 i2).trans ?_
  rw [hcol_eq h, co_eq h, si_eq h]
  rfl

end Cert.MixinIdeal.Equation
end
-- ==== Proof.FfnMath.lean ====
/- The feed-forward sub-layer's mathematics, one row at a time and over the extended reals: the modulated row, the
   gated hidden value, the residual sum and the layer norm.  Both the kernel and the reference are shown to compute
   `rowOut`. -/
module

public import Idealize.ShloMosaic.PureOps.Ideal

@[expose] public section

noncomputable section

namespace Cert.FfnMath

open Idealize.ShloMosaic

/-- The layer norm of a row `y` of 1024 numbers with gain `g` and bias `b`; 1024 and the small constant under the root
    are the f32 constants both programs hold. -/
def layerNorm (y g b : Fin 1024 → EReal) (n : Fin 1024) : EReal :=
  (y n - Ideal.div (∑ k, y k) (Ideal.ofBits .f32 0x44800000#32)) *
      Ideal.rsqrt
        (Ideal.div
            (∑ k, (y k - Ideal.div (∑ j, y j) (Ideal.ofBits .f32 0x44800000#32)) *
              (y k - Ideal.div (∑ j, y j) (Ideal.ofBits .f32 0x44800000#32)))
            (Ideal.ofBits .f32 0x44800000#32) +
          Ideal.ofBits .f32 0x3727C5AC#32) *
      g n + b n

/-- The gated hidden value of a gate `a` and a value `v`. -/
def gated (a v : EReal) : EReal := a * Ideal.logistic a * v

/-- The residual sum at one column: the input `x` scaled by the constant, plus half the gate `gt` times the product `f`. -/
def resid (x gt f : EReal) : EReal :=
  Ideal.ofBits .f32 0x3F9837F0#32 * x + Ideal.ofBits .f32 0x3F000000#32 * gt * f

/-- One row of the sub-layer: input row `x`, shift `sh`, scale `sc`, gate `gt`, the two weight matrices (the first one's
    columns: 2816 gate columns, then 2816 value columns), gain `g`, bias `b`. -/
def rowOut (x sh sc gt : Fin 1024 → EReal) (wi : Fin 1024 → Fin 5632 → EReal) (wo : Fin 2816 → Fin 1024 → EReal)
    (g b : Fin 1024 → EReal) : Fin 1024 → EReal :=
  let u := fun k => x k * (1 + sc k) + sh k
  let z := fun j => ∑ k, u k * wi k j
  let f := fun n => ∑ j : Fin 2816, gated (z ⟨j.val, by omega⟩) (z ⟨2816 + j.val, by omega⟩) * wo j n
  layerNorm (fun n => resid (x n) (gt n) (f n)) g b

end Cert.FfnMath
end
-- ==== Proof.MergeMath.lean ====
/- The merge's mathematics, one row at a time and over the extended reals: the two mixers' projections under their gates,
   the residual sum and the layer norm.  Both the kernel and the reference are shown to compute `rowOut`. -/
module

public import proofs.«01_k».proof.Proof.FfnMath

@[expose] public section

noncomputable section

namespace Cert.MergeMath

open Idealize.ShloMosaic
open Cert.FfnMath (layerNorm)

/-- The two mixers' projections, each under its gate: `z` holds the first mixer's 1024 gate values, then the second's. -/
def gatedSum (z : Fin 2048 → EReal) (ya yb : Fin 512 → EReal) (wa wb : Fin 512 → Fin 1024 → EReal) (n : Fin 1024) : EReal :=
  Ideal.logistic (z ⟨n.val, by omega⟩) * (∑ f, ya f * wa f n) + Ideal.logistic (z ⟨1024 + n.val, by omega⟩) * (∑ f, yb f * wb f n)

/-- The residual sum at one column: the input `x` scaled by the constant, plus the gate `gt` times the product `f`. -/
def resid (x gt f : EReal) : EReal := Ideal.ofBits .f32 0x3F9837F0#32 * x + gt * f

/-- One row of the merge: input row `x`, shift `sh`, scale `sc`, gate `gt`, the mixers' rows `ya` and `yb`, the gates'
    weights `wg`, the mixers' weights `wa` and `wb`, the output weights `wo`, gain `g`, bias `b`. -/
def rowOut (x sh sc gt : Fin 1024 → EReal) (ya yb : Fin 512 → EReal) (wg : Fin 1024 → Fin 2048 → EReal)
    (wa wb : Fin 512 → Fin 1024 → EReal) (wo : Fin 1024 → Fin 1024 → EReal) (g b : Fin 1024 → EReal) : Fin 1024 → EReal :=
  let u := fun k => x k * (1 + sc k) + sh k
  let z := fun j => ∑ k, u k * wg k j
  let f := fun n => ∑ k, gatedSum z ya yb wa wb k * wo k n
  layerNorm (fun n => resid (x n) (gt n) (f n)) g b

end Cert.MergeMath
end
-- ==== Proof.MergeArray.lean ====
/- The merge kernel's result array as one function of its arguments: the block the body leaves read at an index, each
   window's block read off its array, each point's write-back as the row function, the write-backs covering the array,
   and the run with the array named. -/
module

public import proofs.«01_k».proof.Proof.Gen.MergeIdeal.Value
public import proofs.«01_k».proof.Proof.MergeMath
public import Idealize.ShloMosaic.Lib.Pointwise
public import Idealize.ShloMosaic.Lib.Tactic

@[expose] public section

set_option maxRecDepth 16384

noncomputable section

namespace Cert.MergeIdeal.Block

open Cert.MergeIdeal Cert.MergeIdeal.Gen Cert.MergeIdeal.Value Idealize.ShloMosaic Idealize.ShloMosaic.TcCoe Idealize.SL.Sem
open Cert.FfnMath (layerNorm)
open Cert.MergeMath (gatedSum rowOut)

/-! ## The block -/

theorem hz2 : (![0, 0] : Fin 2 → Nat) = fun _ => 0 := funext fun a => by fin_cases a <;> rfl
theorem hz3 : (![0, 0, 0] : Fin 3 → Nat) = fun _ => 0 := funext fun a => by fin_cases a <;> rfl

/-- The gates. -/
theorem gates_apply (x0 : Vec Ideal S1x512x1024 .f32) (x1 : Vec Ideal S1x9x1024 .f32) (x4 : Vec Ideal S1024x2048 .bf16) (r : Fin 512) (j : Fin 2048) :
    k0_pay4 (F := Ideal) x0 (View.ld x1 r0_1) (View.ld x1 r0_2) x4 (ix2 r j) =
      Ideal.logistic (∑ k, (x0 (ix3 0 r k) * (1 + x1 (ix3 0 4 k)) + x1 (ix3 0 3 k)) * x4 (ix2 k j)) := by
  unfold k0_pay4 k0_pay2
  pointwise

/-- The block the body leaves, row by row. -/
theorem block_apply (x0 : Vec Ideal S1x512x1024 .f32) (x1 : Vec Ideal S1x9x1024 .f32) (x2 x3 : Vec Ideal S1x512x512 .bf16)
    (x4 : Vec Ideal S1024x2048 .bf16) (x5 x6 : Vec Ideal S512x1024 .bf16) (x7 : Vec Ideal S1024x1024 .bf16) (x8 x9 : Vec Ideal S1x1024 .f32) (r : Fin 512) (n : Fin 1024) :
    out0_10 (F := Ideal) x0 x1 x2 x3 x4 x5 x6 x7 x8 x9 (ix3 0 r n) =
      rowOut (fun k => x0 (ix3 0 r k)) (fun k => x1 (ix3 0 3 k)) (fun k => x1 (ix3 0 4 k)) (fun k => x1 (ix3 0 5 k))
        (fun f => x2 (ix3 0 r f)) (fun f => x3 (ix3 0 r f)) (fun k j => x4 (ix2 k j)) (fun f n => x5 (ix2 f n)) (fun f n => x6 (ix2 f n))
        (fun k n => x7 (ix2 k n)) (fun k => x8 (ix2 0 k)) (fun k => x9 (ix2 0 k)) n := by
  unfold out0_10
  rw [View.canon_unit_zero hz3]
  simp only [View.ld_unit_zero (S := S1x512x1024) hz3, View.ld_unit_zero (S := S1x512x512) hz3, View.ld_unit_zero (S := S1024x2048) hz2,
    View.ld_unit_zero (S := S512x1024) hz2, View.ld_unit_zero (S := S1024x1024) hz2, View.ld_unit_zero (S := S1x1024) hz2]
  pointwise [k0_pay1, k0_pay2, k0_pay3, k0_pay5, k0_pay6, k0_pay7, k0_pay8]
  simp only [gates_apply]
  rfl

variable (m : (ℓ : Loc nD τ sig) → Buf (Elt Ideal) ℓ) (ρ : Dev nD → PrngReg)

/-! ## The host operations before the launch -/

theorem v0_apply (c : Dev nD) (p : Fin 8) (q : Fin 9) (k : Fin 1024) :
    V m c main_v0 (ix3 p q k) = (m ((c : Thread nD τ).loc main_arg1)) (ix2 p ⟨1024 * q.val + k.val, by omega⟩) := by
  rw [show V m c main_v0 = shapeCast S8x9x1024 (m ((c : Thread nD τ).loc main_arg1)) shapeCasts_S8x9216_S8x9x1024 from rfl]
  pointwise
  simp only [Nat.mul_comm q.val 1024]
theorem v1_apply (c : Dev nD) (k : Fin 1024) (j : Fin 2048) : V m c main_v1 (ix2 k j) = (m ((c : Thread nD τ).loc main_arg4)) (ix2 k j) := by
  rw [show V m c main_v1 = truncf (F := Ideal) .bf16 (m ((c : Thread nD τ).loc main_arg4)) bitsLt_bf16_f32 from rfl]
  pointwise
theorem v2_apply (c : Dev nD) (k : Fin 512) (j : Fin 1024) : V m c main_v2 (ix2 k j) = (m ((c : Thread nD τ).loc main_arg5)) (ix2 k j) := by
  rw [show V m c main_v2 = truncf (F := Ideal) .bf16 (m ((c : Thread nD τ).loc main_arg5)) bitsLt_bf16_f32 from rfl]
  pointwise
theorem v3_apply (c : Dev nD) (k : Fin 512) (j : Fin 1024) : V m c main_v3 (ix2 k j) = (m ((c : Thread nD τ).loc main_arg6)) (ix2 k j) := by
  rw [show V m c main_v3 = truncf (F := Ideal) .bf16 (m ((c : Thread nD τ).loc main_arg6)) bitsLt_bf16_f32 from rfl]
  pointwise
theorem v4_apply (c : Dev nD) (k : Fin 1024) (j : Fin 1024) : V m c main_v4 (ix2 k j) = (m ((c : Thread nD τ).loc main_arg7)) (ix2 k j) := by
  rw [show V m c main_v4 = truncf (F := Ideal) .bf16 (m ((c : Thread nD τ).loc main_arg7)) bitsLt_bf16_f32 from rfl]
  pointwise
theorem v5_apply (c : Dev nD) (k : Fin 1024) : V m c main_v5 (ix2 0 k) = (m ((c : Thread nD τ).loc main_arg8)) (ix1 k) := by
  rw [show V m c main_v5 = shapeCast S1x1024 (m ((c : Thread nD τ).loc main_arg8)) shapeCasts_S1024_S1x1024 from rfl]
  pointwise
theorem v6_apply (c : Dev nD) (k : Fin 1024) : V m c main_v6 (ix2 0 k) = (m ((c : Thread nD τ).loc main_arg9)) (ix1 k) := by
  rw [show V m c main_v6 = shapeCast S1x1024 (m ((c : Thread nD τ).loc main_arg9)) shapeCasts_S1024_S1x1024 from rfl]
  pointwise

/-! ## The windows' blocks -/

/-- Each window's block index at a point: the image and the row block of the point, or nothing. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem idx3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 3) = t.val / 8 ∧ win0_10.index t (1 : Fin 3) = t.val % 8 ∧ win0_10.index t (2 : Fin 3) = 0 :=
  (by decide +kernel : ∀ t : Fin grid0.N, _)

/-- The image of a point, and row `r` of its row block. -/
def img (t : Fin cfg0.N) : Fin 8 := ⟨t.val / 8, by have h : t.val < 64 := N_0 ▸ t.isLt; omega⟩
def row (t : Fin cfg0.N) (r : Fin 512) : Fin 4096 := ⟨t.val % 8 * 512 + r.val, by omega⟩

theorem emb0 (t : Fin cfg0.N) (j1 : Fin 512) (j2 : Fin 1024) :
    ((cfg0.win 0).blk t).view.emb (ix3 0 j1 j2) = ix3 (img t) (row t j1) j2 := by
  obtain ⟨e0, e1, e2⟩ := idx0 t
  funext a; apply Fin.ext
  match a with
  | ⟨0, _⟩ => show win0_0.index t (0 : Fin 3) * 1 + 1 * 0 = t.val / 8; omega
  | ⟨1, _⟩ => show win0_0.index t (1 : Fin 3) * 512 + 1 * j1.val = t.val % 8 * 512 + j1.val; omega
  | ⟨2, _⟩ => show win0_0.index t (2 : Fin 3) * 1024 + 1 * j2.val = j2.val; omega
theorem emb1 (t : Fin cfg0.N) (j1 : Fin 9) (j2 : Fin 1024) :
    ((cfg0.win 1).blk t).view.emb (ix3 0 j1 j2) = ix3 (img t) j1 j2 := by
  obtain ⟨e0, e1, e2⟩ := idx1 t
  funext a; apply Fin.ext
  match a with
  | ⟨0, _⟩ => show win0_1.index t (0 : Fin 3) * 1 + 1 * 0 = t.val / 8; omega
  | ⟨1, _⟩ => show win0_1.index t (1 : Fin 3) * 9 + 1 * j1.val = j1.val; omega
  | ⟨2, _⟩ => show win0_1.index t (2 : Fin 3) * 1024 + 1 * j2.val = j2.val; omega
theorem emb2 (t : Fin cfg0.N) (j1 : Fin 512) (j2 : Fin 512) :
    ((cfg0.win 2).blk t).view.emb (ix3 0 j1 j2) = ix3 (img t) (row t j1) j2 := by
  obtain ⟨e0, e1, e2⟩ := idx2 t
  funext a; apply Fin.ext
  match a with
  | ⟨0, _⟩ => show win0_2.index t (0 : Fin 3) * 1 + 1 * 0 = t.val / 8; omega
  | ⟨1, _⟩ => show win0_2.index t (1 : Fin 3) * 512 + 1 * j1.val = t.val % 8 * 512 + j1.val; omega
  | ⟨2, _⟩ => show win0_2.index t (2 : Fin 3) * 512 + 1 * j2.val = j2.val; omega
theorem emb3 (t : Fin cfg0.N) (j1 : Fin 512) (j2 : Fin 512) :
    ((cfg0.win 3).blk t).view.emb (ix3 0 j1 j2) = ix3 (img t) (row t j1) j2 := by
  obtain ⟨e0, e1, e2⟩ := idx3 t
  funext a; apply Fin.ext
  match a with
  | ⟨0, _⟩ => show win0_3.index t (0 : Fin 3) * 1 + 1 * 0 = t.val / 8; omega
  | ⟨1, _⟩ => show win0_3.index t (1 : Fin 3) * 512 + 1 * j1.val = t.val % 8 * 512 + j1.val; omega
  | ⟨2, _⟩ => show win0_3.index t (2 : Fin 3) * 512 + 1 * j2.val = j2.val; omega
theorem emb4 (t : Fin cfg0.N) (j0 : Fin 1024) (j1 : Fin 2048) :
    ((cfg0.win 4).blk t).view.emb (ix2 j0 j1) = ix2 j0 j1 := by
  obtain ⟨e0, e1⟩ := idx4 t
  funext a; apply Fin.ext
  match a with
  | ⟨0, _⟩ => show win0_4.index t (0 : Fin 2) * 1024 + 1 * j0.val = j0.val; omega
  | ⟨1, _⟩ => show win0_4.index t (1 : Fin 2) * 2048 + 1 * j1.val = j1.val; omega
theorem emb5 (t : Fin cfg0.N) (j0 : Fin 512) (j1 : Fin 1024) :
    ((cfg0.win 5).blk t).view.emb (ix2 j0 j1) = ix2 j0 j1 := by
  obtain ⟨e0, e1⟩ := idx5 t
  funext a; apply Fin.ext
  match a with
  | ⟨0, _⟩ => show win0_5.index t (0 : Fin 2) * 512 + 1 * j0.val = j0.val; omega
  | ⟨1, _⟩ => show win0_5.index t (1 : Fin 2) * 1024 + 1 * j1.val = j1.val; omega
theorem emb6 (t : Fin cfg0.N) (j0 : Fin 512) (j1 : Fin 1024) :
    ((cfg0.win 6).blk t).view.emb (ix2 j0 j1) = ix2 j0 j1 := by
  obtain ⟨e0, e1⟩ := idx6 t
  funext a; apply Fin.ext
  match a with
  | ⟨0, _⟩ => show win0_6.index t (0 : Fin 2) * 512 + 1 * j0.val = j0.val; omega
  | ⟨1, _⟩ => show win0_6.index t (1 : Fin 2) * 1024 + 1 * j1.val = j1.val; omega
theorem emb7 (t : Fin cfg0.N) (j0 : Fin 1024) (j1 : Fin 1024) :
    ((cfg0.win 7).blk t).view.emb (ix2 j0 j1) = ix2 j0 j1 := by
  obtain ⟨e0, e1⟩ := idx7 t
  funext a; apply Fin.ext
  match a with
  | ⟨0, _⟩ => show win0_7.index t (0 : Fin 2) * 1024 + 1 * j0.val = j0.val; omega
  | ⟨1, _⟩ => show win0_7.index t (1 : Fin 2) * 1024 + 1 * j1.val = j1.val; omega
theorem emb8 (t : Fin cfg0.N) (j1 : Fin 1024) :
    ((cfg0.win 8).blk t).view.emb (ix2 0 j1) = ix2 0 j1 := by
  obtain ⟨e0, e1⟩ := idx8 t
  funext a; apply Fin.ext
  match a with
  | ⟨0, _⟩ => show win0_8.index t (0 : Fin 2) * 1 + 1 * 0 = 0; omega
  | ⟨1, _⟩ => show win0_8.index t (1 : Fin 2) * 1024 + 1 * j1.val = j1.val; omega
theorem emb9 (t : Fin cfg0.N) (j1 : Fin 1024) :
    ((cfg0.win 9).blk t).view.emb (ix2 0 j1) = ix2 0 j1 := by
  obtain ⟨e0, e1⟩ := idx9 t
  funext a; apply Fin.ext
  match a with
  | ⟨0, _⟩ => show win0_9.index t (0 : Fin 2) * 1 + 1 * 0 = 0; omega
  | ⟨1, _⟩ => show win0_9.index t (1 : Fin 2) * 1024 + 1 * j1.val = j1.val; omega
theorem emb10 (t : Fin cfg0.N) (j1 : Fin 512) (j2 : Fin 1024) :
    ((cfg0.win 10).blk t).view.emb (ix3 0 j1 j2) = ix3 (img t) (row t j1) j2 := by
  obtain ⟨e0, e1, e2⟩ := idx10 t
  funext a; apply Fin.ext
  match a with
  | ⟨0, _⟩ => show win0_10.index t (0 : Fin 3) * 1 + 1 * 0 = t.val / 8; omega
  | ⟨1, _⟩ => show win0_10.index t (1 : Fin 3) * 512 + 1 * j1.val = t.val % 8 * 512 + j1.val; omega
  | ⟨2, _⟩ => show win0_10.index t (2 : Fin 3) * 1024 + 1 * j2.val = j2.val; omega

theorem iblk0_apply (c : Dev nD) (t : Fin cfg0.N) (r : Fin 512) (n : Fin 1024) :
    iblk m c 0 t (ix3 0 r n) = (m ((c : Thread nD τ).loc main_arg0)) (ix3 (img t) (row t r) n) := by
  show V m c main_arg0 (((cfg0.win 0).blk t).view.emb (ix3 0 r n)) = _; rw [emb0, V_main_arg0]
theorem iblk2_apply (c : Dev nD) (t : Fin cfg0.N) (r : Fin 512) (n : Fin 512) :
    iblk m c 2 t (ix3 0 r n) = (m ((c : Thread nD τ).loc main_arg2)) (ix3 (img t) (row t r) n) := by
  show V m c main_arg2 (((cfg0.win 2).blk t).view.emb (ix3 0 r n)) = _; rw [emb2, V_main_arg2]
theorem iblk3_apply (c : Dev nD) (t : Fin cfg0.N) (r : Fin 512) (n : Fin 512) :
    iblk m c 3 t (ix3 0 r n) = (m ((c : Thread nD τ).loc main_arg3)) (ix3 (img t) (row t r) n) := by
  show V m c main_arg3 (((cfg0.win 3).blk t).view.emb (ix3 0 r n)) = _; rw [emb3, V_main_arg3]
theorem iblk1_apply (c : Dev nD) (t : Fin cfg0.N) (q : Fin 9) (n : Fin 1024) :
    iblk m c 1 t (ix3 0 q n) = (m ((c : Thread nD τ).loc main_arg1)) (ix2 (img t) ⟨1024 * q.val + n.val, by omega⟩) := by
  show V m c main_v0 (((cfg0.win 1).blk t).view.emb (ix3 0 q n)) = _; rw [emb1, v0_apply]
theorem iblk4_apply (c : Dev nD) (t : Fin cfg0.N) (k : Fin 1024) (j : Fin 2048) :
    iblk m c 4 t (ix2 k j) = (m ((c : Thread nD τ).loc main_arg4)) (ix2 k j) := by
  show V m c main_v1 (((cfg0.win 4).blk t).view.emb (ix2 k j)) = _; rw [emb4, v1_apply]
theorem iblk5_apply (c : Dev nD) (t : Fin cfg0.N) (k : Fin 512) (j : Fin 1024) :
    iblk m c 5 t (ix2 k j) = (m ((c : Thread nD τ).loc main_arg5)) (ix2 k j) := by
  show V m c main_v2 (((cfg0.win 5).blk t).view.emb (ix2 k j)) = _; rw [emb5, v2_apply]
theorem iblk6_apply (c : Dev nD) (t : Fin cfg0.N) (k : Fin 512) (j : Fin 1024) :
    iblk m c 6 t (ix2 k j) = (m ((c : Thread nD τ).loc main_arg6)) (ix2 k j) := by
  show V m c main_v3 (((cfg0.win 6).blk t).view.emb (ix2 k j)) = _; rw [emb6, v3_apply]
theorem iblk7_apply (c : Dev nD) (t : Fin cfg0.N) (k : Fin 1024) (j : Fin 1024) :
    iblk m c 7 t (ix2 k j) = (m ((c : Thread nD τ).loc main_arg7)) (ix2 k j) := by
  show V m c main_v4 (((cfg0.win 7).blk t).view.emb (ix2 k j)) = _; rw [emb7, v4_apply]
theorem iblk8_apply (c : Dev nD) (t : Fin cfg0.N) (j : Fin 1024) :
    iblk m c 8 t (ix2 0 j) = (m ((c : Thread nD τ).loc main_arg8)) (ix1 j) := by
  show V m c main_v5 (((cfg0.win 8).blk t).view.emb (ix2 0 j)) = _; rw [emb8, v5_apply]
theorem iblk9_apply (c : Dev nD) (t : Fin cfg0.N) (j : Fin 1024) :
    iblk m c 9 t (ix2 0 j) = (m ((c : Thread nD τ).loc main_arg9)) (ix1 j) := by
  show V m c main_v6 (((cfg0.win 9).blk t).view.emb (ix2 0 j)) = _; rw [emb9, v6_apply]

/-! ## The result array -/

/-- The row function of whole arrays: image `p`, position `s`. -/
def rowAt (x : FVec Ideal S8x4096x1024 .f32) (md : FVec Ideal S8x9216 .f32) (ya yb : FVec Ideal S8x4096x512 .bf16)
    (wg : FVec Ideal S1024x2048 .f32) (wa wb : FVec Ideal S512x1024 .f32) (wo : FVec Ideal S1024x1024 .f32)
    (g b : FVec Ideal S1024 .f32) (p : Fin 8) (s : Fin 4096) : Fin 1024 → EReal :=
  rowOut (fun k => x (ix3 p s k)) (fun k => md (ix2 p ⟨3072 + k.val, by omega⟩)) (fun k => md (ix2 p ⟨4096 + k.val, by omega⟩))
    (fun k => md (ix2 p ⟨5120 + k.val, by omega⟩)) (fun f => ya (ix3 p s f)) (fun f => yb (ix3 p s f))
    (fun k j => wg (ix2 k j)) (fun f n => wa (ix2 f n)) (fun f n => wb (ix2 f n)) (fun k n => wo (ix2 k n))
    (fun k => g (ix1 k)) (fun k => b (ix1 k))

/-- The result array of device `c`'s arguments. -/
def result (c : Dev nD) : Buf (Elt Ideal) ((c : Thread nD τ).loc main_v7) := fun i =>
  rowAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (i 1) (i 2)

/-- What a point writes back is its block of the result. -/
theorem flushed_eq (c : Dev nD) (t : Fin cfg0.N) :
    (dats m 0 c).flushed 10 t = ((cfg0.win 10).blk t).view.read (Elt Ideal) (result m c) := by
  rw [flushed10]
  funext j
  show out0_10 (F := Ideal) _ _ _ _ _ _ _ _ _ _ j = result m c (((cfg0.win 10).blk t).view.emb j)
  idx_vars j
  obtain rfl : j0 = 0 := Subsingleton.elim _ _
  show _ = result m c (((cfg0.win 10).blk t).view.emb (ix3 0 j1 j2))
  rw [emb10, block_apply]
  simp only [iblk0_apply, iblk1_apply, iblk2_apply, iblk3_apply, iblk4_apply, iblk5_apply, iblk6_apply, iblk7_apply, iblk8_apply, iblk9_apply]
  rfl

/-- Every index of the result array is in some point's block. -/
theorem cover (i : S8x4096x1024.Idx) :
    ∃ t : Fin cfg0.N, (cfg0.win 10).flush t = true ∧ i ∈ ((cfg0.win 10).blk t).view.set := by
  have hN : cfg0.N = 64 := N_0
  obtain ⟨i0, i1, i2, rfl⟩ : ∃ (i0 : Fin 8) (i1 : Fin 4096) (i2 : Fin 1024), i = ix3 i0 i1 i2 :=
    ⟨i 0, i 1, i 2, funext fun a => by match a with | ⟨0, _⟩ => rfl | ⟨1, _⟩ => rfl | ⟨2, _⟩ => rfl⟩
  have ht : i0.val * 8 + i1.val / 512 < cfg0.N := by rw [hN]; omega
  refine ⟨⟨i0.val * 8 + i1.val / 512, ht⟩, flush0_10 _, ?_⟩
  have e : ix3 i0 i1 i2 = ((cfg0.win 10).blk ⟨i0.val * 8 + i1.val / 512, ht⟩).view.emb (ix3 0 ⟨i1.val % 512, by omega⟩ i2) := by
    rw [emb10]
    funext a; apply Fin.ext
    match a with
    | ⟨0, _⟩ => show i0.val = (i0.val * 8 + i1.val / 512) / 8; omega
    | ⟨1, _⟩ => show i1.val = (i0.val * 8 + i1.val / 512) % 8 * 512 + i1.val % 512; omega
    | ⟨2, _⟩ => rfl
  rw [e]
  exact ((cfg0.win 10).blk ⟨i0.val * 8 + i1.val / 512, ht⟩).view.emb_mem_set _

/-- The result array after the run. -/
theorem final (c : Dev nD) : (dats m 0 c).arrAt 10 cfg0.N = result m c :=
  (dats m 0 c).arrAt_eq_of_cover 10 (result m c) (fun t _ => flushed_eq m c t) cover

/-- The run, its result array named and its arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.MergeIdeal.Block
end
-- ==== Proof.MergeRefValue.lean ====
/- The merge's reference program, read at an index.  Its one composed term is cut into four named stages (the modulated
   input, the gates' product, the residual sum, the layer norm) and each stage is read at an index as the row function
   of `MergeMath`. -/
module

public import proofs.«01_k».proof.Proof.Gen.MergeRefIdeal.Run
public import proofs.«01_k».proof.Proof.MergeMath
public import Idealize.ShloMosaic.Lib.Pointwise

@[expose] public section

set_option maxRecDepth 16384

noncomputable section

namespace Cert.MergeRefIdeal.Stages

open Cert.MergeRefIdeal Cert.MergeRefIdeal.Gen Idealize.ShloMosaic Idealize.ShloMosaic.TcCoe Idealize.SL.Sem
open Cert.FfnMath (layerNorm)
open Cert.MergeMath (gatedSum rowOut)

variable {F : FTy → Type} [FloatOps F]

/-- The input under its scale and shift. -/
def modu (x : FVec F S8x4096x1024 .f32) (md : FVec F S8x9216 .f32) : FVec F S8x4096x1024 .f32 :=
  addf (mulf x (broadcastInDim S8x4096x1024 ![0, 1, 2] bcast_S8x1x1024_S8x4096x1024_0_1_2 (addf (broadcastInDim
    S8x1x1024 ![] bcast_S_S8x1x1024 (constant S_ .f32 0x3F800000#32)) (broadcastInDim S8x1x1024 ![0, 2]
    bcast_S8x1024_S8x1x1024_0_2 (extractStridedSlice S8x1024 ![0, 1024] (extractStridedSlice S8x3072 ![0, 3072] md
    slices_S8x9216_S8x3072_0_3072) slices_S8x3072_S8x1024_0_1024))))) (broadcastInDim S8x4096x1024 ![0, 1, 2]
    bcast_S8x1x1024_S8x4096x1024_0_1_2 (broadcastInDim S8x1x1024 ![0, 2] bcast_S8x1024_S8x1x1024_0_2
    (extractStridedSlice S8x1024 ![0, 0] (extractStridedSlice S8x3072 ![0, 3072] md slices_S8x9216_S8x3072_0_3072)
    slices_S8x3072_S8x1024_0_0)))

/-- The gates' product, both mixers' columns side by side. -/
def prod (u : FVec F S8x4096x1024 .f32) (wg : FVec F S1024x2048 .f32) : FVec F S8x4096x2048 .f32 :=
  Host.dotGeneral dot_S8x4096x1024_S1024x2048_S8x4096x2048_2_0_01_1_n_n none u wg

/-- The residual sum: the scaled input plus the gate times the output product of the gated mixers. -/
def resid (x : FVec F S8x4096x1024 .f32) (md : FVec F S8x9216 .f32) (ya yb : FVec F S8x4096x512 .bf16)
    (z : FVec F S8x4096x2048 .f32) (wa wb : FVec F S512x1024 .f32) (wo : FVec F S1024x1024 .f32) :
    FVec F S8x4096x1024 .f32 :=
  addf (mulf (broadcastInDim S8x4096x1024 ![] bcast_S_S8x4096x1024 (constant S_ .f32 0x3F9837F0#32)) x) (mulf
    (broadcastInDim S8x4096x1024 ![0, 1, 2] bcast_S8x1x1024_S8x4096x1024_0_1_2 (broadcastInDim S8x1x1024 ![0, 2]
    bcast_S8x1024_S8x1x1024_0_2 (extractStridedSlice S8x1024 ![0, 2048] (extractStridedSlice S8x3072 ![0, 3072] md
    slices_S8x9216_S8x3072_0_3072) slices_S8x3072_S8x1024_0_2048))) (Host.dotGeneral
    dot_S8x4096x1024_S1024x1024_S8x4096x1024_2_0_01_1_n_n none (addf (mulf (extractStridedSlice S8x4096x1024 ![0, 0,
    0] (Host.divf (broadcastInDim S8x4096x2048 ![] bcast_S_S8x4096x2048 (constant S_ .f32 0x3F800000#32)) (addf
    (broadcastInDim S8x4096x2048 ![] bcast_S_S8x4096x2048 (constant S_ .f32 0x3F800000#32)) (Host.exp (Host.negf z))))
    slices_S8x4096x2048_S8x4096x1024_0_0_0) (Host.dotGeneral dot_S8x4096x512_S512x1024_S8x4096x1024_2_0_01_1_n_n none
    (extf .f32 ya bitsLt_bf16_f32) wa)) (mulf (extractStridedSlice S8x4096x1024 ![0, 0, 1024] (Host.divf
    (broadcastInDim S8x4096x2048 ![] bcast_S_S8x4096x2048 (constant S_ .f32 0x3F800000#32)) (addf (broadcastInDim
    S8x4096x2048 ![] bcast_S_S8x4096x2048 (constant S_ .f32 0x3F800000#32)) (Host.exp (Host.negf z))))
    slices_S8x4096x2048_S8x4096x1024_0_0_1024) (Host.dotGeneral dot_S8x4096x512_S512x1024_S8x4096x1024_2_0_01_1_n_n
    none (extf .f32 yb bitsLt_bf16_f32) wb))) wo))

/-- The layer norm over the last axis. -/
def norm (y : FVec F S8x4096x1024 .f32) (g b : FVec F S1024 .f32) : FVec F S8x4096x1024 .f32 :=
  addf (mulf (mulf (subf y (broadcastInDim S8x4096x1024 ![0, 1, 2] bcast_S8x4096x1_S8x4096x1024_0_1_2 (Host.divf
    (broadcastInDim S8x4096x1 ![0, 1] bcast_S8x4096_S8x4096x1_0_1 (Host.reduceAdd y (constant S_ .f32 0x00000000#32)
    reducesTo_S8x4096x1024_S8x4096_d2 h_S_)) (broadcastInDim S8x4096x1 ![] bcast_S_S8x4096x1 (constant S_ .f32
    0x44800000#32))))) (broadcastInDim S8x4096x1024 ![0, 1, 2] bcast_S8x4096x1_S8x4096x1024_0_1_2 (Host.rsqrt (addf
    (Host.divf (broadcastInDim S8x4096x1 ![0, 1] bcast_S8x4096_S8x4096x1_0_1 (Host.reduceAdd (mulf (subf y
    (broadcastInDim S8x4096x1024 ![0, 1, 2] bcast_S8x4096x1_S8x4096x1024_0_1_2 (Host.divf (broadcastInDim S8x4096x1
    ![0, 1] bcast_S8x4096_S8x4096x1_0_1 (Host.reduceAdd y (constant S_ .f32 0x00000000#32)
    reducesTo_S8x4096x1024_S8x4096_d2 h_S_)) (broadcastInDim S8x4096x1 ![] bcast_S_S8x4096x1 (constant S_ .f32
    0x44800000#32))))) (subf y (broadcastInDim S8x4096x1024 ![0, 1, 2] bcast_S8x4096x1_S8x4096x1024_0_1_2 (Host.divf
    (broadcastInDim S8x4096x1 ![0, 1] bcast_S8x4096_S8x4096x1_0_1 (Host.reduceAdd y (constant S_ .f32 0x00000000#32)
    reducesTo_S8x4096x1024_S8x4096_d2 h_S_)) (broadcastInDim S8x4096x1 ![] bcast_S_S8x4096x1 (constant S_ .f32
    0x44800000#32)))))) (constant S_ .f32 0x00000000#32) reducesTo_S8x4096x1024_S8x4096_d2 h_S_)) (broadcastInDim
    S8x4096x1 ![] bcast_S_S8x4096x1 (constant S_ .f32 0x44800000#32))) (broadcastInDim S8x4096x1 ![] bcast_S_S8x4096x1
    (constant S_ .f32 0x3727C5AC#32)))))) (broadcastInDim S8x4096x1024 ![0, 1, 2] bcast_S1x1x1024_S8x4096x1024_0_1_2
    (broadcastInDim S1x1x1024 ![2] bcast_S1024_S1x1x1024_2 g))) (broadcastInDim S8x4096x1024 ![0, 1, 2]
    bcast_S1x1x1024_S8x4096x1024_0_1_2 (broadcastInDim S1x1x1024 ![2] bcast_S1024_S1x1x1024_2 b))

set_option maxHeartbeats 4000000 in
/-- The reference's result is the four stages composed. -/
theorem res_eq (m : (ℓ : Loc nD τ sig) → Buf (Elt F) ℓ) (c : Dev nD) :
    Value.res_main_v58 m c =
      norm (resid (m ((c.tc : Thread nD τ).loc main_arg0)) (m ((c.tc : Thread nD τ).loc main_arg1)) (m ((c.tc : Thread nD τ).loc main_arg2)) (m ((c.tc : Thread nD τ).loc main_arg3))
          (prod (modu (m ((c.tc : Thread nD τ).loc main_arg0)) (m ((c.tc : Thread nD τ).loc main_arg1))) (m ((c.tc : Thread nD τ).loc main_arg4)))
          (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9)) := rfl

theorem modu_apply (x : FVec Ideal S8x4096x1024 .f32) (md : FVec Ideal S8x9216 .f32) (p : Fin 8) (s : Fin 4096)
    (k : Fin 1024) : modu x md (ix3 p s k) =
      x (ix3 p s k) * (1 + md (ix2 p ⟨4096 + k.val, by omega⟩)) + md (ix2 p ⟨3072 + k.val, by omega⟩) := by
  pointwise [modu]
  have e : 3072 + (1024 + k.val) = 4096 + k.val := by omega
  simp only [e]

theorem prod_apply (u : FVec Ideal S8x4096x1024 .f32) (wg : FVec Ideal S1024x2048 .f32) (p : Fin 8) (s : Fin 4096)
    (f : Fin 2048) : prod u wg (ix3 p s f) = ∑ k, u (ix3 p s k) * wg (ix2 k f) := by
  pointwise [prod]

theorem resid_apply (x : FVec Ideal S8x4096x1024 .f32) (md : FVec Ideal S8x9216 .f32) (ya yb : FVec Ideal S8x4096x512 .bf16)
    (z : FVec Ideal S8x4096x2048 .f32) (wa wb : FVec Ideal S512x1024 .f32) (wo : FVec Ideal S1024x1024 .f32)
    (p : Fin 8) (s : Fin 4096) (n : Fin 1024) :
    resid x md ya yb z wa wb wo (ix3 p s n) =
      MergeMath.resid (x (ix3 p s n)) (md (ix2 p ⟨5120 + n.val, by omega⟩))
        (∑ k, gatedSum (fun j => z (ix3 p s j)) (fun f => ya (ix3 p s f)) (fun f => yb (ix3 p s f))
          (fun f n => wa (ix2 f n)) (fun f n => wb (ix2 f n)) k * wo (ix2 k n)) := by
  pointwise [resid]
  have e : 3072 + (2048 + n.val) = 5120 + n.val := by omega
  simp only [e]
  rfl

theorem norm_apply (y : FVec Ideal S8x4096x1024 .f32) (g b : FVec Ideal S1024 .f32) (p : Fin 8) (s : Fin 4096) (n : Fin 1024) :
    norm y g b (ix3 p s n) = layerNorm (fun k => y (ix3 p s k)) (fun k => g (ix1 k)) (fun k => b (ix1 k)) n := by
  pointwise [norm]
  rfl

/-- The row function of whole arrays: image `p`, position `s`. -/
def rowAt (x : FVec Ideal S8x4096x1024 .f32) (md : FVec Ideal S8x9216 .f32) (ya yb : FVec Ideal S8x4096x512 .bf16)
    (wg : FVec Ideal S1024x2048 .f32) (wa wb : FVec Ideal S512x1024 .f32) (wo : FVec Ideal S1024x1024 .f32)
    (g b : FVec Ideal S1024 .f32) (p : Fin 8) (s : Fin 4096) : Fin 1024 → EReal :=
  rowOut (fun k => x (ix3 p s k)) (fun k => md (ix2 p ⟨3072 + k.val, by omega⟩)) (fun k => md (ix2 p ⟨4096 + k.val, by omega⟩))
    (fun k => md (ix2 p ⟨5120 + k.val, by omega⟩)) (fun f => ya (ix3 p s f)) (fun f => yb (ix3 p s f))
    (fun k j => wg (ix2 k j)) (fun f n => wa (ix2 f n)) (fun f n => wb (ix2 f n)) (fun k n => wo (ix2 k n))
    (fun k => g (ix1 k)) (fun k => b (ix1 k))

/-- The reference's result at an index is the row function there. -/
theorem res_apply (m : (ℓ : Loc nD τ sig) → Buf (Elt Ideal) ℓ) (c : Dev nD) (p : Fin 8) (s : Fin 4096) (n : Fin 1024) :
    Value.res_main_v58 m c (ix3 p s n) =
      rowAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) p s n := by
  rw [res_eq, norm_apply]
  simp only [resid_apply, prod_apply, modu_apply]
  rfl

end Cert.MergeRefIdeal.Stages
end
-- ==== Proof.FfnBlock.lean ====
/- The feed-forward kernel's body at one grid point: the column chunks it accumulates and the layer norm it ends in, as the
   block of rows it leaves in its result window. -/
module

public import proofs.«01_k».proof.Proof.Gen.FfnIdeal.Value
public import Idealize.ShloMosaic.Lib.Pipeline.Value
public import Idealize.ShloMosaic.Lib.Tactic

@[expose] public section

set_option maxRecDepth 16384

noncomputable section

namespace Cert.FfnIdeal.Block

open Cert.FfnIdeal Cert.FfnIdeal.Gen Idealize.ShloMosaic Idealize.ShloMosaic.TcCoe Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The modulated input the body keeps: the block times one plus the scale row, plus the shift row. -/
def mod (x0 : Vec F S1x512x1024 .f32) (x1 : Vec F S1x9x1024 .f32) : FVec F S512x1024 .bf16 :=
  k0_pay4 x0 (View.ld x1 (Rect.unit (s := S1x9x1024) ![0, 6, 0] ![1, 1, 1024] inb_S1x9x1024_S1x1x1024_0_6_0))
    (View.ld x1 (Rect.unit (s := S1x9x1024) ![0, 7, 0] ![1, 1, 1024] inb_S1x9x1024_S1x1x1024_0_7_0))

/-- One chunk of 256 hidden features: the gated product of the two halves, times its rows of the output weights. -/
def chunk (u : FVec F S512x1024 .bf16) (wa wb : Vec F S1024x256 .bf16) (wo : Vec F S256x1024 .bf16) : FVec F S512x1024 .f32 :=
  matmul dot_S512x256_S256x1024_S512x1024_1_0_0_1_n_n none
    (truncf .bf16
      (mulf (mulf (matmul dot_S512x1024_S1024x256_S512x256_1_0_0_1_n_n none u wa (constant S512x256 .f32 0x00000000#32))
          (logistic (matmul dot_S512x1024_S1024x256_S512x256_1_0_0_1_n_n none u wa (constant S512x256 .f32 0x00000000#32))))
        (matmul dot_S512x1024_S1024x256_S512x256_1_0_0_1_n_n none u wb (constant S512x256 .f32 0x00000000#32)))
      bitsLt_bf16_f32) wo (constant S512x1024 .f32 0x00000000#32)

/-- Chunk 0. -/
def chunk0 (u : FVec F S512x1024 .bf16) (x2 : Vec F S1024x5632 .bf16) (x3 : Vec F S2816x1024 .bf16) : FVec F S512x1024 .f32 :=
  chunk u (View.ld x2 (Rect.unit (s := S1024x5632) ![0, 0] ![1024, 256] inb_S1024x5632_S1024x256_0_0))
    (View.ld x2 (Rect.unit (s := S1024x5632) ![0, 2816] ![1024, 256] inb_S1024x5632_S1024x256_0_2816))
    (View.ld x3 (Rect.unit (s := S2816x1024) ![0, 0] ![256, 1024] inb_S2816x1024_S256x1024_0_0))
/-- Chunk 1. -/
def chunk1 (u : FVec F S512x1024 .bf16) (x2 : Vec F S1024x5632 .bf16) (x3 : Vec F S2816x1024 .bf16) : FVec F S512x1024 .f32 :=
  chunk u (View.ld x2 (Rect.unit (s := S1024x5632) ![0, 256] ![1024, 256] inb_S1024x5632_S1024x256_0_256))
    (View.ld x2 (Rect.unit (s := S1024x5632) ![0, 3072] ![1024, 256] inb_S1024x5632_S1024x256_0_3072))
    (View.ld x3 (Rect.unit (s := S2816x1024) ![256, 0] ![256, 1024] inb_S2816x1024_S256x1024_256_0))
/-- Chunk 2. -/
def chunk2 (u : FVec F S512x1024 .bf16) (x2 : Vec F S1024x5632 .bf16) (x3 : Vec F S2816x1024 .bf16) : FVec F S512x1024 .f32 :=
  chunk u (View.ld x2 (Rect.unit (s := S1024x5632) ![0, 512] ![1024, 256] inb_S1024x5632_S1024x256_0_512))
    (View.ld x2 (Rect.unit (s := S1024x5632) ![0, 3328] ![1024, 256] inb_S1024x5632_S1024x256_0_3328))
    (View.ld x3 (Rect.unit (s := S2816x1024) ![512, 0] ![256, 1024] inb_S2816x1024_S256x1024_512_0))
/-- Chunk 3. -/
def chunk3 (u : FVec F S512x1024 .bf16) (x2 : Vec F S1024x5632 .bf16) (x3 : Vec F S2816x1024 .bf16) : FVec F S512x1024 .f32 :=
  chunk u (View.ld x2 (Rect.unit (s := S1024x5632) ![0, 768] ![1024, 256] inb_S1024x5632_S1024x256_0_768))
    (View.ld x2 (Rect.unit (s := S1024x5632) ![0, 3584] ![1024, 256] inb_S1024x5632_S1024x256_0_3584))
    (View.ld x3 (Rect.unit (s := S2816x1024) ![768, 0] ![256, 1024] inb_S2816x1024_S256x1024_768_0))
/-- Chunk 4. -/
def chunk4 (u : FVec F S512x1024 .bf16) (x2 : Vec F S1024x5632 .bf16) (x3 : Vec F S2816x1024 .bf16) : FVec F S512x1024 .f32 :=
  chunk u (View.ld x2 (Rect.unit (s := S1024x5632) ![0, 1024] ![1024, 256] inb_S1024x5632_S1024x256_0_1024))
    (View.ld x2 (Rect.unit (s := S1024x5632) ![0, 3840] ![1024, 256] inb_S1024x5632_S1024x256_0_3840))
    (View.ld x3 (Rect.unit (s := S2816x1024) ![1024, 0] ![256, 1024] inb_S2816x1024_S256x1024_1024_0))
/-- Chunk 5. -/
def chunk5 (u : FVec F S512x1024 .bf16) (x2 : Vec F S1024x5632 .bf16) (x3 : Vec F S2816x1024 .bf16) : FVec F S512x1024 .f32 :=
  chunk u (View.ld x2 (Rect.unit (s := S1024x5632) ![0, 1280] ![1024, 256] inb_S1024x5632_S1024x256_0_1280))
    (View.ld x2 (Rect.unit (s := S1024x5632) ![0, 4096] ![1024, 256] inb_S1024x5632_S1024x256_0_4096))
    (View.ld x3 (Rect.unit (s := S2816x1024) ![1280, 0] ![256, 1024] inb_S2816x1024_S256x1024_1280_0))
/-- Chunk 6. -/
def chunk6 (u : FVec F S512x1024 .bf16) (x2 : Vec F S1024x5632 .bf16) (x3 : Vec F S2816x1024 .bf16) : FVec F S512x1024 .f32 :=
  chunk u (View.ld x2 (Rect.unit (s := S1024x5632) ![0, 1536] ![1024, 256] inb_S1024x5632_S1024x256_0_1536))
    (View.ld x2 (Rect.unit (s := S1024x5632) ![0, 4352] ![1024, 256] inb_S1024x5632_S1024x256_0_4352))
    (View.ld x3 (Rect.unit (s := S2816x1024) ![1536, 0] ![256, 1024] inb_S2816x1024_S256x1024_1536_0))
/-- Chunk 7. -/
def chunk7 (u : FVec F S512x1024 .bf16) (x2 : Vec F S1024x5632 .bf16) (x3 : Vec F S2816x1024 .bf16) : FVec F S512x1024 .f32 :=
  chunk u (View.ld x2 (Rect.unit (s := S1024x5632) ![0, 1792] ![1024, 256] inb_S1024x5632_S1024x256_0_1792))
    (View.ld x2 (Rect.unit (s := S1024x5632) ![0, 4608] ![1024, 256] inb_S1024x5632_S1024x256_0_4608))
    (View.ld x3 (Rect.unit (s := S2816x1024) ![1792, 0] ![256, 1024] inb_S2816x1024_S256x1024_1792_0))
/-- Chunk 8. -/
def chunk8 (u : FVec F S512x1024 .bf16) (x2 : Vec F S1024x5632 .bf16) (x3 : Vec F S2816x1024 .bf16) : FVec F S512x1024 .f32 :=
  chunk u (View.ld x2 (Rect.unit (s := S1024x5632) ![0, 2048] ![1024, 256] inb_S1024x5632_S1024x256_0_2048))
    (View.ld x2 (Rect.unit (s := S1024x5632) ![0, 4864] ![1024, 256] inb_S1024x5632_S1024x256_0_4864))
    (View.ld x3 (Rect.unit (s := S2816x1024) ![2048, 0] ![256, 1024] inb_S2816x1024_S256x1024_2048_0))
/-- Chunk 9. -/
def chunk9 (u : FVec F S512x1024 .bf16) (x2 : Vec F S1024x5632 .bf16) (x3 : Vec F S2816x1024 .bf16) : FVec F S512x1024 .f32 :=
  chunk u (View.ld x2 (Rect.unit (s := S1024x5632) ![0, 2304] ![1024, 256] inb_S1024x5632_S1024x256_0_2304))
    (View.ld x2 (Rect.unit (s := S1024x5632) ![0, 5120] ![1024, 256] inb_S1024x5632_S1024x256_0_5120))
    (View.ld x3 (Rect.unit (s := S2816x1024) ![2304, 0] ![256, 1024] inb_S2816x1024_S256x1024_2304_0))
/-- Chunk 10. -/
def chunk10 (u : FVec F S512x1024 .bf16) (x2 : Vec F S1024x5632 .bf16) (x3 : Vec F S2816x1024 .bf16) : FVec F S512x1024 .f32 :=
  chunk u (View.ld x2 (Rect.unit (s := S1024x5632) ![0, 2560] ![1024, 256] inb_S1024x5632_S1024x256_0_2560))
    (View.ld x2 (Rect.unit (s := S1024x5632) ![0, 5376] ![1024, 256] inb_S1024x5632_S1024x256_0_5376))
    (View.ld x3 (Rect.unit (s := S2816x1024) ![2560, 0] ![256, 1024] inb_S2816x1024_S256x1024_2560_0))

/-- What the accumulator holds after the eleven chunks. -/
def acc (u : FVec F S512x1024 .bf16) (x2 : Vec F S1024x5632 .bf16) (x3 : Vec F S2816x1024 .bf16) : FVec F S512x1024 .f32 :=
  addf (addf (addf (addf (addf (addf (addf (addf (addf (addf (chunk0 u x2 x3) (chunk1 u x2 x3)) (chunk2 u x2 x3)) (chunk3 u x2 x3)) (chunk4 u x2 x3)) (chunk5 u x2 x3)) (chunk6 u x2 x3)) (chunk7 u x2 x3)) (chunk8 u x2 x3)) (chunk9 u x2 x3)) (chunk10 u x2 x3)

set_option maxHeartbeats 4000000 in
/-- The block the body leaves. -/
theorem out_A (c : Dev nD) (i : grid0.Coords) (a2 : Memref sig .tc .vmem S1x512x1024 .f32) (ha2 : a2.IsWhole) (a3 : Memref sig .tc .vmem S1x9x1024 .f32) (ha3 : a3.IsWhole) (a4 : Memref sig .tc .vmem S1024x5632 .bf16) (ha4 : a4.IsWhole) (a5 : Memref sig .tc .vmem S2816x1024 .bf16) (ha5 : a5.IsWhole) (a6 : Memref sig .tc .vmem S1x1024 .f32) (ha6 : a6.IsWhole) (a7 : Memref sig .tc .vmem S1x1024 .f32) (ha7 : a7.IsWhole) (a8 : Memref sig .tc .vmem S1x512x1024 .f32) (ha8 : a8.IsWhole) (a9 : Memref sig .tc .vmem S512x1024 .bf16) (ha9 : a9.IsWhole) (a10 : Memref sig .tc .vmem S512x1024 .f32) (ha10 : a10.IsWhole)
    (x0 : Vec F S1x512x1024 .f32) (x1 : Vec F S1x9x1024 .f32) (x2 : Vec F S1024x5632 .bf16) (x3 : Vec F S2816x1024 .bf16) (x4 : Vec F S1x1024 .f32) (x5 : Vec F S1x1024 .f32) :
    out0_A_6 c i a2 ha2 a3 ha3 a4 ha4 a5 ha5 a6 ha6 a7 ha7 a8 ha8 a9 ha9 a10 ha10 x0 x1 x2 x3 x4 x5
      = k0_pay1 (k0_pay3 (View.ld x1 (Rect.unit (s := S1x9x1024) ![0, 8, 0] ![1, 1, 1024] inb_S1x9x1024_S1x1x1024_0_8_0))) (k0_pay25 (k0_pay2 x0)) (acc (mod x0 x1) x2 x3) x4 x5 := by
  unfold out0_A_6
  rw [View.read_writes_eq_canon _ _ _ (cover0_A_6 c i a2 ha2 a3 ha3 a4 ha4 a5 ha5 a6 ha6 a7 ha7 a8 ha8 a9 ha9 a10 ha10 x0 x1 x2 x3 x4 x5)]
  unfold kernelRun0_A
  dsimp only
  sl_unfold_words
  rw [View.canon_cons_unit_zero (S := S1x512x1024) hz3]
  simp only [View.readCov_cons_toLoadRect _ (Rect.unit (s := S512x1024) ![0, 0] S512x1024.size inb_S512x1024_S512x1024_0_0), View.readAt_eq_ld, ha2.read_unread, ha3.read_unread, ha4.read_unread, ha5.read_unread, ha6.read_unread, ha7.read_unread, View.ld_unit_zero (S := S512x1024) hz2, View.ld_unit_zero (S := S1x1024) hz2, View.ld_unit_zero (S := S1x512x1024) hz3]
  unfold acc mod chunk0 chunk1 chunk2 chunk3 chunk4 chunk5 chunk6 chunk7 chunk8 chunk9 chunk10 chunk
  unfold k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24
  simp only [shapeCast_self]

end Cert.FfnIdeal.Block
end
-- ==== Proof.FfnApply.lean ====
/- The feed-forward kernel's block, read at an index: the modulated input, one 256-column step of the hidden layer, the
   eleven steps' sum as one sum over the 2816 hidden columns, and the layer norm.  Together: the block the body leaves
   is `FfnMath.rowOut` of its input blocks, row by row. -/
module

public import proofs.«01_k».proof.Proof.FfnBlock
public import proofs.«01_k».proof.Proof.FfnMath
public import Idealize.ShloMosaic.Lib.Pointwise

@[expose] public section

set_option maxRecDepth 16384

noncomputable section

namespace Cert.FfnIdeal.Block

open Cert.FfnIdeal Cert.FfnIdeal.Gen Idealize.ShloMosaic Idealize.ShloMosaic.TcCoe
open Cert.FfnMath (gated rowOut layerNorm)

/-- One step's contribution: a sum over its 256 hidden columns. -/
theorem chunk_apply (u : FVec Ideal S512x1024 .bf16) (wa wb : Vec Ideal S1024x256 .bf16) (wo : Vec Ideal S256x1024 .bf16) (r : Fin 512) (n : Fin 1024) :
    chunk (F := Ideal) u wa wb wo (ix2 r n) =
      ∑ x, gated (∑ k, u (ix2 r k) * wa (ix2 k x)) (∑ k, u (ix2 r k) * wb (ix2 k x)) * wo (ix2 x n) := by
  unfold chunk gated
  pointwise

/-- The modulated input. -/
theorem mod_apply (x0 : Vec Ideal S1x512x1024 .f32) (x1 : Vec Ideal S1x9x1024 .f32) (r : Fin 512) (k : Fin 1024) :
    mod (F := Ideal) x0 x1 (ix2 r k) = x0 (ix3 0 r k) * (1 + x1 (ix3 0 7 k)) + x1 (ix3 0 6 k) := by
  pointwise [mod, k0_pay4, k0_pay2]

/-- The layer norm of the residual sum. -/
theorem pay1_apply (v7 : FVec Ideal S1x1024 .f32) (v226 : FVec Ideal S512x1024 .f32) (v229 : Vec Ideal S512x1024 .f32) (v233 : Vec Ideal S1x1024 .f32) (v235 : Vec Ideal S1x1024 .f32) (r : Fin 512) (n : Fin 1024) :
    k0_pay1 (F := Ideal) v7 v226 v229 v233 v235 (ix3 0 r n) =
      layerNorm (fun k => v226 (ix2 r k) + Ideal.ofBits .f32 0x3F000000#32 * v7 (ix2 0 k) * v229 (ix2 r k))
        (fun k => v233 (ix2 0 k)) (fun k => v235 (ix2 0 k)) n := by
  pointwise [k0_pay1]
  rfl

theorem pay25_apply (v1 : FVec Ideal S512x1024 .f32) (r : Fin 512) (n : Fin 1024) :
    k0_pay25 (F := Ideal) v1 (ix2 r n) = Ideal.ofBits .f32 0x3F9837F0#32 * v1 (ix2 r n) := by
  pointwise [k0_pay25]

theorem pay2_apply (x0 : Vec Ideal S1x512x1024 .f32) (r : Fin 512) (n : Fin 1024) :
    k0_pay2 (F := Ideal) x0 (ix2 r n) = x0 (ix3 0 r n) := by
  pointwise [k0_pay2]

theorem gate_apply (x1 : Vec Ideal S1x9x1024 .f32) (n : Fin 1024) :
    k0_pay3 (F := Ideal) (View.ld x1 (Rect.unit (s := S1x9x1024) ![0, 8, 0] ![1, 1, 1024] inb_S1x9x1024_S1x1x1024_0_8_0)) (ix2 0 n)
      = x1 (ix3 0 8 n) := by
  pointwise [k0_pay3]

/-- A sum over 2816 hidden columns is the sum of the eleven sums over 256 consecutive ones, added in order. -/
theorem sum_2816 (f : Fin 2816 → EReal) :
    ∑ j, f j = ∑ c : Fin 11, ∑ x : Fin 256, f ⟨256 * c.val + x.val, by omega⟩ := by
  rw [← (finProdFinEquiv (m := 11) (n := 256)).sum_comp (g := f), Fintype.sum_prod_type]
  refine Finset.sum_congr rfl fun c _ => Finset.sum_congr rfl fun x _ => congrArg f (Fin.ext ?_)
  show x.val + 256 * c.val = 256 * c.val + x.val
  omega

/-- The hidden value's share of column `n` at hidden column `j`. -/
def term (u : FVec Ideal S512x1024 .bf16) (x2 : Vec Ideal S1024x5632 .bf16) (x3 : Vec Ideal S2816x1024 .bf16) (r : Fin 512)
    (n : Fin 1024) (j : Fin 2816) : EReal :=
  gated (∑ k, u (ix2 r k) * x2 (ix2 k ⟨j.val, by omega⟩)) (∑ k, u (ix2 r k) * x2 (ix2 k ⟨2816 + j.val, by omega⟩)) * x3 (ix2 j n)

theorem chunk0_apply (u : FVec Ideal S512x1024 .bf16) (x2 : Vec Ideal S1024x5632 .bf16) (x3 : Vec Ideal S2816x1024 .bf16) (r : Fin 512)
    (n : Fin 1024) : chunk0 (F := Ideal) u x2 x3 (ix2 r n) = ∑ x : Fin 256, term u x2 x3 r n ⟨256 * 0 + x.val, by omega⟩ := by
  unfold chunk0
  rw [chunk_apply]
  unfold term
  pointwise

theorem chunk1_apply (u : FVec Ideal S512x1024 .bf16) (x2 : Vec Ideal S1024x5632 .bf16) (x3 : Vec Ideal S2816x1024 .bf16) (r : Fin 512)
    (n : Fin 1024) : chunk1 (F := Ideal) u x2 x3 (ix2 r n) = ∑ x : Fin 256, term u x2 x3 r n ⟨256 * 1 + x.val, by omega⟩ := by
  unfold chunk1
  rw [chunk_apply]
  unfold term
  pointwise
  simp only [← Nat.add_assoc, Nat.reduceAdd]

theorem chunk2_apply (u : FVec Ideal S512x1024 .bf16) (x2 : Vec Ideal S1024x5632 .bf16) (x3 : Vec Ideal S2816x1024 .bf16) (r : Fin 512)
    (n : Fin 1024) : chunk2 (F := Ideal) u x2 x3 (ix2 r n) = ∑ x : Fin 256, term u x2 x3 r n ⟨256 * 2 + x.val, by omega⟩ := by
  unfold chunk2
  rw [chunk_apply]
  unfold term
  pointwise
  simp only [← Nat.add_assoc, Nat.reduceAdd]

theorem chunk3_apply (u : FVec Ideal S512x1024 .bf16) (x2 : Vec Ideal S1024x5632 .bf16) (x3 : Vec Ideal S2816x1024 .bf16) (r : Fin 512)
    (n : Fin 1024) : chunk3 (F := Ideal) u x2 x3 (ix2 r n) = ∑ x : Fin 256, term u x2 x3 r n ⟨256 * 3 + x.val, by omega⟩ := by
  unfold chunk3
  rw [chunk_apply]
  unfold term
  pointwise
  simp only [← Nat.add_assoc, Nat.reduceAdd]

theorem chunk4_apply (u : FVec Ideal S512x1024 .bf16) (x2 : Vec Ideal S1024x5632 .bf16) (x3 : Vec Ideal S2816x1024 .bf16) (r : Fin 512)
    (n : Fin 1024) : chunk4 (F := Ideal) u x2 x3 (ix2 r n) = ∑ x : Fin 256, term u x2 x3 r n ⟨256 * 4 + x.val, by omega⟩ := by
  unfold chunk4
  rw [chunk_apply]
  unfold term
  pointwise
  simp only [← Nat.add_assoc, Nat.reduceAdd]

theorem chunk5_apply (u : FVec Ideal S512x1024 .bf16) (x2 : Vec Ideal S1024x5632 .bf16) (x3 : Vec Ideal S2816x1024 .bf16) (r : Fin 512)
    (n : Fin 1024) : chunk5 (F := Ideal) u x2 x3 (ix2 r n) = ∑ x : Fin 256, term u x2 x3 r n ⟨256 * 5 + x.val, by omega⟩ := by
  unfold chunk5
  rw [chunk_apply]
  unfold term
  pointwise
  simp only [← Nat.add_assoc, Nat.reduceAdd]

theorem chunk6_apply (u : FVec Ideal S512x1024 .bf16) (x2 : Vec Ideal S1024x5632 .bf16) (x3 : Vec Ideal S2816x1024 .bf16) (r : Fin 512)
    (n : Fin 1024) : chunk6 (F := Ideal) u x2 x3 (ix2 r n) = ∑ x : Fin 256, term u x2 x3 r n ⟨256 * 6 + x.val, by omega⟩ := by
  unfold chunk6
  rw [chunk_apply]
  unfold term
  pointwise
  simp only [← Nat.add_assoc, Nat.reduceAdd]

theorem chunk7_apply (u : FVec Ideal S512x1024 .bf16) (x2 : Vec Ideal S1024x5632 .bf16) (x3 : Vec Ideal S2816x1024 .bf16) (r : Fin 512)
    (n : Fin 1024) : chunk7 (F := Ideal) u x2 x3 (ix2 r n) = ∑ x : Fin 256, term u x2 x3 r n ⟨256 * 7 + x.val, by omega⟩ := by
  unfold chunk7
  rw [chunk_apply]
  unfold term
  pointwise
  simp only [← Nat.add_assoc, Nat.reduceAdd]

theorem chunk8_apply (u : FVec Ideal S512x1024 .bf16) (x2 : Vec Ideal S1024x5632 .bf16) (x3 : Vec Ideal S2816x1024 .bf16) (r : Fin 512)
    (n : Fin 1024) : chunk8 (F := Ideal) u x2 x3 (ix2 r n) = ∑ x : Fin 256, term u x2 x3 r n ⟨256 * 8 + x.val, by omega⟩ := by
  unfold chunk8
  rw [chunk_apply]
  unfold term
  pointwise
  simp only [← Nat.add_assoc, Nat.reduceAdd]

theorem chunk9_apply (u : FVec Ideal S512x1024 .bf16) (x2 : Vec Ideal S1024x5632 .bf16) (x3 : Vec Ideal S2816x1024 .bf16) (r : Fin 512)
    (n : Fin 1024) : chunk9 (F := Ideal) u x2 x3 (ix2 r n) = ∑ x : Fin 256, term u x2 x3 r n ⟨256 * 9 + x.val, by omega⟩ := by
  unfold chunk9
  rw [chunk_apply]
  unfold term
  pointwise
  simp only [← Nat.add_assoc, Nat.reduceAdd]

theorem chunk10_apply (u : FVec Ideal S512x1024 .bf16) (x2 : Vec Ideal S1024x5632 .bf16) (x3 : Vec Ideal S2816x1024 .bf16) (r : Fin 512)
    (n : Fin 1024) : chunk10 (F := Ideal) u x2 x3 (ix2 r n) = ∑ x : Fin 256, term u x2 x3 r n ⟨256 * 10 + x.val, by omega⟩ := by
  unfold chunk10
  rw [chunk_apply]
  unfold term
  pointwise
  simp only [← Nat.add_assoc, Nat.reduceAdd]

/-- Eleven terms added in order. -/
theorem sum_11 (g : Fin 11 → EReal) :
    ∑ c, g c = g 0 + g 1 + g 2 + g 3 + g 4 + g 5 + g 6 + g 7 + g 8 + g 9 + g 10 := by
  iterate 11 rw [Fin.sum_univ_castSucc]
  rw [Finset.univ_eq_empty, Finset.sum_empty, zero_add]
  rfl

/-- The eleven steps added in order are one sum over the hidden columns. -/
theorem acc_apply (u : FVec Ideal S512x1024 .bf16) (x2 : Vec Ideal S1024x5632 .bf16) (x3 : Vec Ideal S2816x1024 .bf16) (r : Fin 512)
    (n : Fin 1024) : acc (F := Ideal) u x2 x3 (ix2 r n) = ∑ j, term u x2 x3 r n j := by
  rw [sum_2816, sum_11]
  unfold acc
  pointwise
  rw [chunk0_apply, chunk1_apply, chunk2_apply, chunk3_apply, chunk4_apply, chunk5_apply, chunk6_apply, chunk7_apply,
    chunk8_apply, chunk9_apply, chunk10_apply]
  rfl

/-- The block the body leaves, row by row. -/
theorem block_apply (x0 : Vec Ideal S1x512x1024 .f32) (x1 : Vec Ideal S1x9x1024 .f32) (x2 : Vec Ideal S1024x5632 .bf16)
    (x3 : Vec Ideal S2816x1024 .bf16) (x4 x5 : Vec Ideal S1x1024 .f32) (r : Fin 512) (n : Fin 1024) :
    k0_pay1 (F := Ideal) (k0_pay3 (View.ld x1 (Rect.unit (s := S1x9x1024) ![0, 8, 0] ![1, 1, 1024] inb_S1x9x1024_S1x1x1024_0_8_0)))
        (k0_pay25 (k0_pay2 x0)) (acc (mod x0 x1) x2 x3) x4 x5 (ix3 0 r n) =
      rowOut (fun k => x0 (ix3 0 r k)) (fun k => x1 (ix3 0 6 k)) (fun k => x1 (ix3 0 7 k)) (fun k => x1 (ix3 0 8 k))
        (fun k j => x2 (ix2 k j)) (fun j n => x3 (ix2 j n)) (fun k => x4 (ix2 0 k)) (fun k => x5 (ix2 0 k)) n := by
  rw [pay1_apply]
  simp only [gate_apply, pay25_apply, pay2_apply, acc_apply, term, mod_apply]
  rfl

end Cert.FfnIdeal.Block
end
-- ==== Proof.FfnArray.lean ====
/- The feed-forward kernel's result array as one function of its arguments: each window's block read off its array,
   each point's write-back as the row function, the write-backs covering the array, and the run with the array named. -/
module

public import proofs.«01_k».proof.Proof.FfnApply

@[expose] public section

set_option maxRecDepth 16384

noncomputable section

namespace Cert.FfnIdeal.Block

open Cert.FfnIdeal Cert.FfnIdeal.Gen Cert.FfnIdeal.Value Idealize.ShloMosaic Idealize.ShloMosaic.TcCoe Idealize.SL.Sem
open Cert.FfnMath (rowOut)

variable (m : (ℓ : Loc nD τ sig) → Buf (Elt Ideal) ℓ) (ρ : Dev nD → PrngReg)

/-! ## The host operations before the launch -/

theorem V_main_v0 (c : Dev nD) : V m c main_v0 = shapeCast S8x9x1024 (m ((c : Thread nD τ).loc main_arg1)) shapeCasts_S8x9216_S8x9x1024 := rfl
theorem V_main_v1 (c : Dev nD) : V m c main_v1 = truncf (F := Ideal) .bf16 (m ((c : Thread nD τ).loc main_arg2)) bitsLt_bf16_f32 := rfl
theorem V_main_v2 (c : Dev nD) : V m c main_v2 = truncf (F := Ideal) .bf16 (m ((c : Thread nD τ).loc main_arg3)) bitsLt_bf16_f32 := rfl
theorem V_main_v3 (c : Dev nD) : V m c main_v3 = shapeCast S1x1024 (m ((c : Thread nD τ).loc main_arg4)) shapeCasts_S1024_S1x1024 := rfl
theorem V_main_v4 (c : Dev nD) : V m c main_v4 = shapeCast S1x1024 (m ((c : Thread nD τ).loc main_arg5)) shapeCasts_S1024_S1x1024 := rfl

theorem v0_apply (c : Dev nD) (p : Fin 8) (q : Fin 9) (k : Fin 1024) :
    V m c main_v0 (ix3 p q k) = m ((c : Thread nD τ).loc main_arg1) (ix2 p ⟨1024 * q.val + k.val, by omega⟩) := by
  rw [V_main_v0]
  pointwise
  simp only [Nat.mul_comm q.val 1024]
theorem v1_apply (c : Dev nD) (k : Fin 1024) (j : Fin 5632) : V m c main_v1 (ix2 k j) = m ((c : Thread nD τ).loc main_arg2) (ix2 k j) := by
  rw [V_main_v1]
  pointwise
theorem v2_apply (c : Dev nD) (k : Fin 2816) (j : Fin 1024) : V m c main_v2 (ix2 k j) = m ((c : Thread nD τ).loc main_arg3) (ix2 k j) := by
  rw [V_main_v2]
  pointwise
theorem v3_apply (c : Dev nD) (k : Fin 1024) : V m c main_v3 (ix2 0 k) = m ((c : Thread nD τ).loc main_arg4) (ix1 k) := by
  rw [V_main_v3]
  pointwise
theorem v4_apply (c : Dev nD) (k : Fin 1024) : V m c main_v4 (ix2 0 k) = m ((c : Thread nD τ).loc main_arg5) (ix1 k) := by
  rw [V_main_v4]
  pointwise

/-! ## The windows' blocks -/

/-- Each window's block index at a point: the image and the row block of the point, or nothing. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)

/-- The image of a point, and row `r` of its row block. -/
def img (t : Fin cfg0.N) : Fin 8 := ⟨t.val / 8, by have h : t.val < 64 := N_0 ▸ t.isLt; omega⟩
def row (t : Fin cfg0.N) (r : Fin 512) : Fin 4096 := ⟨t.val % 8 * 512 + r.val, by omega⟩

theorem emb0 (t : Fin cfg0.N) (r : Fin 512) (n : Fin 1024) : ((cfg0.win 0).blk t).view.emb (ix3 0 r n) = ix3 (img t) (row t r) n := by
  obtain ⟨e0, e1, e2⟩ := idx0 t
  funext a; apply Fin.ext
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 1024 + 1 * n.val = n.val; omega
theorem emb6 (t : Fin cfg0.N) (r : Fin 512) (n : Fin 1024) : ((cfg0.win 6).blk t).view.emb (ix3 0 r n) = ix3 (img t) (row t r) n := by
  obtain ⟨e0, e1, e2⟩ := idx6 t
  funext a; apply Fin.ext
  match a with
  | ⟨0, _⟩ => show win0_6.index t (0 : Fin 3) * 1 + 1 * 0 = t.val / 8; omega
  | ⟨1, _⟩ => show win0_6.index t (1 : Fin 3) * 512 + 1 * r.val = t.val % 8 * 512 + r.val; omega
  | ⟨2, _⟩ => show win0_6.index t (2 : Fin 3) * 1024 + 1 * n.val = n.val; omega
theorem emb1 (t : Fin cfg0.N) (q : Fin 9) (n : Fin 1024) : ((cfg0.win 1).blk t).view.emb (ix3 0 q n) = ix3 (img t) q n := by
  obtain ⟨e0, e1, e2⟩ := idx1 t
  funext a; apply Fin.ext
  match a with
  | ⟨0, _⟩ => show win0_1.index t (0 : Fin 3) * 1 + 1 * 0 = t.val / 8; omega
  | ⟨1, _⟩ => show win0_1.index t (1 : Fin 3) * 9 + 1 * q.val = q.val; omega
  | ⟨2, _⟩ => show win0_1.index t (2 : Fin 3) * 1024 + 1 * n.val = n.val; omega
theorem emb2 (t : Fin cfg0.N) (k : Fin 1024) (j : Fin 5632) : ((cfg0.win 2).blk t).view.emb (ix2 k j) = ix2 k j := by
  obtain ⟨e0, e1⟩ := idx2 t
  funext a; apply Fin.ext
  match a with
  | ⟨0, _⟩ => show win0_2.index t (0 : Fin 2) * 1024 + 1 * k.val = k.val; omega
  | ⟨1, _⟩ => show win0_2.index t (1 : Fin 2) * 5632 + 1 * j.val = j.val; omega
theorem emb3 (t : Fin cfg0.N) (k : Fin 2816) (j : Fin 1024) : ((cfg0.win 3).blk t).view.emb (ix2 k j) = ix2 k j := by
  obtain ⟨e0, e1⟩ := idx3 t
  funext a; apply Fin.ext
  match a with
  | ⟨0, _⟩ => show win0_3.index t (0 : Fin 2) * 2816 + 1 * k.val = k.val; omega
  | ⟨1, _⟩ => show win0_3.index t (1 : Fin 2) * 1024 + 1 * j.val = j.val; omega
theorem emb4 (t : Fin cfg0.N) (j : Fin 1024) : ((cfg0.win 4).blk t).view.emb (ix2 0 j) = ix2 0 j := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 1024 + 1 * j.val = j.val; omega
theorem emb5 (t : Fin cfg0.N) (j : Fin 1024) : ((cfg0.win 5).blk t).view.emb (ix2 0 j) = ix2 0 j := by
  obtain ⟨e0, e1⟩ := idx5 t
  funext a; apply Fin.ext
  match a with
  | ⟨0, _⟩ => show win0_5.index t (0 : Fin 2) * 1 + 1 * 0 = 0; omega
  | ⟨1, _⟩ => show win0_5.index t (1 : Fin 2) * 1024 + 1 * j.val = j.val; omega

theorem iblk0_apply (c : Dev nD) (t : Fin cfg0.N) (r : Fin 512) (n : Fin 1024) :
    iblk m c 0 t (ix3 0 r n) = m ((c : Thread nD τ).loc main_arg0) (ix3 (img t) (row t r) n) := by
  show V m c main_arg0 (((cfg0.win 0).blk t).view.emb (ix3 0 r n)) = _; rw [emb0, V_main_arg0]
theorem iblk1_apply (c : Dev nD) (t : Fin cfg0.N) (q : Fin 9) (n : Fin 1024) :
    iblk m c 1 t (ix3 0 q n) = m ((c : Thread nD τ).loc main_arg1) (ix2 (img t) ⟨1024 * q.val + n.val, by omega⟩) := by
  show V m c main_v0 (((cfg0.win 1).blk t).view.emb (ix3 0 q n)) = _; rw [emb1, v0_apply]
theorem iblk2_apply (c : Dev nD) (t : Fin cfg0.N) (k : Fin 1024) (j : Fin 5632) :
    iblk m c 2 t (ix2 k j) = m ((c : Thread nD τ).loc main_arg2) (ix2 k j) := by
  show V m c main_v1 (((cfg0.win 2).blk t).view.emb (ix2 k j)) = _; rw [emb2, v1_apply]
theorem iblk3_apply (c : Dev nD) (t : Fin cfg0.N) (k : Fin 2816) (j : Fin 1024) :
    iblk m c 3 t (ix2 k j) = m ((c : Thread nD τ).loc main_arg3) (ix2 k j) := by
  show V m c main_v2 (((cfg0.win 3).blk t).view.emb (ix2 k j)) = _; rw [emb3, v2_apply]
theorem iblk4_apply (c : Dev nD) (t : Fin cfg0.N) (j : Fin 1024) :
    iblk m c 4 t (ix2 0 j) = m ((c : Thread nD τ).loc main_arg4) (ix1 j) := by
  show V m c main_v3 (((cfg0.win 4).blk t).view.emb (ix2 0 j)) = _; rw [emb4, v3_apply]
theorem iblk5_apply (c : Dev nD) (t : Fin cfg0.N) (j : Fin 1024) :
    iblk m c 5 t (ix2 0 j) = m ((c : Thread nD τ).loc main_arg5) (ix1 j) := by
  show V m c main_v4 (((cfg0.win 5).blk t).view.emb (ix2 0 j)) = _; rw [emb5, v4_apply]

/-! ## The result array -/

/-- The row function of whole arrays: image `p`, position `s`. -/
def rowAt (x : FVec Ideal S8x4096x1024 .f32) (md : FVec Ideal S8x9216 .f32) (wi : FVec Ideal S1024x5632 .f32)
    (wo : FVec Ideal S2816x1024 .f32) (g b : FVec Ideal S1024 .f32) (p : Fin 8) (s : Fin 4096) : Fin 1024 → EReal :=
  rowOut (fun k => x (ix3 p s k)) (fun k => md (ix2 p ⟨6144 + k.val, by omega⟩)) (fun k => md (ix2 p ⟨7168 + k.val, by omega⟩))
    (fun k => md (ix2 p ⟨8192 + k.val, by omega⟩)) (fun k j => wi (ix2 k j)) (fun j n => wo (ix2 j n))
    (fun k => g (ix1 k)) (fun k => b (ix1 k))

/-- The result array of device `c`'s arguments. -/
def result (c : Dev nD) : Buf (Elt Ideal) ((c : Thread nD τ).loc main_v5) := fun i =>
  rowAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

/-- What a point writes back is its block of the result. -/
theorem flushed_eq (c : Dev nD) (t : Fin cfg0.N) :
    (dats m 0 c).flushed 6 t = ((cfg0.win 6).blk t).view.read (Elt Ideal) (result m c) := by
  rw [flushed6_A, out_A]
  funext j
  show k0_pay1 (F := Ideal) _ _ _ _ _ j = result m c (((cfg0.win 6).blk t).view.emb j)
  idx_vars j
  obtain rfl : j0 = 0 := Subsingleton.elim _ _
  show _ = result m c (((cfg0.win 6).blk t).view.emb (ix3 0 j1 j2))
  rw [emb6, block_apply]
  simp only [iblk0_apply, iblk1_apply, iblk2_apply, iblk3_apply, iblk4_apply, iblk5_apply]
  rfl

/-- Every index of the result array is in some point's block. -/
theorem cover (i : S8x4096x1024.Idx) :
    ∃ t : Fin cfg0.N, (cfg0.win 6).flush t = true ∧ i ∈ ((cfg0.win 6).blk t).view.set := by
  have hN : cfg0.N = 64 := N_0
  obtain ⟨i0, i1, i2, rfl⟩ : ∃ (i0 : Fin 8) (i1 : Fin 4096) (i2 : Fin 1024), i = ix3 i0 i1 i2 :=
    ⟨i 0, i 1, i 2, funext fun a => by match a with | ⟨0, _⟩ => rfl | ⟨1, _⟩ => rfl | ⟨2, _⟩ => rfl⟩
  have ht : i0.val * 8 + i1.val / 512 < cfg0.N := by rw [hN]; omega
  refine ⟨⟨i0.val * 8 + i1.val / 512, ht⟩, flush0_6 _, ?_⟩
  have e : ix3 i0 i1 i2 = ((cfg0.win 6).blk ⟨i0.val * 8 + i1.val / 512, ht⟩).view.emb (ix3 0 ⟨i1.val % 512, by omega⟩ i2) := by
    rw [emb6]
    funext a; apply Fin.ext
    match a with
    | ⟨0, _⟩ => show i0.val = (i0.val * 8 + i1.val / 512) / 8; omega
    | ⟨1, _⟩ => show i1.val = (i0.val * 8 + i1.val / 512) % 8 * 512 + i1.val % 512; omega
    | ⟨2, _⟩ => rfl
  rw [e]
  exact ((cfg0.win 6).blk ⟨i0.val * 8 + i1.val / 512, ht⟩).view.emb_mem_set _

/-- The result array after the run. -/
theorem final (c : Dev nD) : (dats m 0 c).arrAt 6 cfg0.N = result m c :=
  (dats m 0 c).arrAt_eq_of_cover 6 (result m c) (fun t _ => flushed_eq m c t) cover

/-- The run, its result array named and its arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.FfnIdeal.Block
end
-- ==== Proof.FfnRefValue.lean ====
/- The feed-forward reference program, read at an index.  Its one composed term is cut into four named stages (the
   modulated input, the first product, the residual sum, the layer norm) and each stage is read at an index as the row
   function of `FfnMath`. -/
module

public import proofs.«01_k».proof.Proof.Gen.FfnRefIdeal.Run
public import proofs.«01_k».proof.Proof.FfnMath
public import Idealize.ShloMosaic.Lib.Pointwise

@[expose] public section

set_option maxRecDepth 16384

noncomputable section

namespace Cert.FfnRefIdeal.Stages

open Cert.FfnRefIdeal Cert.FfnRefIdeal.Gen Idealize.ShloMosaic Idealize.ShloMosaic.TcCoe Idealize.SL.Sem
open Cert.FfnMath

variable {F : FTy → Type} [FloatOps F]

/-- The input under its scale and shift. -/
def modu (x : FVec F S8x4096x1024 .f32) (md : FVec F S8x9216 .f32) : FVec F S8x4096x1024 .f32 :=
  addf (mulf x (broadcastInDim S8x4096x1024 ![0, 1, 2] bcast_S8x1x1024_S8x4096x1024_0_1_2 (addf (broadcastInDim
    S8x1x1024 ![] bcast_S_S8x1x1024 (constant S_ .f32 0x3F800000#32)) (broadcastInDim S8x1x1024 ![0, 2]
    bcast_S8x1024_S8x1x1024_0_2 (extractStridedSlice S8x1024 ![0, 1024] (extractStridedSlice S8x3072 ![0, 6144] md
    slices_S8x9216_S8x3072_0_6144) slices_S8x3072_S8x1024_0_1024))))) (broadcastInDim S8x4096x1024 ![0, 1, 2]
    bcast_S8x1x1024_S8x4096x1024_0_1_2 (broadcastInDim S8x1x1024 ![0, 2] bcast_S8x1024_S8x1x1024_0_2
    (extractStridedSlice S8x1024 ![0, 0] (extractStridedSlice S8x3072 ![0, 6144] md slices_S8x9216_S8x3072_0_6144)
    slices_S8x3072_S8x1024_0_0)))

/-- The first product, gate and value columns side by side. -/
def prod (u : FVec F S8x4096x1024 .f32) (wi : FVec F S1024x5632 .f32) : FVec F S8x4096x5632 .f32 :=
  Host.dotGeneral dot_S8x4096x1024_S1024x5632_S8x4096x5632_2_0_01_1_n_n none u wi

/-- The residual sum: the scaled input plus half the gate times the second product. -/
def resid (x : FVec F S8x4096x1024 .f32) (md : FVec F S8x9216 .f32) (z : FVec F S8x4096x5632 .f32)
    (wo : FVec F S2816x1024 .f32) : FVec F S8x4096x1024 .f32 :=
  addf (mulf (broadcastInDim S8x4096x1024 ![] bcast_S_S8x4096x1024 (constant S_ .f32 0x3F9837F0#32)) x) (mulf
    (broadcastInDim S8x4096x1024 ![0, 1, 2] bcast_S8x1x1024_S8x4096x1024_0_1_2 (mulf (broadcastInDim S8x1x1024 ![]
    bcast_S_S8x1x1024 (constant S_ .f32 0x3F000000#32)) (broadcastInDim S8x1x1024 ![0, 2] bcast_S8x1024_S8x1x1024_0_2
    (extractStridedSlice S8x1024 ![0, 2048] (extractStridedSlice S8x3072 ![0, 6144] md slices_S8x9216_S8x3072_0_6144)
    slices_S8x3072_S8x1024_0_2048)))) (Host.dotGeneral dot_S8x4096x2816_S2816x1024_S8x4096x1024_2_0_01_1_n_n none
    (mulf (mulf (extractStridedSlice S8x4096x2816 ![0, 0, 0] z slices_S8x4096x5632_S8x4096x2816_0_0_0) (Host.divf
    (broadcastInDim S8x4096x2816 ![] bcast_S_S8x4096x2816 (constant S_ .f32 0x3F800000#32)) (addf (broadcastInDim
    S8x4096x2816 ![] bcast_S_S8x4096x2816 (constant S_ .f32 0x3F800000#32)) (Host.exp (Host.negf (extractStridedSlice
    S8x4096x2816 ![0, 0, 0] z slices_S8x4096x5632_S8x4096x2816_0_0_0)))))) (extractStridedSlice S8x4096x2816 ![0, 0,
    2816] z slices_S8x4096x5632_S8x4096x2816_0_0_2816)) wo))

/-- The layer norm over the last axis. -/
def norm (y : FVec F S8x4096x1024 .f32) (g b : FVec F S1024 .f32) : FVec F S8x4096x1024 .f32 :=
  addf (mulf (mulf (subf y (broadcastInDim S8x4096x1024 ![0, 1, 2] bcast_S8x4096x1_S8x4096x1024_0_1_2 (Host.divf
    (broadcastInDim S8x4096x1 ![0, 1] bcast_S8x4096_S8x4096x1_0_1 (Host.reduceAdd y (constant S_ .f32 0x00000000#32)
    reducesTo_S8x4096x1024_S8x4096_d2 h_S_)) (broadcastInDim S8x4096x1 ![] bcast_S_S8x4096x1 (constant S_ .f32
    0x44800000#32))))) (broadcastInDim S8x4096x1024 ![0, 1, 2] bcast_S8x4096x1_S8x4096x1024_0_1_2 (Host.rsqrt (addf
    (Host.divf (broadcastInDim S8x4096x1 ![0, 1] bcast_S8x4096_S8x4096x1_0_1 (Host.reduceAdd (mulf (subf y
    (broadcastInDim S8x4096x1024 ![0, 1, 2] bcast_S8x4096x1_S8x4096x1024_0_1_2 (Host.divf (broadcastInDim S8x4096x1
    ![0, 1] bcast_S8x4096_S8x4096x1_0_1 (Host.reduceAdd y (constant S_ .f32 0x00000000#32)
    reducesTo_S8x4096x1024_S8x4096_d2 h_S_)) (broadcastInDim S8x4096x1 ![] bcast_S_S8x4096x1 (constant S_ .f32
    0x44800000#32))))) (subf y (broadcastInDim S8x4096x1024 ![0, 1, 2] bcast_S8x4096x1_S8x4096x1024_0_1_2 (Host.divf
    (broadcastInDim S8x4096x1 ![0, 1] bcast_S8x4096_S8x4096x1_0_1 (Host.reduceAdd y (constant S_ .f32 0x00000000#32)
    reducesTo_S8x4096x1024_S8x4096_d2 h_S_)) (broadcastInDim S8x4096x1 ![] bcast_S_S8x4096x1 (constant S_ .f32
    0x44800000#32)))))) (constant S_ .f32 0x00000000#32) reducesTo_S8x4096x1024_S8x4096_d2 h_S_)) (broadcastInDim
    S8x4096x1 ![] bcast_S_S8x4096x1 (constant S_ .f32 0x44800000#32))) (broadcastInDim S8x4096x1 ![] bcast_S_S8x4096x1
    (constant S_ .f32 0x3727C5AC#32)))))) (broadcastInDim S8x4096x1024 ![0, 1, 2] bcast_S1x1x1024_S8x4096x1024_0_1_2
    (broadcastInDim S1x1x1024 ![2] bcast_S1024_S1x1x1024_2 g))) (broadcastInDim S8x4096x1024 ![0, 1, 2]
    bcast_S1x1x1024_S8x4096x1024_0_1_2 (broadcastInDim S1x1x1024 ![2] bcast_S1024_S1x1x1024_2 b))

set_option maxHeartbeats 4000000 in
/-- The reference's result is the four stages composed. -/
theorem res_eq (m : (ℓ : Loc nD τ sig) → Buf (Elt F) ℓ) (c : Dev nD) :
    Value.res_main_v49 m c =
      norm (resid (m ((c.tc : Thread nD τ).loc main_arg0)) (m ((c.tc : Thread nD τ).loc main_arg1))
          (prod (modu (m ((c.tc : Thread nD τ).loc main_arg0)) (m ((c.tc : Thread nD τ).loc main_arg1)))
            (m ((c.tc : Thread nD τ).loc main_arg2)))
          (m ((c.tc : Thread nD τ).loc main_arg3)))
        (m ((c.tc : Thread nD τ).loc main_arg4)) (m ((c.tc : Thread nD τ).loc main_arg5)) := rfl

theorem modu_apply (x : FVec Ideal S8x4096x1024 .f32) (md : FVec Ideal S8x9216 .f32) (p : Fin 8) (s : Fin 4096)
    (k : Fin 1024) : modu x md (ix3 p s k) =
      x (ix3 p s k) * (1 + md (ix2 p ⟨7168 + k.val, by omega⟩)) + md (ix2 p ⟨6144 + k.val, by omega⟩) := by
  pointwise [modu]
  have e : 6144 + (1024 + k.val) = 7168 + k.val := by omega
  simp only [e]

theorem prod_apply (u : FVec Ideal S8x4096x1024 .f32) (wi : FVec Ideal S1024x5632 .f32) (p : Fin 8) (s : Fin 4096)
    (f : Fin 5632) : prod u wi (ix3 p s f) = ∑ k, u (ix3 p s k) * wi (ix2 k f) := by
  pointwise [prod]

theorem resid_apply (x : FVec Ideal S8x4096x1024 .f32) (md : FVec Ideal S8x9216 .f32) (z : FVec Ideal S8x4096x5632 .f32)
    (wo : FVec Ideal S2816x1024 .f32) (p : Fin 8) (s : Fin 4096) (n : Fin 1024) :
    resid x md z wo (ix3 p s n) =
      FfnMath.resid (x (ix3 p s n)) (md (ix2 p ⟨8192 + n.val, by omega⟩))
        (∑ j : Fin 2816, gated (z (ix3 p s ⟨j.val, by omega⟩)) (z (ix3 p s ⟨2816 + j.val, by omega⟩)) * wo (ix2 j n)) := by
  pointwise [resid]
  have e : 6144 + (2048 + n.val) = 8192 + n.val := by omega
  simp only [e]
  rfl

theorem norm_apply (y : FVec Ideal S8x4096x1024 .f32) (g b : FVec Ideal S1024 .f32) (p : Fin 8) (s : Fin 4096) (n : Fin 1024) :
    norm y g b (ix3 p s n) = layerNorm (fun k => y (ix3 p s k)) (fun k => g (ix1 k)) (fun k => b (ix1 k)) n := by
  pointwise [norm]
  rfl

/-- The row function of whole arrays: image `p`, position `s`. -/
def rowAt (x : FVec Ideal S8x4096x1024 .f32) (md : FVec Ideal S8x9216 .f32) (wi : FVec Ideal S1024x5632 .f32)
    (wo : FVec Ideal S2816x1024 .f32) (g b : FVec Ideal S1024 .f32) (p : Fin 8) (s : Fin 4096) : Fin 1024 → EReal :=
  rowOut (fun k => x (ix3 p s k)) (fun k => md (ix2 p ⟨6144 + k.val, by omega⟩)) (fun k => md (ix2 p ⟨7168 + k.val, by omega⟩))
    (fun k => md (ix2 p ⟨8192 + k.val, by omega⟩)) (fun k j => wi (ix2 k j)) (fun j n => wo (ix2 j n))
    (fun k => g (ix1 k)) (fun k => b (ix1 k))

/-- The reference's result at an index is the row function there. -/
theorem res_apply (m : (ℓ : Loc nD τ sig) → Buf (Elt Ideal) ℓ) (c : Dev nD) (p : Fin 8) (s : Fin 4096) (n : Fin 1024) :
    Value.res_main_v49 m c (ix3 p s n) =
      rowAt (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) p s n := by
  rw [res_eq, norm_apply]
  simp only [resid_apply, prod_apply, modu_apply]
  rfl

end Cert.FfnRefIdeal.Stages
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Mixin.Frame
public import proofs.«01_k».proof.Proof.Gen.MixinIdeal.Value
public import proofs.«01_k».proof.Proof.Gen.MixinRefIdeal.Run
public import proofs.«01_k».proof.Proof.Gen.Compress.Frame
public import proofs.«01_k».proof.Proof.Gen.CompressIdeal.Value
public import proofs.«01_k».proof.Proof.Gen.CompressRefIdeal.Run
public import proofs.«01_k».proof.Proof.Gen.Ada.Frame
public import proofs.«01_k».proof.Proof.Gen.AdaIdeal.Value
public import proofs.«01_k».proof.Proof.Gen.AdaRefIdeal.Run
public import proofs.«01_k».proof.Proof.DsaFrame
public import proofs.«01_k».proof.Proof.AdaArray
public import proofs.«01_k».proof.Proof.CompressArray
public import proofs.«01_k».proof.Proof.CompressRefValue
public import proofs.«01_k».proof.Proof.MixinEquation
public import proofs.«01_k».proof.Proof.MergeArray
public import proofs.«01_k».proof.Proof.MergeRefValue
public import proofs.«01_k».proof.Proof.FfnArray
public import proofs.«01_k».proof.Proof.FfnRefValue
public import Idealize.ShloMosaic.Adequacy
public import Idealize.ShloMosaic.Init

@[expose] public section

noncomputable section

namespace Cert.Proof

open Idealize.ShloMosaic Idealize.SL.Sem Cert.Kernel

/-! ## The sparse attention call -/

theorem frame_Kernel : Cert.quiescent_Kernel := fun m ρ _ => Cert.Kernel.Dsa.frame m ρ

/-! ## The feed-forward call -/

theorem frame_Ffn : Cert.quiescent_Ffn := fun m ρ _ => Cert.Ffn.Gen.frame m ρ
theorem frame_FfnIdeal : Cert.quiescent_FfnIdeal := fun m ρ _ => Cert.FfnIdeal.Gen.frame m ρ
/-- The reference is a host program: its run read at the arguments; it declares no semaphore. -/
theorem frame_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The idealization rewrote nothing. -/
theorem preserves_Ffn : Cert.preserves_Ffn_FfnIdeal := trivial

/-- The kernel and the reference leave the same array: both are the row function of arguments that agree. -/
theorem algebraic_Ffn : Cert.algebraic_FfnIdeal_FfnRefIdeal := by
  intro m ρ m' ρ' _ hagree
  refine ⟨fun c => Cert.FfnIdeal.Block.result m c, Cert.FfnIdeal.Block.run m ρ, ?_⟩
  refine (θ_run Cert.FfnRefIdeal.defs _ _).mono (fun _ h c => ⟨(h c).1.trans ?_, (h c).2⟩)
    (Cert.FfnRefIdeal.Value.run (F := Ideal) m' ρ')
  obtain ⟨h0, h1, h2, h3, h4, h5⟩ := hagree c
  funext i
  obtain ⟨p, s, n, rfl⟩ : ∃ (p : Fin 8) (s : Fin 4096) (n : Fin 1024), i = ix3 p s n :=
    ⟨i 0, i 1, i 2, funext fun a => by match a with | ⟨0, _⟩ => rfl | ⟨1, _⟩ => rfl | ⟨2, _⟩ => rfl⟩
  rw [Cert.FfnRefIdeal.Stages.res_apply, h0, h1, h2, h3, h4, h5]
  rfl

/-! ## The merge call -/

theorem frame_Merge : Cert.quiescent_Merge := fun m ρ _ => Cert.Merge.Gen.frame m ρ
theorem frame_MergeIdeal : Cert.quiescent_MergeIdeal := fun m ρ _ => Cert.MergeIdeal.Gen.frame m ρ
/-- The reference is a host program: its run read at the arguments; it declares no semaphore. -/
theorem frame_MergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The idealization rewrote nothing. -/
theorem preserves_Merge : Cert.preserves_Merge_MergeIdeal := trivial

/-- The kernel and the reference leave the same array: both are the row function of arguments that agree. -/
theorem algebraic_Merge : Cert.algebraic_MergeIdeal_MergeRefIdeal := by
  intro m ρ m' ρ' _ hagree
  refine ⟨fun c => Cert.MergeIdeal.Block.result m c, Cert.MergeIdeal.Block.run m ρ, ?_⟩
  refine (θ_run Cert.MergeRefIdeal.defs _ _).mono (fun _ h c => ⟨(h c).1.trans ?_, (h c).2⟩)
    (Cert.MergeRefIdeal.Value.run (F := Ideal) m' ρ')
  obtain ⟨h0, h1, h2, h3, h4, h5, h6, h7, h8, h9⟩ := hagree c
  funext i
  obtain ⟨p, s, n, rfl⟩ : ∃ (p : Fin 8) (s : Fin 4096) (n : Fin 1024), i = ix3 p s n :=
    ⟨i 0, i 1, i 2, funext fun a => by match a with | ⟨0, _⟩ => rfl | ⟨1, _⟩ => rfl | ⟨2, _⟩ => rfl⟩
  rw [Cert.MergeRefIdeal.Stages.res_apply, h0, h1, h2, h3, h4, h5, h6, h7, h8, h9]
  rfl

/-! ## The mix-in call -/

theorem frame_Mixin : Cert.quiescent_Mixin := fun m ρ _ => Cert.Mixin.Gen.frame m ρ
theorem frame_MixinIdeal : Cert.quiescent_MixinIdeal := fun m ρ _ => Cert.MixinIdeal.Gen.frame m ρ
/-- The reference is a host program: its run read at the arguments; it declares no semaphore. -/
theorem frame_MixinRefIdeal : Cert.quiescent_MixinRefIdeal := fun m ρ _ =>
  (θ_run Cert.MixinRefIdeal.defs _ _).mono
    (fun r h => ⟨fun c => (h c).2.2.2.2.2.2.2.2.2.2.2.2, sem_eq_zero_of_no_sems (by decide) r.2⟩)
    (Cert.MixinRefIdeal.Value.run (F := Ideal) m ρ)

/-- The idealization rewrote nothing. -/
theorem preserves_Mixin : Cert.preserves_Mixin_MixinIdeal := trivial

/-- The kernel and the reference leave the same twelve arrays: both are the same functions of arguments that agree. -/
theorem algebraic_Mixin : Cert.algebraic_MixinIdeal_MixinRefIdeal := by
  intro m ρ m' ρ' _ hagree
  refine ⟨fun c => Cert.MixinIdeal.Block.result11 m c, fun c => Cert.MixinIdeal.Block.result12 m c, fun c => Cert.MixinIdeal.Block.result13 m c, fun c => Cert.MixinIdeal.Block.result14 m c, fun c => Cert.MixinIdeal.Block.result15 m c, fun c => Cert.MixinIdeal.Block.result16 m c, fun c => Cert.MixinIdeal.Block.result17 m c, fun c => Cert.MixinIdeal.Block.result18 m c, fun c => Cert.MixinIdeal.Block.result19 m c, fun c => Cert.MixinIdeal.Block.result20 m c, fun c => Cert.MixinIdeal.Block.result21 m c, fun c => Cert.MixinIdeal.Block.result22 m c, Cert.MixinIdeal.Block.run m ρ, ?_⟩
  refine (θ_run Cert.MixinRefIdeal.defs _ _).mono (fun r h c => ?_) (Cert.MixinRefIdeal.Value.run (F := Ideal) m' ρ')
  obtain ⟨r0, r1, r2, r3, r4, r5, r6, r7, r8, r9, r10, r11, hk⟩ := h c
  have ha : Cert.MixinIdeal.Equation.Agree m m' c := hagree c
  exact ⟨r0.trans (Cert.MixinIdeal.Equation.qa_eq ha), r1.trans (Cert.MixinIdeal.Equation.qb_eq ha), r2.trans (Cert.MixinIdeal.Equation.qi_eq ha), r3.trans (Cert.MixinIdeal.Equation.va_eq ha), r4.trans (Cert.MixinIdeal.Equation.vs_eq ha), r5.trans (Cert.MixinIdeal.Equation.vw_eq ha), r6.trans (Cert.MixinIdeal.Equation.misc_eq ha), r7.trans (Cert.MixinIdeal.Equation.ka_eq ha), r8.trans (Cert.MixinIdeal.Equation.ki_eq ha), r9.trans (Cert.MixinIdeal.Equation.ks_eq ha), r10.trans (Cert.MixinIdeal.Equation.kw_eq ha), r11.trans (Cert.MixinIdeal.Equation.cmp_eq ha), hk⟩

/-! ## The conditioning call -/

theorem frame_Ada : Cert.quiescent_Ada := fun m ρ _ => Cert.Ada.Gen.frame m ρ
theorem frame_AdaIdeal : Cert.quiescent_AdaIdeal := fun m ρ _ => Cert.AdaIdeal.Gen.frame m ρ
/-- The reference is a host program: its run read at the arguments; it declares no semaphore. -/
theorem frame_AdaRefIdeal : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The idealization rewrote nothing. -/
theorem preserves_Ada : Cert.preserves_Ada_AdaIdeal := trivial

/-- The kernel and the reference leave the same array: both are the same function of arguments that agree. -/
theorem algebraic_Ada : Cert.algebraic_AdaIdeal_AdaRefIdeal := by
  intro m ρ m' ρ' _ hagree
  refine ⟨fun c => Cert.AdaIdeal.Block.result m c, Cert.AdaIdeal.Block.run m ρ, ?_⟩
  refine (θ_run Cert.AdaRefIdeal.defs _ _).mono (fun _ h c => ⟨(h c).1.trans ?_, (h c).2⟩)
    (Cert.AdaRefIdeal.Value.run (F := Ideal) m' ρ')
  obtain ⟨h0, h1, h2⟩ := hagree c
  funext i
  obtain ⟨p, n, rfl⟩ : ∃ (p : Fin 8) (n : Fin 9216), i = ix2 p n :=
    ⟨i 0, i 1, funext fun a => by match a with | ⟨0, _⟩ => rfl | ⟨1, _⟩ => rfl⟩
  refine (Cert.AdaRefIdeal.Stages.res_apply _ _ _ p n).trans ?_
  rw [h0, h1, h2]
  rfl

/-! ## The compression call -/

theorem frame_Compress : Cert.quiescent_Compress := fun m ρ _ => Cert.Compress.Gen.frame m ρ
theorem frame_CompressIdeal : Cert.quiescent_CompressIdeal := fun m ρ _ => Cert.CompressIdeal.Gen.frame m ρ
/-- The reference is a host program: its run read at the arguments; it declares no semaphore. -/
theorem frame_CompressRefIdeal : Cert.quiescent_CompressRefIdeal := fun m ρ _ =>
  (θ_run Cert.CompressRefIdeal.defs _ _).mono (fun r h => ⟨fun c => (h c).2.2, sem_eq_zero_of_no_sems (by decide) r.2⟩)
    (Cert.CompressRefIdeal.Value.run (F := Ideal) m ρ)

/-- The idealization rewrote nothing. -/
theorem preserves_Compress : Cert.preserves_Compress_CompressIdeal := trivial

/-- The kernel and the reference leave the same two arrays: both are the same functions of arguments that agree. -/
theorem algebraic_Compress : Cert.algebraic_CompressIdeal_CompressRefIdeal := by
  intro m ρ m' ρ' _ hagree
  refine ⟨fun c => Cert.CompressIdeal.Block.result8 m c, fun c => Cert.CompressIdeal.Block.result9 m c, Cert.CompressIdeal.Block.run m ρ, ?_⟩
  refine (θ_run Cert.CompressRefIdeal.defs _ _).mono (fun _ h c => ⟨(h c).1.trans ?_, (h c).2.1.trans ?_, (h c).2.2⟩)
    (Cert.CompressRefIdeal.Value.run (F := Ideal) m' ρ')
  · obtain ⟨h0, h1, h2, h3, h4, h5, h6⟩ := hagree c
    funext i
    obtain ⟨b, g, r, d, rfl⟩ : ∃ (b : Fin 8) (g : Fin 2) (r : Fin 256) (d : Fin 64), i = ix4 b g r d :=
      ⟨i 0, i 1, i 2, i 3, funext fun a => by match a with | ⟨0, _⟩ => rfl | ⟨1, _⟩ => rfl | ⟨2, _⟩ => rfl | ⟨3, _⟩ => rfl⟩
    refine (Cert.CompressRefIdeal.Stages.resK_apply _ _ _ _ b g r d).trans ?_
    rw [h0, h1, h2, h3]
    rfl
  · obtain ⟨h0, h1, h2, h3, h4, h5, h6⟩ := hagree c
    funext i
    obtain ⟨b, g, d, r, rfl⟩ : ∃ (b : Fin 8) (g : Fin 2) (d : Fin 64) (r : Fin 256), i = ix4 b g d r :=
      ⟨i 0, i 1, i 2, i 3, funext fun a => by match a with | ⟨0, _⟩ => rfl | ⟨1, _⟩ => rfl | ⟨2, _⟩ => rfl | ⟨3, _⟩ => rfl⟩
    refine (Cert.CompressRefIdeal.Stages.resV_apply _ _ _ _ b g r d).trans ?_
    rw [h0, h4, h5, h6]
    rfl

theorem claim : Cert.Claim :=
  ⟨Cert.Kernel.Gen.facts, Cert.Ffn.Gen.facts, Cert.FfnIdeal.Gen.facts, Cert.FfnRefIdeal.Gen.facts,
    Cert.Merge.Gen.facts, Cert.MergeIdeal.Gen.facts, Cert.MergeRefIdeal.Gen.facts,
    Cert.Mixin.Gen.facts, Cert.MixinIdeal.Gen.facts, Cert.MixinRefIdeal.Gen.facts,
    Cert.Ada.Gen.facts, Cert.AdaIdeal.Gen.facts, Cert.AdaRefIdeal.Gen.facts,
    Cert.Compress.Gen.facts, Cert.CompressIdeal.Gen.facts, Cert.CompressRefIdeal.Gen.facts,
    frame_Kernel, frame_Ffn, frame_FfnIdeal, frame_FfnRefIdeal, frame_Merge, frame_MergeIdeal, frame_MergeRefIdeal,
    frame_Mixin, frame_MixinIdeal, frame_MixinRefIdeal,
    frame_Ada, frame_AdaIdeal, frame_AdaRefIdeal, frame_Compress, frame_CompressIdeal, frame_CompressRefIdeal,
    preserves_Ffn, algebraic_Ffn, preserves_Merge, algebraic_Merge, preserves_Mixin, algebraic_Mixin,
    preserves_Ada, algebraic_Ada, preserves_Compress, algebraic_Compress⟩

end Cert.Proof

end
